-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v3_0)) (v1 : (c : Dev Cert.MemoryIdeal.nD) → Buf (Elt Ideal) ((c.tc : Thread Cert.MemoryIdeal.nD Cert.MemoryIdeal.τ).loc Cert.MemoryIdeal.main_v3_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3_0) = v0 c
          ∧ r.2.mem ((c.tc : Thread Cert.MemoryIdeal.nD Cert.MemoryIdeal.τ).loc Cert.MemoryIdeal.main_v3_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v18) = v0 c
          ∧ r.2.mem ((c.tc : Thread Cert.MemoryReferenceIdeal.nD Cert.MemoryReferenceIdeal.τ).loc Cert.MemoryReferenceIdeal.main_v19) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2))

def Claim : Prop :=
  ∃ (hKernel : Cert.Kernel.Facts) (hKernelIdeal : Cert.KernelIdeal.Facts) (hReferenceIdeal : Cert.ReferenceIdeal.Facts) (hMemory : Cert.Memory.Facts) (hMemoryIdeal : Cert.MemoryIdeal.Facts) (hMemoryReferenceIdeal : Cert.MemoryReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Memory (hMemory := hMemory)
    ∧ quiescent_MemoryIdeal (hMemoryIdeal := hMemoryIdeal)
    ∧ quiescent_MemoryReferenceIdeal (hMemoryReferenceIdeal := hMemoryReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Memory_MemoryIdeal
    ∧ algebraic_MemoryIdeal_MemoryReferenceIdeal (hMemoryIdeal := hMemoryIdeal) (hMemoryReferenceIdeal := hMemoryReferenceIdeal)
-- ==== Pre_finite.lean ====
abbrev S4x4096x2048 : Shape := ⟨3, ![4, 4096, 2048]⟩
abbrev S4x256x4x128 : Shape := ⟨4, ![4, 256, 4, 128]⟩
abbrev S1x2048 : Shape := ⟨2, ![1, 2048]⟩
abbrev S1x2048x6656 : Shape := ⟨3, ![1, 2048, 6656]⟩
abbrev S1x1024 : Shape := ⟨2, ![1, 1024]⟩
abbrev S1x512 : Shape := ⟨2, ![1, 512]⟩
abbrev S1x4x128x128 : Shape := ⟨4, ![1, 4, 128, 128]⟩
abbrev S1x4x128 : Shape := ⟨3, ![1, 4, 128]⟩
abbrev S1x2048x2048 : Shape := ⟨3, ![1, 2048, 2048]⟩
abbrev S_ : Shape := ⟨0, ![]⟩

class Facts : Prop where
  bcast_S_S4x256x4x128 : S_.BroadcastsInDim S4x256x4x128 (![] : Fin 0 → Fin S4x256x4x128.rank)
  bcast_S_S1x2048 : S_.BroadcastsInDim S1x2048 (![] : Fin 0 → Fin S1x2048.rank)
  bcast_S_S1x2048x6656 : S_.BroadcastsInDim S1x2048x6656 (![] : Fin 0 → Fin S1x2048x6656.rank)

variable [Facts]

def fn {F : FTy → Type} [FloatOps F] (main_arg0 : FVec F S4x4096x2048 .f32) (main_arg1 : FVec F S4x256x4x128 .f32) (main_arg2 : FVec F S4x256x4x128 .f32) (main_arg3 : FVec F S1x2048 .f32) (main_arg4 : FVec F S1x2048x6656 .f32) (main_arg5 : FVec F S1x1024 .f32) (main_arg6 : FVec F S1x512 .f32) (main_arg7 : FVec F S1x4x128x128 .f32) (main_arg8 : FVec F S1x4x128 .f32) (main_arg9 : FVec F S1x2048x2048 .f32) : IVec S4x256x4x128 1 × IVec S1x2048 1 × IVec S1x2048x6656 1 :=
  let main_v0 : FVec F S4x256x4x128 .f32 := Host.absf main_arg1
  let main_cst : FVec F S_ .f32 := constant S_ .f32 0x7F800000#32
  let main_v1 : FVec F S4x256x4x128 .f32 := broadcastInDim S4x256x4x128 ![] bcast_S_S4x256x4x128 main_cst
  let main_v2 : IVec S4x256x4x128 1 := cmpf .olt main_v0 main_v1
  let main_v3 : FVec F S1x2048 .f32 := Host.absf main_arg3
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x6656 .f32 := Host.absf main_arg4
  let main_cst_1 : FVec F S_ .f32 := constant S_ .f32 0x7F800000#32
  let main_v7 : FVec F S1x2048x6656 .f32 := broadcastInDim S1x2048x6656 ![] bcast_S_S1x2048x6656 main_cst_1
  let main_v8 : IVec S1x2048x6656 1 := cmpf .olt main_v6 main_v7
  (main_v2, main_v5, main_v8)
-- ==== Kernel.lean ====
abbrev S4x4096x2048 : Shape := ⟨3, ![4, 4096, 2048]⟩
abbrev S4x256x4x128 : Shape := ⟨4, ![4, 256, 4, 128]⟩
abbrev S1x2048 : Shape := ⟨2, ![1, 2048]⟩
abbrev S1x2048x6656 : Shape := ⟨3, ![1, 2048, 6656]⟩
abbrev S1x1024 : Shape := ⟨2, ![1, 1024]⟩
abbrev S1x512 : Shape := ⟨2, ![1, 512]⟩
abbrev S1x4x128x128 : Shape := ⟨4, ![1, 4, 128, 128]⟩
abbrev S1x4x128 : Shape := ⟨3, ![1, 4, 128]⟩
abbrev S1x2048x2048 : Shape := ⟨3, ![1, 2048, 2048]⟩
abbrev S1024 : Shape := ⟨1, ![1024]⟩
abbrev S512 : Shape := ⟨1, ![512]⟩
abbrev S4x128x128 : Shape := ⟨3, ![4, 128, 128]⟩
abbrev S4x128 : Shape := ⟨2, ![4, 128]⟩
abbrev S4x256x512 : Shape := ⟨3, ![4, 256, 512]⟩
abbrev S2048x6656 : Shape := ⟨2, ![2048, 6656]⟩
abbrev S2048 : Shape := ⟨1, ![2048]⟩
abbrev S2048x2048 : Shape := ⟨2, ![2048, 2048]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x1x1 : Shape := ⟨3, ![8, 1, 1]⟩
abbrev S1x256x256 : Shape := ⟨3, ![1, 256, 256]⟩
abbrev S8x256x256 : Shape := ⟨3, ![8, 256, 256]⟩
abbrev S8x1 : Shape := ⟨2, ![8, 1]⟩
abbrev S8x256 : Shape := ⟨2, ![8, 256]⟩
abbrev S8x256x1 : Shape := ⟨3, ![8, 256, 1]⟩
abbrev S8x256x128 : Shape := ⟨3, ![8, 256, 128]⟩
abbrev S8x128 : Shape := ⟨2, ![8, 128]⟩
abbrev S8x1x128 : Shape := ⟨3, ![8, 1, 128]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4x8x128x128 : Shape := ⟨4, ![4, 8, 128, 128]⟩
abbrev S1x512x2048 : Shape := ⟨3, ![1, 512, 2048]⟩
abbrev S512x128 : Shape := ⟨2, ![512, 128]⟩
abbrev S1x256x512 : Shape := ⟨3, ![1, 256, 512]⟩
abbrev S2048x128 : Shape := ⟨2, ![2048, 128]⟩
abbrev S1x8x128x128 : Shape := ⟨4, ![1, 8, 128, 128]⟩
abbrev S512x2048 : Shape := ⟨2, ![512, 2048]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x128x128 : Shape := ⟨3, ![1, 128, 128]⟩
abbrev S512x1 : Shape := ⟨2, ![512, 1]⟩
abbrev S2048x256 : Shape := ⟨2, ![2048, 256]⟩
abbrev S512x256 : Shape := ⟨2, ![512, 256]⟩
abbrev S256x128 : Shape := ⟨2, ![256, 128]⟩
abbrev S1x1x128x128 : Shape := ⟨4, ![1, 1, 128, 128]⟩
abbrev S1x1x128 : Shape := ⟨3, ![1, 1, 128]⟩
abbrev S1x256x128 : Shape := ⟨3, ![1, 256, 128]⟩
abbrev S2048x512 : Shape := ⟨2, ![2048, 512]⟩
abbrev S512x512 : Shape := ⟨2, ![512, 512]⟩
abbrev S1x512x128 : Shape := ⟨3, ![1, 512, 128]⟩

abbrev nBuf : Space → Nat
  | .hbm => 117
  | .vmem => 30
  | .smem => 0
  | _ => 0

abbrev bufTy : (tb : Table) → Fin (tcTables nBuf tb) → BufTy
  | .hbm, ⟨0, _⟩ => ⟨S4x4096x2048, .f32⟩
  | .hbm, ⟨1, _⟩ => ⟨S4x256x4x128, .f32⟩
  | .hbm, ⟨2, _⟩ => ⟨S4x256x4x128, .f32⟩
  | .hbm, ⟨3, _⟩ => ⟨S1x2048, .f32⟩
  | .hbm, ⟨4, _⟩ => ⟨S1x2048x6656, .f32⟩
  | .hbm, ⟨5, _⟩ => ⟨S1x1024, .f32⟩
  | .hbm, ⟨6, _⟩ => ⟨S1x512, .f32⟩
  | .hbm, ⟨7, _⟩ => ⟨S1x4x128x128, .f32⟩
  | .hbm, ⟨8, _⟩ => ⟨S1x4x128, .f32⟩
  | .hbm, ⟨9, _⟩ => ⟨S1x2048x2048, .f32⟩
  | .hbm, ⟨10, _⟩ => ⟨S1024, .f32⟩
  | .hbm, ⟨11, _⟩ => ⟨S512, .f32⟩
  | .hbm, ⟨12, _⟩ => ⟨S4x128x128, .f32⟩
  | .hbm, ⟨13, _⟩ => ⟨S4x128, .f32⟩
  | .hbm, ⟨14, _⟩ => ⟨S4x256x512, .f32⟩
  | .hbm, ⟨15, _⟩ => ⟨S4x256x512, .bf16⟩
  | .hbm, ⟨16, _⟩ => ⟨S4x256x512, .f32⟩
  | .hbm, ⟨17, _⟩ => ⟨S4x256x512, .bf16⟩
  | .hbm, ⟨18, _⟩ => ⟨S2048x6656, .f32⟩
  | .hbm, ⟨19, _⟩ => ⟨S2048x6656, .bf16⟩
  | .hbm, ⟨20, _⟩ => ⟨S2048, .f32⟩
  | .hbm, ⟨21, _⟩ => ⟨S2048x2048, .f32⟩
  | .hbm, ⟨22, _⟩ => ⟨S1x2048, .f32⟩
  | .hbm, ⟨23, _⟩ => ⟨S1x1024, .f32⟩
  | .hbm, ⟨24, _⟩ => ⟨S1x512, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S256, .f32⟩
  | .hbm, ⟨37, _⟩ => ⟨S256x1, .f32⟩
  | .hbm, ⟨38, _⟩ => ⟨S1x256, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S256x256, .f32⟩
  | .hbm, ⟨44, _⟩ => ⟨S256x256, .i1⟩
  | .hbm, ⟨45, _⟩ => ⟨S8x1x1, .f32⟩
  | .hbm, ⟨46, _⟩ => ⟨S_, .f32⟩
  | .hbm, ⟨47, _⟩ => ⟨S256x256, .f32⟩
  | .hbm, ⟨48, _⟩ => ⟨S256x256, .f32⟩
  | .hbm, ⟨49, _⟩ => ⟨S1x256x256, .f32⟩
  | .hbm, ⟨50, _⟩ => ⟨S8x256x256, .f32⟩
  | .hbm, ⟨51, _⟩ => ⟨S8x256x256, .f32⟩
  | .hbm, ⟨52, _⟩ => ⟨S8x256x256, .f32⟩
  | .hbm, ⟨53, _⟩ => ⟨S8x256x256, .f32⟩
  | .hbm, ⟨54, _⟩ => ⟨S_, .f32⟩
  | .hbm, ⟨55, _⟩ => ⟨S_, .f32⟩
  | .hbm, ⟨56, _⟩ => ⟨S8x256x256, .i1⟩
  | .hbm, ⟨57, _⟩ => ⟨S8x256x256, .f32⟩
  | .hbm, ⟨58, _⟩ => ⟨S8x256x256, .f32⟩
  | .hbm, ⟨59, _⟩ => ⟨S8x1, .f32⟩
  | .hbm, ⟨60, _⟩ => ⟨S1x256, .f32⟩
  | .hbm, ⟨61, _⟩ => ⟨S_, .f32⟩
  | .hbm, ⟨62, _⟩ => ⟨S1x256, .f32⟩
  | .hbm, ⟨63, _⟩ => ⟨S1x256, .f32⟩
  | .hbm, ⟨64, _⟩ => ⟨S8x256, .f32⟩
  | .hbm, ⟨65, _⟩ => ⟨S8x256, .f32⟩
  | .hbm, ⟨66, _⟩ => ⟨S8x256, .f32⟩
  | .hbm, ⟨67, _⟩ => ⟨S8x256, .f32⟩
  | .hbm, ⟨68, _⟩ => ⟨S8x1, .f32⟩
  | .hbm, ⟨69, _⟩ => ⟨S1x256, .f32⟩
  | .hbm, ⟨70, _⟩ => ⟨S_, .f32⟩
  | .hbm, ⟨71, _⟩ => ⟨S1x256, .f32⟩
  | .hbm, ⟨72, _⟩ => ⟨S1x256, .f32⟩
  | .hbm, ⟨73, _⟩ => ⟨S8x256, .f32⟩
  | .hbm, ⟨74, _⟩ => ⟨S8x256, .f32⟩
  | .hbm, ⟨75, _⟩ => ⟨S8x256, .f32⟩
  | .hbm, ⟨76, _⟩ => ⟨S8x256, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S8, .f32⟩
  | .hbm, ⟨81, _⟩ => ⟨S8x256x1, .f32⟩
  | .hbm, ⟨82, _⟩ => ⟨S8x256x128, .f32⟩
  | .hbm, ⟨83, _⟩ => ⟨S8x256x1, .f32⟩
  | .hbm, ⟨84, _⟩ => ⟨S8x256x128, .f32⟩
  | .hbm, ⟨85, _⟩ => ⟨S8x1, .f32⟩
  | .hbm, ⟨86, _⟩ => ⟨S8x128, .f32⟩
  | .hbm, ⟨87, _⟩ => ⟨S8x1x128, .f32⟩
  | .hbm, ⟨88, _⟩ => ⟨S4096, .i32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S_, .f32⟩
  | .hbm, ⟨94, _⟩ => ⟨S64, .f32⟩
  | .hbm, ⟨95, _⟩ => ⟨S64, .f32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S4096, .f32⟩
  | .hbm, ⟨104, _⟩ => ⟨S4096x1, .f32⟩
  | .hbm, ⟨105, _⟩ => ⟨S1x64, .f32⟩
  | .hbm, ⟨106, _⟩ => ⟨S4096x64, .f32⟩
  | .hbm, ⟨107, _⟩ => ⟨S4096x64, .f32⟩
  | .hbm, ⟨108, _⟩ => ⟨S4096x64, .f32⟩
  | .hbm, ⟨109, _⟩ => ⟨S4096x64, .f32⟩
  | .hbm, ⟨110, _⟩ => ⟨S4096x64, .f32⟩
  | .hbm, ⟨111, _⟩ => ⟨S4096x128, .f32⟩
  | .hbm, ⟨112, _⟩ => ⟨S4096x64, .f32⟩
  | .hbm, ⟨113, _⟩ => ⟨S4096x128, .f32⟩
  | .hbm, ⟨114, _⟩ => ⟨S4x4096x2048, .bf16⟩
  | .hbm, ⟨115, _⟩ => ⟨S4x8x128x128, .f32⟩
  | .hbm, ⟨116, _⟩ => ⟨S2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x2048, .f32⟩
  | .local _ .vmem, ⟨11, _⟩ => ⟨S2048x6656, .bf16⟩
  | .local _ .vmem, ⟨12, _⟩ => ⟨S1x1024, .f32⟩
  | .local _ .vmem, ⟨13, _⟩ => ⟨S1x512, .f32⟩
  | .local _ .vmem, ⟨14, _⟩ => ⟨S4x128x128, .f32⟩
  | .local _ .vmem, ⟨15, _⟩ => ⟨S4x128, .f32⟩
  | .local _ .vmem, ⟨16, _⟩ => ⟨S8x256x256, .f32⟩
  | .local _ .vmem, ⟨17, _⟩ => ⟨S8x256x128, .f32⟩
  | .local _ .vmem, ⟨18, _⟩ => ⟨S8x256x128, .f32⟩
  | .local _ .vmem, ⟨19, _⟩ => ⟨S8x1x128, .f32⟩
  | .local _ .vmem, ⟨20, _⟩ => ⟨S2048x128, .f32⟩
  | .local _ .vmem, ⟨21, _⟩ => ⟨S2048x128, .f32⟩
  | .local _ .vmem, ⟨22, _⟩ => ⟨S1x512x2048, .bf16⟩
  | .local _ .vmem, ⟨23, _⟩ => ⟨S1x512x2048, .bf16⟩
  | .local _ .vmem, ⟨24, _⟩ => ⟨S1x8x128x128, .f32⟩
  | .local _ .vmem, ⟨25, _⟩ => ⟨S1x8x128x128, .f32⟩
  | .local _ .vmem, ⟨26, _⟩ => ⟨S2048x128, .bf16⟩
  | .local _ .vmem, ⟨27, _⟩ => ⟨S2048x128, .bf16⟩
  | .local _ .vmem, ⟨28, _⟩ => ⟨S512x2048, .bf16⟩
  | .local _ .vmem, ⟨29, _⟩ => ⟨S4x128x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_8 : Ref sig .tc := ⟨.hbm, 90, rfl⟩
abbrev main_v68 : Ref sig .tc := ⟨.hbm, 91, rfl⟩
abbrev main_v69 : Ref sig .tc := ⟨.hbm, 92, rfl⟩
abbrev main_cst_9 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88_0 : Ref sig .tc := ⟨.hbm, 114, rfl⟩
abbrev main_v88_1 : Ref sig .tc := ⟨.hbm, 115, rfl⟩
abbrev main_v88_2 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c16_i32 : BitVec 32 := 16#32
  let v5 : BitVec 1 := Scalar.cmpi .slt v1 c16_i32
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![c0_i32.toNat, v2.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![c0_i32.toNat, v2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x6656 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S2048x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ReferenceIdeal.lean ====
abbrev S4x4096x2048 : Shape := ⟨3, ![4, 4096, 2048]⟩
abbrev S4x256x4x128 : Shape := ⟨4, ![4, 256, 4, 128]⟩
abbrev S1x2048 : Shape := ⟨2, ![1, 2048]⟩
abbrev S1x2048x6656 : Shape := ⟨3, ![1, 2048, 6656]⟩
abbrev S1x1024 : Shape := ⟨2, ![1, 1024]⟩
abbrev S1x512 : Shape := ⟨2, ![1, 512]⟩
abbrev S1x4x128x128 : Shape := ⟨4, ![1, 4, 128, 128]⟩
abbrev S1x4x128 : Shape := ⟨3, ![1, 4, 128]⟩
abbrev S1x2048x2048 : Shape := ⟨3, ![1, 2048, 2048]⟩
abbrev S2048 : Shape := ⟨1, ![2048]⟩
abbrev S2048x6656 : Shape := ⟨2, ![2048, 6656]⟩
abbrev S1024 : Shape := ⟨1, ![1024]⟩
abbrev S512 : Shape := ⟨1, ![512]⟩
abbrev S4x128x128 : Shape := ⟨3, ![4, 128, 128]⟩
abbrev S4x128 : Shape := ⟨2, ![4, 128]⟩
abbrev S4096 : Shape := ⟨1, ![4096]⟩
abbrev S_ : Shape := ⟨0, ![]⟩
abbrev S4x8x128x128 : Shape := ⟨4, ![4, 8, 128, 128]⟩
abbrev S4x4096 : Shape := ⟨2, ![4, 4096]⟩
abbrev S4x4096x1 : Shape := ⟨3, ![4, 4096, 1]⟩
abbrev S1x1x2048 : Shape := ⟨3, ![1, 1, 2048]⟩
abbrev S4x4096x6656 : Shape := ⟨3, ![4, 4096, 6656]⟩
abbrev S4x4096x1024 : Shape := ⟨3, ![4, 4096, 1024]⟩
abbrev S4x4096x512 : Shape := ⟨3, ![4, 4096, 512]⟩
abbrev S4x4096x8x128 : Shape := ⟨4, ![4, 4096, 8, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x8x64 : Shape := ⟨4, ![4, 4096, 8, 64]⟩
abbrev S8 : Shape := ⟨1, ![8]⟩
abbrev S1x4096 : Shape := ⟨2, ![1, 4096]⟩
abbrev S4096x4096 : Shape := ⟨2, ![4096, 4096]⟩
abbrev S1x4096x4096 : Shape := ⟨3, ![1, 4096, 4096]⟩
abbrev S8x1x1 : Shape := ⟨3, ![8, 1, 1]⟩
abbrev S8x4096x4096 : Shape := ⟨3, ![8, 4096, 4096]⟩
abbrev S4x8x4096x4096 : Shape := ⟨4, ![4, 8, 4096, 4096]⟩
abbrev S1x8x4096x4096 : Shape := ⟨4, ![1, 8, 4096, 4096]⟩
abbrev S4x8x128x4096 : Shape := ⟨4, ![4, 8, 128, 4096]⟩
abbrev S1x8 : Shape := ⟨2, ![1, 8]⟩
abbrev S4096x8 : Shape := ⟨2, ![4096, 8]⟩
abbrev S1x4096x8x1 : Shape := ⟨4, ![1, 4096, 8, 1]⟩
abbrev S1x8x1x1 : Shape := ⟨4, ![1, 8, 1, 1]⟩
abbrev S4x4096x8 : Shape := ⟨3, ![4, 4096, 8]⟩
abbrev S4x4096x8x1 : Shape := ⟨4, ![4, 4096, 8, 1]⟩
abbrev S1x1x1024 : Shape := ⟨3, ![1, 1, 1024]⟩
abbrev S1x1x512 : Shape := ⟨3, ![1, 1, 512]⟩
abbrev S4x32x128x4x128 : Shape := ⟨5, ![4, 32, 128, 4, 128]⟩
abbrev S128x128 : Shape := ⟨2, ![128, 128]⟩
abbrev S4x4x32x128x128 : Shape := ⟨5, ![4, 4, 32, 128, 128]⟩
abbrev S128x4 : Shape := ⟨2, ![128, 4]⟩
abbrev S1x1x128x4x1 : Shape := ⟨5, ![1, 1, 128, 4, 1]⟩
abbrev S4x4096x4x128 : Shape := ⟨4, ![4, 4096, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 329
  | .vmem => 0
  | .smem => 0
  | _ => 0

abbrev hbmTy0_0 (i : Nat) : BufTy := match i % 128 with
  | 0 => ⟨S4x4096x2048, .f32⟩
  | 1 => ⟨S4x256x4x128, .f32⟩
  | 2 => ⟨S4x256x4x128, .f32⟩
  | 3 => ⟨S1x2048, .f32⟩
  | 4 => ⟨S1x2048x6656, .f32⟩
  | 5 => ⟨S1x1024, .f32⟩
  | 6 => ⟨S1x512, .f32⟩
  | 7 => ⟨S1x4x128x128, .f32⟩
  | 8 => ⟨S1x4x128, .f32⟩
  | 9 => ⟨S1x2048x2048, .f32⟩
  | 10 => ⟨S2048, .f32⟩
  | 11 => ⟨S2048x6656, .f32⟩
  | 12 => ⟨S1024, .f32⟩
  | 13 => ⟨S512, .f32⟩
  | 14 => ⟨S4x128x128, .f32⟩
  | 15 => ⟨S4x128, .f32⟩
  | 16 => ⟨S4096, .i32⟩
  | 17 => ⟨S_, .f32⟩
  | 18 => ⟨S4x8x128x128, .f32⟩
  | 19 => ⟨S4x4096x2048, .f32⟩
  | 20 => ⟨S_, .f32⟩
  | 21 => ⟨S4x4096, .f32⟩
  | 22 => ⟨S4x4096x1, .f32⟩
  | 23 => ⟨S_, .f32⟩
  | 24 => ⟨S4x4096x1, .f32⟩
  | 25 => ⟨S4x4096x1, .f32⟩
  | 26 => ⟨S_, .f32⟩
  | 27 => ⟨S4x4096x1, .f32⟩
  | 28 => ⟨S4x4096x1, .f32⟩
  | 29 => ⟨S4x4096x1, .f32⟩
  | 30 => ⟨S4x4096x2048, .f32⟩
  | 31 => ⟨S4x4096x2048, .f32⟩
  | 32 => ⟨S1x1x2048, .f32⟩
  | 33 => ⟨S4x4096x2048, .f32⟩
  | 34 => ⟨S4x4096x2048, .f32⟩
  | 35 => ⟨S4x4096x6656, .f32⟩
  | 36 => ⟨S4x4096x1024, .f32⟩
  | 37 => ⟨S4x4096x1024, .f32⟩
  | 38 => ⟨S4x4096x1024, .f32⟩
  | 39 => ⟨S4x4096x1024, .f32⟩
  | 40 => ⟨S4x4096x512, .f32⟩
  | 41 => ⟨S4x4096x512, .f32⟩
  | 42 => ⟨S4x4096x512, .f32⟩
  | 43 => ⟨S4x4096x512, .f32⟩
  | 44 => ⟨S4x4096x512, .f32⟩
  | 45 => ⟨S4x4096x8x128, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S4096, .f32⟩
  | 61 => ⟨S4096x1, .f32⟩
  | 62 => ⟨S1x64, .f32⟩
  | 63 => ⟨S4096x64, .f32⟩
  | 64 => ⟨S4096x64, .f32⟩
  | 65 => ⟨S4096x64, .f32⟩
  | 66 => ⟨S4096x64, .f32⟩
  | 67 => ⟨S1x4096x1x64, .f32⟩
  | 68 => ⟨S4096x64, .f32⟩
  | 69 => ⟨S1x4096x1x64, .f32⟩
  | 70 => ⟨S4x4096x8x64, .f32⟩
  | 71 => ⟨S4x4096x8x64, .f32⟩
  | 72 => ⟨S4x4096x8x64, .f32⟩
  | 73 => ⟨S4x4096x8x64, .f32⟩
  | 74 => ⟨S4x4096x8x64, .f32⟩
  | 75 => ⟨S4x4096x8x64, .f32⟩
  | 76 => ⟨S4x4096x8x64, .f32⟩
  | 77 => ⟨S4x4096x8x64, .f32⟩
  | 78 => ⟨S4x4096x8x64, .f32⟩
  | 79 => ⟨S4x4096x8x64, .f32⟩
  | 80 => ⟨S4x4096x8x64, .f32⟩
  | 81 => ⟨S4x4096x8x64, .f32⟩
  | 82 => ⟨S4x4096x8x128, .f32⟩
  | 83 => ⟨S4x4096x8x128, .f32⟩
  | 84 => ⟨S64, .f32⟩
  | 85 => ⟨S_, .f32⟩
  | 86 => ⟨S64, .f32⟩
  | 87 => ⟨S64, .f32⟩
  | 88 => ⟨S_, .f32⟩
  | 89 => ⟨S64, .f32⟩
  | 90 => ⟨S64, .f32⟩
  | 91 => ⟨S64, .f32⟩
  | 92 => ⟨S_, .f32⟩
  | 93 => ⟨S64, .f32⟩
  | 94 => ⟨S64, .f32⟩
  | 95 => ⟨S_, .f32⟩
  | 96 => ⟨S64, .f32⟩
  | 97 => ⟨S64, .f32⟩
  | 98 => ⟨S4096, .f32⟩
  | 99 => ⟨S4096x1, .f32⟩
  | 100 => ⟨S1x64, .f32⟩
  | 101 => ⟨S4096x64, .f32⟩
  | 102 => ⟨S4096x64, .f32⟩
  | 103 => ⟨S4096x64, .f32⟩
  | 104 => ⟨S4096x64, .f32⟩
  | 105 => ⟨S1x4096x1x64, .f32⟩
  | 106 => ⟨S4096x64, .f32⟩
  | 107 => ⟨S1x4096x1x64, .f32⟩
  | 108 => ⟨S4x4096x8x64, .f32⟩
  | 109 => ⟨S4x4096x8x64, .f32⟩
  | 110 => ⟨S4x4096x8x64, .f32⟩
  | 111 => ⟨S4x4096x8x64, .f32⟩
  | 112 => ⟨S4x4096x8x64, .f32⟩
  | 113 => ⟨S4x4096x8x64, .f32⟩
  | 114 => ⟨S4x4096x8x64, .f32⟩
  | 115 => ⟨S4x4096x8x64, .f32⟩
  | 116 => ⟨S4x4096x8x64, .f32⟩
  | 117 => ⟨S4x4096x8x64, .f32⟩
  | 118 => ⟨S4x4096x8x64, .f32⟩
  | 119 => ⟨S4x4096x8x64, .f32⟩
  | 120 => ⟨S4x4096x8x128, .f32⟩
  | 121 => ⟨S_, .f32⟩
  | 122 => ⟨S4x4096x8x128, .f32⟩
  | 123 => ⟨S4x4096x8x128, .f32⟩
  | 124 => ⟨S4x4096x8x128, .f32⟩
  | 125 => ⟨S8, .f32⟩
  | 126 => ⟨S_, .f32⟩
  | 127 => ⟨S8, .f32⟩
  | _ => ⟨S4x4096x2048, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S_, .f32⟩
  | 5 => ⟨S8, .f32⟩
  | 6 => ⟨S8, .f32⟩
  | 7 => ⟨S8, .f32⟩
  | 8 => ⟨S4096, .f32⟩
  | 9 => ⟨S4096x1, .f32⟩
  | 10 => ⟨S1x4096, .f32⟩
  | 11 => ⟨S4096x4096, .f32⟩
  | 12 => ⟨S4096x4096, .f32⟩
  | 13 => ⟨S4096x4096, .f32⟩
  | 14 => ⟨S_, .f32⟩
  | 15 => ⟨S4096x4096, .f32⟩
  | 16 => ⟨S4096x4096, .i1⟩
  | 17 => ⟨S1x4096x4096, .i1⟩
  | 18 => ⟨S8x1x1, .f32⟩
  | 19 => ⟨S_, .f32⟩
  | 20 => ⟨S_, .f32⟩
  | 21 => ⟨S4096x4096, .f32⟩
  | 22 => ⟨S4096x4096, .f32⟩
  | 23 => ⟨S1x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S_, .f32⟩
  | 29 => ⟨S_, .f32⟩
  | 30 => ⟨S8x4096x4096, .i1⟩
  | 31 => ⟨S8x4096x4096, .f32⟩
  | 32 => ⟨S8x4096x4096, .f32⟩
  | 33 => ⟨S4x8x4096x4096, .f32⟩
  | 34 => ⟨S1x8x4096x4096, .f32⟩
  | 35 => ⟨S4x8x4096x4096, .f32⟩
  | 36 => ⟨S4x8x4096x4096, .f32⟩
  | 37 => ⟨S4x8x128x4096, .f32⟩
  | 38 => ⟨S4x4096x8x128, .f32⟩
  | 39 => ⟨S1x8, .f32⟩
  | 40 => ⟨S4096x1, .f32⟩
  | 41 => ⟨S_, .f32⟩
  | 42 => ⟨S4096x1, .f32⟩
  | 43 => ⟨S4096x1, .f32⟩
  | 44 => ⟨S4096x8, .f32⟩
  | 45 => ⟨S4096x8, .f32⟩
  | 46 => ⟨S4096x8, .f32⟩
  | 47 => ⟨S4096x8, .f32⟩
  | 48 => ⟨S4x8x128x4096, .f32⟩
  | 49 => ⟨S4x4096x8x128, .f32⟩
  | 50 => ⟨S1x4096x8x1, .f32⟩
  | 51 => ⟨S4x4096x8x128, .f32⟩
  | 52 => ⟨S4x4096x8x128, .f32⟩
  | 53 => ⟨S1x8, .f32⟩
  | 54 => ⟨S4096x1, .f32⟩
  | 55 => ⟨S_, .f32⟩
  | 56 => ⟨S4096x1, .f32⟩
  | 57 => ⟨S4096x1, .f32⟩
  | 58 => ⟨S4096x8, .f32⟩
  | 59 => ⟨S4096x8, .f32⟩
  | 60 => ⟨S4096x8, .f32⟩
  | 61 => ⟨S4096x8, .f32⟩
  | 62 => ⟨S_, .f32⟩
  | 63 => ⟨S8, .f32⟩
  | 64 => ⟨S8, .f32⟩
  | 65 => ⟨S8, .f32⟩
  | 66 => ⟨S1x8x1x1, .f32⟩
  | 67 => ⟨S4x8x128x128, .f32⟩
  | 68 => ⟨S4x8x128x128, .f32⟩
  | 69 => ⟨S1x4096x8x1, .f32⟩
  | 70 => ⟨S4x4096x8x128, .f32⟩
  | 71 => ⟨S4x4096x8x128, .f32⟩
  | 72 => ⟨S4x8x128x128, .f32⟩
  | 73 => ⟨S4x8x128x128, .f32⟩
  | 74 => ⟨S4x4096x8x128, .f32⟩
  | 75 => ⟨S_, .f32⟩
  | 76 => ⟨S4x4096x8, .f32⟩
  | 77 => ⟨S4x4096x8x1, .f32⟩
  | 78 => ⟨S_, .f32⟩
  | 79 => ⟨S4x4096x8x1, .f32⟩
  | 80 => ⟨S4x4096x8x1, .f32⟩
  | 81 => ⟨S4x4096x8x128, .f32⟩
  | 82 => ⟨S4x4096x8x128, .f32⟩
  | 83 => ⟨S4x4096x8x128, .f32⟩
  | 84 => ⟨S_, .f32⟩
  | 85 => ⟨S4x4096x8, .f32⟩
  | 86 => ⟨S4x4096x8x1, .f32⟩
  | 87 => ⟨S_, .f32⟩
  | 88 => ⟨S4x4096x8x1, .f32⟩
  | 89 => ⟨S4x4096x8x1, .f32⟩
  | 90 => ⟨S4x4096x8x128, .f32⟩
  | 91 => ⟨S4x4096x8x128, .f32⟩
  | 92 => ⟨S_, .f32⟩
  | 93 => ⟨S4x4096x8x1, .f32⟩
  | 94 => ⟨S4x4096x8x1, .f32⟩
  | 95 => ⟨S4x4096x8x1, .f32⟩
  | 96 => ⟨S4x4096x8x128, .f32⟩
  | 97 => ⟨S4x4096x8x128, .f32⟩
  | 98 => ⟨S4x4096x1024, .f32⟩
  | 99 => ⟨S1x1x1024, .f32⟩
  | 100 => ⟨S4x4096x1024, .f32⟩
  | 101 => ⟨S4x4096x1024, .f32⟩
  | 102 => ⟨S4x4096x1024, .f32⟩
  | 103 => ⟨S4x4096x1024, .f32⟩
  | 104 => ⟨S_, .f32⟩
  | 105 => ⟨S4x4096x1024, .f32⟩
  | 106 => ⟨S4x4096x1024, .f32⟩
  | 107 => ⟨S_, .f32⟩
  | 108 => ⟨S4x4096x1024, .f32⟩
  | 109 => ⟨S4x4096x1024, .f32⟩
  | 110 => ⟨S4x4096x1024, .f32⟩
  | 111 => ⟨S4x4096x1024, .f32⟩
  | 112 => ⟨S_, .f32⟩
  | 113 => ⟨S4x4096, .f32⟩
  | 114 => ⟨S4x4096x1, .f32⟩
  | 115 => ⟨S_, .f32⟩
  | 116 => ⟨S4x4096x1, .f32⟩
  | 117 => ⟨S4x4096x1, .f32⟩
  | 118 => ⟨S4x4096x512, .f32⟩
  | 119 => ⟨S4x4096x512, .f32⟩
  | 120 => ⟨S4x4096x512, .f32⟩
  | 121 => ⟨S_, .f32⟩
  | 122 => ⟨S4x4096, .f32⟩
  | 123 => ⟨S4x4096x1, .f32⟩
  | 124 => ⟨S_, .f32⟩
  | 125 => ⟨S4x4096x1, .f32⟩
  | 126 => ⟨S4x4096x1, .f32⟩
  | 127 => ⟨S4x4096x512, .f32⟩
  | _ => ⟨S4x4096x2048, .f32⟩

abbrev hbmTy0_2 (i : Nat) : BufTy := match i % 128 with
  | 0 => ⟨S4x4096x512, .f32⟩
  | 1 => ⟨S_, .f32⟩
  | 2 => ⟨S4x4096x1, .f32⟩
  | 3 => ⟨S4x4096x1, .f32⟩
  | 4 => ⟨S4x4096x1, .f32⟩
  | 5 => ⟨S4x4096x512, .f32⟩
  | 6 => ⟨S4x4096x512, .f32⟩
  | 7 => ⟨S1x1x512, .f32⟩
  | 8 => ⟨S4x4096x512, .f32⟩
  | 9 => ⟨S4x4096x512, .f32⟩
  | 10 => ⟨S4x32x128x4x128, .f32⟩
  | 11 => ⟨S128x128, .i32⟩
  | 12 => ⟨S_, .i32⟩
  | 13 => ⟨S128x128, .i32⟩
  | 14 => ⟨S128x128, .i32⟩
  | 15 => ⟨S128x128, .i32⟩
  | 16 => ⟨S128x128, .i1⟩
  | 17 => ⟨S4x128x128, .i1⟩
  | 18 => ⟨S_, .f32⟩
  | 19 => ⟨S4x128x128, .f32⟩
  | 20 => ⟨S4x128x128, .f32⟩
  | 21 => ⟨S4x4x32x128x128, .f32⟩
  | 22 => ⟨S4x32x128x4x128, .f32⟩
  | 23 => ⟨S128x4, .f32⟩
  | 24 => ⟨S1x1x128x4x1, .f32⟩
  | 25 => ⟨S4x32x128x4x128, .f32⟩
  | 26 => ⟨S4x32x128x4x128, .f32⟩
  | 27 => ⟨S4x4096x512, .f32⟩
  | 28 => ⟨S4x4096x512, .f32⟩
  | 29 => ⟨S4x4096x512, .f32⟩
  | 30 => ⟨S4x4096x512, .f32⟩
  | 31 => ⟨S_, .f32⟩
  | 32 => ⟨S4x4096x512, .f32⟩
  | 33 => ⟨S4x4096x512, .f32⟩
  | 34 => ⟨S_, .f32⟩
  | 35 => ⟨S4x4096x512, .f32⟩
  | 36 => ⟨S4x4096x512, .f32⟩
  | 37 => ⟨S4x4096x512, .f32⟩
  | 38 => ⟨S4x4096x512, .f32⟩
  | 39 => ⟨S4x4096x4x128, .f32⟩
  | 40 => ⟨S4x4x4096x256, .f32⟩
  | 41 => ⟨S_, .f32⟩
  | 42 => ⟨S4x4x4096x256, .f32⟩
  | 43 => ⟨S4x4x4096x256, .f32⟩
  | 44 => ⟨S_, .f32⟩
  | 45 => ⟨S4x4x4096, .f32⟩
  | 46 => ⟨S_, .f32⟩
  | 47 => ⟨S4x4x4096, .f32⟩
  | 48 => ⟨S4x4x4096, .f32⟩
  | 49 => ⟨S4x4x4096x1, .f32⟩
  | 50 => ⟨S4x4x4096x256, .f32⟩
  | 51 => ⟨S4x4x4096x256, .f32⟩
  | 52 => ⟨S4x4x4096x256, .f32⟩
  | 53 => ⟨S_, .f32⟩
  | 54 => ⟨S4x4x4096, .f32⟩
  | 55 => ⟨S4x4x4096x1, .f32⟩
  | 56 => ⟨S4x4x4096x256, .f32⟩
  | 57 => ⟨S4x4x4096x256, .f32⟩
  | 58 => ⟨S4x4x128x4096, .f32⟩
  | 59 => ⟨S4x4096x4x128, .f32⟩
  | 60 => ⟨S4x4096x512, .f32⟩
  | 61 => ⟨S4x4096x512, .f32⟩
  | 62 => ⟨S4x4096x512, .f32⟩
  | 63 => ⟨S_, .f32⟩
  | 64 => ⟨S4x4096x512, .f32⟩
  | 65 => ⟨S4x4096x512, .f32⟩
  | 66 => ⟨S_, .f32⟩
  | 67 => ⟨S4x4096x512, .f32⟩
  | 68 => ⟨S4x4096x512, .f32⟩
  | 69 => ⟨S4x4096x512, .f32⟩
  | 70 => ⟨S4x4096x512, .f32⟩
  | 71 => ⟨S4x4096x2048, .f32⟩
  | 72 => ⟨S4x4096x2048, .bf16⟩
  | _ => ⟨S4x4096x2048, .f32⟩

abbrev hbmTy (i : Nat) : BufTy := match i / 128 with
  | 0 => hbmTy0_0 i
  | 1 => hbmTy0_1 i
  | 2 => hbmTy0_2 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_7 : Ref sig .tc := ⟨.hbm, 85, rfl⟩
abbrev main_v67 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_9 : Ref sig .tc := ⟨.hbm, 92, rfl⟩
abbrev main_v72 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_11 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_12 : Ref sig .tc := ⟨.hbm, 126, rfl⟩
abbrev main_v103 : Ref sig .tc := ⟨.hbm, 127, rfl⟩
abbrev main_v104 : Ref sig .tc := ⟨.hbm, 128, rfl⟩
abbrev main_cst_13 : Ref sig .tc := ⟨.hbm, 129, rfl⟩
abbrev main_v105 : Ref sig .tc := ⟨.hbm, 130, rfl⟩
abbrev main_v106 : Ref sig .tc := ⟨.hbm, 131, rfl⟩
abbrev main_cst_14 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_15 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_16 : Ref sig .tc := ⟨.hbm, 147, rfl⟩
abbrev main_call0_v0 : Ref sig .tc := ⟨.hbm, 148, rfl⟩
abbrev main_call0_v1 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_17 : Ref sig .tc := ⟨.hbm, 156, rfl⟩
abbrev main_call1_v0 : Ref sig .tc := ⟨.hbm, 157, rfl⟩
abbrev main_call1_v1 : Ref sig .tc := ⟨.hbm, 158, rfl⟩
abbrev main_call1_v2 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_18 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_19 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_cst_20 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_21 : Ref sig .tc := ⟨.hbm, 203, rfl⟩
abbrev main_v166 : Ref sig .tc := ⟨.hbm, 204, rfl⟩
abbrev main_v167 : Ref sig .tc := ⟨.hbm, 205, rfl⟩
abbrev main_cst_22 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_cst_23 : Ref sig .tc := ⟨.hbm, 212, rfl⟩
abbrev main_v173 : Ref sig .tc := ⟨.hbm, 213, rfl⟩
abbrev main_v174 : Ref sig .tc := ⟨.hbm, 214, rfl⟩
abbrev main_cst_24 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_cst_25 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_call2_v0 : Ref sig .tc := ⟨.hbm, 230, rfl⟩
abbrev main_call2_v1 : Ref sig .tc := ⟨.hbm, 231, rfl⟩
abbrev main_call2_cst : Ref sig .tc := ⟨.hbm, 232, rfl⟩
abbrev main_call2_v2 : Ref sig .tc := ⟨.hbm, 233, rfl⟩
abbrev main_call2_v3 : Ref sig .tc := ⟨.hbm, 234, rfl⟩
abbrev main_call2_cst_0 : Ref sig .tc := ⟨.hbm, 235, rfl⟩
abbrev main_call2_v4 : Ref sig .tc := ⟨.hbm, 236, rfl⟩
abbrev main_call2_v5 : Ref sig .tc := ⟨.hbm, 237, rfl⟩
abbrev main_v188 : Ref sig .tc := ⟨.hbm, 238, rfl⟩
abbrev main_v189 : Ref sig .tc := ⟨.hbm, 239, rfl⟩
abbrev main_cst_26 : Ref sig .tc := ⟨.hbm, 240, rfl⟩
abbrev main_v190 : Ref sig .tc := ⟨.hbm, 241, rfl⟩
abbrev main_v191 : Ref sig .tc := ⟨.hbm, 242, rfl⟩
abbrev main_cst_27 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_cst_28 : Ref sig .tc := ⟨.hbm, 249, rfl⟩
abbrev main_v197 : Ref sig .tc := ⟨.hbm, 250, rfl⟩
abbrev main_v198 : Ref sig .tc := ⟨.hbm, 251, rfl⟩
abbrev main_cst_29 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_cst_30 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_call3_v0 : Ref sig .tc := ⟨.hbm, 267, rfl⟩
abbrev main_call3_c : Ref sig .tc := ⟨.hbm, 268, rfl⟩
abbrev main_call3_v1 : Ref sig .tc := ⟨.hbm, 269, rfl⟩
abbrev main_call3_v2 : Ref sig .tc := ⟨.hbm, 270, rfl⟩
abbrev main_call3_v3 : Ref sig .tc := ⟨.hbm, 271, rfl⟩
abbrev main_call3_v4 : Ref sig .tc := ⟨.hbm, 272, rfl⟩
abbrev main_call3_v5 : Ref sig .tc := ⟨.hbm, 273, rfl⟩
abbrev main_call3_cst : Ref sig .tc := ⟨.hbm, 274, rfl⟩
abbrev main_call3_v6 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_call4_v0 : Ref sig .tc := ⟨.hbm, 285, rfl⟩
abbrev main_call4_v1 : Ref sig .tc := ⟨.hbm, 286, rfl⟩
abbrev main_call4_cst : Ref sig .tc := ⟨.hbm, 287, rfl⟩
abbrev main_call4_v2 : Ref sig .tc := ⟨.hbm, 288, rfl⟩
abbrev main_call4_v3 : Ref sig .tc := ⟨.hbm, 289, rfl⟩
abbrev main_call4_cst_0 : Ref sig .tc := ⟨.hbm, 290, rfl⟩
abbrev main_call4_v4 : Ref sig .tc := ⟨.hbm, 291, rfl⟩
abbrev main_call4_v5 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_cst_31 : Ref sig .tc := ⟨.hbm, 297, rfl⟩
abbrev main_v225 : Ref sig .tc := ⟨.hbm, 298, rfl⟩
abbrev main_v226 : Ref sig .tc := ⟨.hbm, 299, rfl⟩
abbrev main_cst_32 : Ref sig .tc := ⟨.hbm, 300, rfl⟩
abbrev main_v227 : Ref sig .tc := ⟨.hbm, 301, rfl⟩
abbrev main_cst_33 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_cst_34 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_call5_v0 : Ref sig .tc := ⟨.hbm, 317, rfl⟩
abbrev main_call5_v1 : Ref sig .tc := ⟨.hbm, 318, rfl⟩
abbrev main_call5_cst : Ref sig .tc := ⟨.hbm, 319, rfl⟩
abbrev main_call5_v2 : Ref sig .tc := ⟨.hbm, 320, rfl⟩
abbrev main_call5_v3 : Ref sig .tc := ⟨.hbm, 321, rfl⟩
abbrev main_call5_cst_0 : Ref sig .tc := ⟨.hbm, 322, rfl⟩
abbrev main_call5_v4 : Ref sig .tc := ⟨.hbm, 323, rfl⟩
abbrev main_call5_v5 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩

abbrev nD : Nat := 1
abbrev τ : Topo := Topo.v7x

variable {F : FTy → Type} [FloatOps F]
-- ==== Memory.lean ====
abbrev S4x256x2048 : Shape := ⟨3, ![4, 256, 2048]⟩
abbrev S1x2048 : Shape := ⟨2, ![1, 2048]⟩
abbrev S1x2048x1024 : Shape := ⟨3, ![1, 2048, 1024]⟩
abbrev S2048 : Shape := ⟨1, ![2048]⟩
abbrev S2048x1024 : Shape := ⟨2, ![2048, 1024]⟩
abbrev S4x256x4x128 : Shape := ⟨4, ![4, 256, 4, 128]⟩
abbrev S4x256x512 : Shape := ⟨3, ![4, 256, 512]⟩
abbrev S2x256x2048 : Shape := ⟨3, ![2, 256, 2048]⟩
abbrev S2x256x4x128 : Shape := ⟨4, ![2, 256, 4, 128]⟩
abbrev S2x256x512 : Shape := ⟨3, ![2, 256, 512]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩
abbrev S256x512 : Shape := ⟨2, ![256, 512]⟩
abbrev S256x128 : Shape := ⟨2, ![256, 128]⟩
abbrev S1x256x1x128 : Shape := ⟨4, ![1, 256, 1, 128]⟩
abbrev S1x256x512 : Shape := ⟨3, ![1, 256, 512]⟩

abbrev nBuf : Space → Nat
  | .hbm => 10
  | .vmem => 13
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S2048, .f32⟩
  | .hbm, ⟨4, _⟩ => ⟨S2048x1024, .f32⟩
  | .hbm, ⟨5, _⟩ => ⟨S1x2048, .f32⟩
  | .hbm, ⟨6, _⟩ => ⟨S4x256x4x128, .f32⟩
  | .hbm, ⟨7, _⟩ => ⟨S4x256x4x128, .f32⟩
  | .hbm, ⟨8, _⟩ => ⟨S4x256x512, .bf16⟩
  | .hbm, ⟨9, _⟩ => ⟨S4x256x512, .bf16⟩
  | .local _ .vmem, ⟨0, _⟩ => ⟨S2x256x2048, .f32⟩
  | .local _ .vmem, ⟨1, _⟩ => ⟨S2x256x2048, .f32⟩
  | .local _ .vmem, ⟨2, _⟩ => ⟨S1x2048, .f32⟩
  | .local _ .vmem, ⟨3, _⟩ => ⟨S2048x1024, .f32⟩
  | .local _ .vmem, ⟨4, _⟩ => ⟨S2x256x4x128, .f32⟩
  | .local _ .vmem, ⟨5, _⟩ => ⟨S2x256x4x128, .f32⟩
  | .local _ .vmem, ⟨6, _⟩ => ⟨S2x256x4x128, .f32⟩
  | .local _ .vmem, ⟨7, _⟩ => ⟨S2x256x4x128, .f32⟩
  | .local _ .vmem, ⟨8, _⟩ => ⟨S2x256x512, .bf16⟩
  | .local _ .vmem, ⟨9, _⟩ => ⟨S2x256x512, .bf16⟩
  | .local _ .vmem, ⟨10, _⟩ => ⟨S2x256x512, .bf16⟩
  | .local _ .vmem, ⟨11, _⟩ => ⟨S2x256x512, .bf16⟩
  | .local _ .vmem, ⟨12, _⟩ => ⟨S2048x1024, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemoryReferenceIdeal.lean ====
abbrev S4x256x2048 : Shape := ⟨3, ![4, 256, 2048]⟩
abbrev S1x2048 : Shape := ⟨2, ![1, 2048]⟩
abbrev S1x2048x1024 : Shape := ⟨3, ![1, 2048, 1024]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x1024 : Shape := ⟨2, ![2048, 1024]⟩
abbrev S4x256x1024 : Shape := ⟨3, ![4, 256, 1024]⟩
abbrev S4x256x512 : Shape := ⟨3, ![4, 256, 512]⟩
abbrev S4x256x4x128 : Shape := ⟨4, ![4, 256, 4, 128]⟩

abbrev nBuf : Space → Nat
  | .hbm => 26
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S2048, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S2048x1024, .f32⟩
  | .hbm, ⟨21, _⟩ => ⟨S4x256x1024, .f32⟩
  | .hbm, ⟨22, _⟩ => ⟨S4x256x512, .f32⟩
  | .hbm, ⟨23, _⟩ => ⟨S4x256x512, .f32⟩
  | .hbm, ⟨24, _⟩ => ⟨S4x256x4x128, .f32⟩
  | .hbm, ⟨25, _⟩ => ⟨S4x256x4x128, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Layer.Runs.lean ====
/- What the runs of the prompt kernel's body are stated over: the arrays as the region finds them, the blocks each
   window shows at a grid point, where the windows are idle, and which of the five cases a grid point is. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Layer

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1140000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.addi (Scalar.muli (BitVec.ofNat 32 (i 0).val) 8#32) (BitVec.ofNat 32 (i 1).val)) 0#32)) 0#32) = 1#1
/-- It holds at the first point only — decided over the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points before point 16 — decided over the grid. -/
theorem hcond0_1 : ∀ t : Fin cfg0.N, cond0_1 (grid0.coords t) ↔ t.val < 16 :=
  (by decide +kernel : ∀ t : Fin grid0.N, cond0_1 (grid0.coords t) ↔ t.val < 16)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_2 : ∀ t : Fin cfg0.N, cond0_2 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_2, e0, e1]
    word_cmp
   : ∀ t : Fin grid0.N, cond0_2 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an output stored at every point, under no condition). -/
theorem liveAt0_16 : ∀ t : Fin cfg0.N, cfg0.idle 16 (grid0.coords t) = false := fun _ => rfl
/-- Window 17 is never idle (an output stored at every point, under no condition). -/
theorem liveAt0_17 : ∀ t : Fin cfg0.N, cfg0.idle 17 (grid0.coords t) = false := fun _ => rfl
/-! ## The kernel body on any staging memrefs: a subtype the run finds -/

/-- One staging buffer of output window 16, through which its contents are stated (`View.read_writes_of_cover`: the
    choice does not matter). -/
abbrev VO0_16 : View sig .tc .vmem S1x512x2048 .bf16 := (Memref.whole cc0_stg16_0 : Memref sig .tc .vmem S1x512x2048 .bf16).view
/-- One staging buffer of output window 17, through which its contents are stated (`View.read_writes_of_cover`: the
    choice does not matter). -/
abbrev VO0_17 : View sig .tc .vmem S1x8x128x128 .f32 := (Memref.whole cc0_stg17_0 : Memref sig .tc .vmem S1x8x128x128 .f32).view
/-- Each window's current staging memref at point `t`, spelled as the pipeline passes it (`bodyAt0`), and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x6656 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x256x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x256x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x256x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x1x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2048x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x512x2048 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x8x128x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2048x128 .bf16 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S512x2048 .bf16 := Memref.whole cc0_scratch0
abbrev scM0_1 : Memref sig .tc .vmem S4x128x128 .f32 := Memref.whole cc0_scratch1
/-- The scratch `arg22` the kernel carries between points, as a view: what it holds is stated through it. -/
abbrev VS0_1 : View sig .tc .vmem S4x128x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Layer

end
-- ==== Proof.Layer.RunA.lean ====
/- The body of the prompt kernel run once at a grid point of case A: what it leaves in each buffer it stores to. -/
module

public import proofs.«01_k».proof.Proof.Layer.Runs

@[expose] public section

-- membership in a rectangle of production extents (`View.cover_of_tiled`): the elaborator's structural look
-- recurses once per coordinate of the long axes
set_option maxRecDepth 16384

noncomputable section

namespace Cert.KernelIdeal.Layer

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2100000 in
/-- What the body's stores leave in each output's staging memref, as pieces (last first) IN CASE A (`scf.if` 0 taken, `scf.if` 1 taken, `scf.if` 2 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (18) at anything, handed back at some contents nothing names. -/
noncomputable def kernelRun0_A (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x2048 .f32) (harg7 : arg7.IsWhole) (arg8 : Memref sig .tc .vmem S2048x6656 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S4x128 .f32) (harg12 : arg12.IsWhole) (arg13 : Memref sig .tc .vmem S8x256x256 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x1x128 .f32) (harg16 : arg16.IsWhole) (arg17 : Memref sig .tc .vmem S2048x128 .f32) (harg17 : arg17.IsWhole) (arg18 : Memref sig .tc .vmem S1x512x2048 .bf16) (harg18 : arg18.IsWhole) (arg19 : Memref sig .tc .vmem S1x8x128x128 .f32) (harg19 : arg19.IsWhole) (arg20 : Memref sig .tc .vmem S2048x128 .bf16) (harg20 : arg20.IsWhole) (arg21 : Memref sig .tc .vmem S512x2048 .bf16) (harg21 : arg21.IsWhole) (arg22 : Memref sig .tc .vmem S4x128x128 .f32) (harg22 : arg22.IsWhole) (hc0 : cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) :
    Σ' (L16 : List (View.Piece (Elt F) S1x512x2048 .bf16)), Σ' (L17 : List (View.Piece (Elt F) S1x8x128x128 .f32)), Σ' (LS1 : List (View.Piece (Elt F) S4x128x128 .f32)), { LT0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ d, owns (c : Thread nD τ) arg20 fullShare d) ∗ (∃ f, arg21.view.loc (c : Thread nD τ) ↦[arg21.view.set]{fullShare} arg21.view.writes (Elt F) f LT0) ∗ (∃ f, arg22.view.loc (c : Thread nD τ) ↦[arg22.view.set]{fullShare} arg22.view.writes (Elt F) f LS1)) -∗ K ⟨⟩))
          ⊢ wp frame (wpE (defs₀ (F := F)) Variants.none c none) E (cc0_layer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0_layer_prompt_eq_skeleton]; unfold cc0_layer_prompt_skel
    simp only [k0_part48_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]
    · iexists _, _; isplitr; swap; · iexact H18
      ipureintro; rfl
    isplitl [HS0]; · iexists _; iexact HS0
    iexists _; iexact HS1

end Cert.KernelIdeal.Layer

end
-- ==== Proof.Layer.RunB.lean ====
/- The body of the prompt kernel run once at a grid point of case B: what it leaves in each buffer it stores to. -/
module

public import proofs.«01_k».proof.Proof.Layer.Runs

@[expose] public section

-- membership in a rectangle of production extents (`View.cover_of_tiled`): the elaborator's structural look
-- recurses once per coordinate of the long axes
set_option maxRecDepth 16384

noncomputable section

namespace Cert.KernelIdeal.Layer

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1996000 in
/-- What the body's stores leave in each output's staging memref, as pieces (last first) IN CASE B (`scf.if` 0 not taken, `scf.if` 1 taken, `scf.if` 2 not taken: points 1, 2, … 15: 14 of 32), WITH the
    proof that on whole staging memrefs — the inputs' at their contents, the outputs it reads before covering (17) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (18) at anything, handed back at some contents nothing names. -/
noncomputable def kernelRun0_B (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x2048 .f32) (harg7 : arg7.IsWhole) (arg8 : Memref sig .tc .vmem S2048x6656 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S4x128 .f32) (harg12 : arg12.IsWhole) (arg13 : Memref sig .tc .vmem S8x256x256 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x1x128 .f32) (harg16 : arg16.IsWhole) (arg17 : Memref sig .tc .vmem S2048x128 .f32) (harg17 : arg17.IsWhole) (arg18 : Memref sig .tc .vmem S1x512x2048 .bf16) (harg18 : arg18.IsWhole) (arg19 : Memref sig .tc .vmem S1x8x128x128 .f32) (harg19 : arg19.IsWhole) (arg20 : Memref sig .tc .vmem S2048x128 .bf16) (harg20 : arg20.IsWhole) (arg21 : Memref sig .tc .vmem S512x2048 .bf16) (harg21 : arg21.IsWhole) (arg22 : Memref sig .tc .vmem S4x128x128 .f32) (harg22 : arg22.IsWhole) (hc0 : ¬cond0_0 i) (hc1 : cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) :
    Σ' (L16 : List (View.Piece (Elt F) S1x512x2048 .bf16)), Σ' (L17 : List (View.Piece (Elt F) S1x8x128x128 .f32)), Σ' (LS1 : List (View.Piece (Elt F) S4x128x128 .f32)), { LT0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare xo17 ∗ (∃ d, owns (c : Thread nD τ) arg20 fullShare d) ∗ (∃ d, owns (c : Thread nD τ) arg21 fullShare d) ∗ owns (c : Thread nD τ) arg22 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ d, owns (c : Thread nD τ) arg20 fullShare d) ∗ (∃ f, arg21.view.loc (c : Thread nD τ) ↦[arg21.view.set]{fullShare} arg21.view.writes (Elt F) f LT0) ∗ owns (c : Thread nD τ) arg22 fullShare xs1) -∗ K ⟨⟩))
          ⊢ wp frame (wpE (defs₀ (F := F)) Variants.none c none) E (cc0_layer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, [], ?_, fun E K => ?run⟩
  case run =>
    simp only [cc0_layer_prompt_eq_skeleton]; unfold cc0_layer_prompt_skel
    simp only [k0_part48_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg19.eq_unread hf17; obtain rfl := harg22.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]
    · iexists _, _; isplitr; swap; · iexact H18
      ipureintro; rfl
    isplitl [HS0]; · iexists _; iexact HS0
    iexists _; isplitr; · ipureintro; exact harg22.read_unread _
    iexact HS1

end Cert.KernelIdeal.Layer

end
-- ==== Proof.Layer.RunC.lean ====
/- The body of the prompt kernel run once at a grid point of case C: what it leaves in each buffer it stores to. -/
module

public import proofs.«01_k».proof.Proof.Layer.Runs

@[expose] public section

-- membership in a rectangle of production extents (`View.cover_of_tiled`): the elaborator's structural look
-- recurses once per coordinate of the long axes
set_option maxRecDepth 16384

noncomputable section

namespace Cert.KernelIdeal.Layer

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2004000 in
/-- What the body's stores leave in each output's staging memref, as pieces (last first) IN CASE C (`scf.if` 0 not taken, `scf.if` 1 taken, `scf.if` 2 taken: points 8), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (18) at anything, handed back at some contents nothing names. -/
noncomputable def kernelRun0_C (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x2048 .f32) (harg7 : arg7.IsWhole) (arg8 : Memref sig .tc .vmem S2048x6656 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S4x128 .f32) (harg12 : arg12.IsWhole) (arg13 : Memref sig .tc .vmem S8x256x256 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x1x128 .f32) (harg16 : arg16.IsWhole) (arg17 : Memref sig .tc .vmem S2048x128 .f32) (harg17 : arg17.IsWhole) (arg18 : Memref sig .tc .vmem S1x512x2048 .bf16) (harg18 : arg18.IsWhole) (arg19 : Memref sig .tc .vmem S1x8x128x128 .f32) (harg19 : arg19.IsWhole) (arg20 : Memref sig .tc .vmem S2048x128 .bf16) (harg20 : arg20.IsWhole) (arg21 : Memref sig .tc .vmem S512x2048 .bf16) (harg21 : arg21.IsWhole) (arg22 : Memref sig .tc .vmem S4x128x128 .f32) (harg22 : arg22.IsWhole) (hc0 : ¬cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) :
    Σ' (L16 : List (View.Piece (Elt F) S1x512x2048 .bf16)), Σ' (L17 : List (View.Piece (Elt F) S1x8x128x128 .f32)), Σ' (LS1 : List (View.Piece (Elt F) S4x128x128 .f32)), { LT0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ d, owns (c : Thread nD τ) arg20 fullShare d) ∗ (∃ f, arg21.view.loc (c : Thread nD τ) ↦[arg21.view.set]{fullShare} arg21.view.writes (Elt F) f LT0) ∗ owns (c : Thread nD τ) arg22 fullShare xs1) -∗ K ⟨⟩))
          ⊢ wp frame (wpE (defs₀ (F := F)) Variants.none c none) E (cc0_layer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, [], ?_, fun E K => ?run⟩
  case run =>
    simp only [cc0_layer_prompt_eq_skeleton]; unfold cc0_layer_prompt_skel
    simp only [k0_part48_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg22.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]
    · iexists _, _; isplitr; swap; · iexact H18
      ipureintro; rfl
    isplitl [HS0]; · iexists _; iexact HS0
    iexists _; isplitr; · ipureintro; exact harg22.read_unread _
    iexact HS1

end Cert.KernelIdeal.Layer

end
-- ==== Proof.Layer.RunD.lean ====
/- The body of the prompt kernel run once at a grid point of case D: what it leaves in each buffer it stores to. -/
module

public import proofs.«01_k».proof.Proof.Layer.Runs

@[expose] public section

-- membership in a rectangle of production extents (`View.cover_of_tiled`): the elaborator's structural look
-- recurses once per coordinate of the long axes
set_option maxRecDepth 16384

noncomputable section

namespace Cert.KernelIdeal.Layer

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1992000 in
/-- What the body's stores leave in each output's staging memref, as pieces (last first) IN CASE D (`scf.if` 0 not taken, `scf.if` 1 not taken, `scf.if` 2 taken: points 16, 24), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (18) at anything, handed back at some contents nothing names. -/
noncomputable def kernelRun0_D (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x2048 .f32) (harg7 : arg7.IsWhole) (arg8 : Memref sig .tc .vmem S2048x6656 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S4x128 .f32) (harg12 : arg12.IsWhole) (arg13 : Memref sig .tc .vmem S8x256x256 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x1x128 .f32) (harg16 : arg16.IsWhole) (arg17 : Memref sig .tc .vmem S2048x128 .f32) (harg17 : arg17.IsWhole) (arg18 : Memref sig .tc .vmem S1x512x2048 .bf16) (harg18 : arg18.IsWhole) (arg19 : Memref sig .tc .vmem S1x8x128x128 .f32) (harg19 : arg19.IsWhole) (arg20 : Memref sig .tc .vmem S2048x128 .bf16) (harg20 : arg20.IsWhole) (arg21 : Memref sig .tc .vmem S512x2048 .bf16) (harg21 : arg21.IsWhole) (arg22 : Memref sig .tc .vmem S4x128x128 .f32) (harg22 : arg22.IsWhole) (hc0 : ¬cond0_0 i) (hc1 : ¬cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) :
    Σ' (L16 : List (View.Piece (Elt F) S1x512x2048 .bf16)), Σ' (L17 : List (View.Piece (Elt F) S1x8x128x128 .f32)), Σ' (LS1 : List (View.Piece (Elt F) S4x128x128 .f32)), { LT0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ d, owns (c : Thread nD τ) arg20 fullShare d) ∗ (∃ f, arg21.view.loc (c : Thread nD τ) ↦[arg21.view.set]{fullShare} arg21.view.writes (Elt F) f LT0) ∗ owns (c : Thread nD τ) arg22 fullShare xs1) -∗ K ⟨⟩))
          ⊢ wp frame (wpE (defs₀ (F := F)) Variants.none c none) E (cc0_layer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, [], ?_, fun E K => ?run⟩
  case run =>
    simp only [cc0_layer_prompt_eq_skeleton]; unfold cc0_layer_prompt_skel
    simp only [k0_part48_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg22.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]
    · iexists _, _; isplitr; swap; · iexact H18
      ipureintro; rfl
    isplitl [HS0]; · iexists _; iexact HS0
    iexists _; isplitr; · ipureintro; exact harg22.read_unread _
    iexact HS1

end Cert.KernelIdeal.Layer

end
-- ==== Proof.Layer.RunE.lean ====
/- The body of the prompt kernel run once at a grid point of case E: what it leaves in each buffer it stores to. -/
module

public import proofs.«01_k».proof.Proof.Layer.Runs

@[expose] public section

-- membership in a rectangle of production extents (`View.cover_of_tiled`): the elaborator's structural look
-- recurses once per coordinate of the long axes
set_option maxRecDepth 16384

noncomputable section

namespace Cert.KernelIdeal.Layer

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1984000 in
/-- What the body's stores leave in each output's staging memref, as pieces (last first) IN CASE E (`scf.if` 0 not taken, `scf.if` 1 not taken, `scf.if` 2 not taken: points 17, 18, … 31: 14 of 32), WITH the
    proof that on whole staging memrefs — the inputs' at their contents, the outputs it reads before covering (17) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (18) at anything, handed back at some contents nothing names. -/
noncomputable def kernelRun0_E (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x2048 .f32) (harg7 : arg7.IsWhole) (arg8 : Memref sig .tc .vmem S2048x6656 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S4x128 .f32) (harg12 : arg12.IsWhole) (arg13 : Memref sig .tc .vmem S8x256x256 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x1x128 .f32) (harg16 : arg16.IsWhole) (arg17 : Memref sig .tc .vmem S2048x128 .f32) (harg17 : arg17.IsWhole) (arg18 : Memref sig .tc .vmem S1x512x2048 .bf16) (harg18 : arg18.IsWhole) (arg19 : Memref sig .tc .vmem S1x8x128x128 .f32) (harg19 : arg19.IsWhole) (arg20 : Memref sig .tc .vmem S2048x128 .bf16) (harg20 : arg20.IsWhole) (arg21 : Memref sig .tc .vmem S512x2048 .bf16) (harg21 : arg21.IsWhole) (arg22 : Memref sig .tc .vmem S4x128x128 .f32) (harg22 : arg22.IsWhole) (hc0 : ¬cond0_0 i) (hc1 : ¬cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) :
    Σ' (L16 : List (View.Piece (Elt F) S1x512x2048 .bf16)), Σ' (L17 : List (View.Piece (Elt F) S1x8x128x128 .f32)), Σ' (LS1 : List (View.Piece (Elt F) S4x128x128 .f32)), { LT0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare xo17 ∗ (∃ d, owns (c : Thread nD τ) arg20 fullShare d) ∗ (∃ d, owns (c : Thread nD τ) arg21 fullShare d) ∗ owns (c : Thread nD τ) arg22 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ d, owns (c : Thread nD τ) arg20 fullShare d) ∗ (∃ f, arg21.view.loc (c : Thread nD τ) ↦[arg21.view.set]{fullShare} arg21.view.writes (Elt F) f LT0) ∗ owns (c : Thread nD τ) arg22 fullShare xs1) -∗ K ⟨⟩))
          ⊢ wp frame (wpE (defs₀ (F := F)) Variants.none c none) E (cc0_layer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, [], ?_, fun E K => ?run⟩
  case run =>
    simp only [cc0_layer_prompt_eq_skeleton]; unfold cc0_layer_prompt_skel
    simp only [k0_part48_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg19.eq_unread hf17; obtain rfl := harg22.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]
    · iexists _, _; isplitr; swap; · iexact H18
      ipureintro; rfl
    isplitl [HS0]; · iexists _; iexact HS0
    iexists _; isplitr; · ipureintro; exact harg22.read_unread _
    iexact HS1

end Cert.KernelIdeal.Layer

end
-- ==== Proof.Layer.Frame.lean ====
/- The run of the whole program around the prompt kernel, at any arithmetic: what each case leaves in the two outputs and
   in the carried bias scratch, the contents after every grid point by recursion, the body's obligation at every point, and
   the run itself; the bf16 copy of `w_out` is left unnamed. -/
module

public import proofs.«01_k».proof.Proof.Layer.RunA
public import proofs.«01_k».proof.Proof.Layer.RunB
public import proofs.«01_k».proof.Proof.Layer.RunC
public import proofs.«01_k».proof.Proof.Layer.RunD
public import proofs.«01_k».proof.Proof.Layer.RunE
public import Idealize.ShloMosaic.Lib.Claim

@[expose] public section

-- membership in a rectangle of production extents (`View.cover_of_tiled`): the elaborator's structural look
-- recurses once per coordinate of the long axes
set_option maxRecDepth 16384

noncomputable section

namespace Cert.KernelIdeal.Layer

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Leaves

variable (c : Dev nD) (i : grid0.Coords)
  (arg2 : Memref sig .tc .vmem S1x512x2048 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S1x256x512 .bf16) (harg5 : arg5.IsWhole)
  (arg6 : Memref sig .tc .vmem S1x256x512 .bf16) (harg6 : arg6.IsWhole)
  (arg7 : Memref sig .tc .vmem S1x2048 .f32) (harg7 : arg7.IsWhole)
  (arg8 : Memref sig .tc .vmem S2048x6656 .bf16) (harg8 : arg8.IsWhole)
  (arg9 : Memref sig .tc .vmem S1x1024 .f32) (harg9 : arg9.IsWhole)
  (arg10 : Memref sig .tc .vmem S1x512 .f32) (harg10 : arg10.IsWhole)
  (arg11 : Memref sig .tc .vmem S4x128x128 .f32) (harg11 : arg11.IsWhole)
  (arg12 : Memref sig .tc .vmem S4x128 .f32) (harg12 : arg12.IsWhole)
  (arg13 : Memref sig .tc .vmem S8x256x256 .f32) (harg13 : arg13.IsWhole)
  (arg14 : Memref sig .tc .vmem S8x256x128 .f32) (harg14 : arg14.IsWhole)
  (arg15 : Memref sig .tc .vmem S8x256x128 .f32) (harg15 : arg15.IsWhole)
  (arg16 : Memref sig .tc .vmem S8x1x128 .f32) (harg16 : arg16.IsWhole)
  (arg17 : Memref sig .tc .vmem S2048x128 .f32) (harg17 : arg17.IsWhole)
  (arg18 : Memref sig .tc .vmem S1x512x2048 .bf16) (harg18 : arg18.IsWhole)
  (arg19 : Memref sig .tc .vmem S1x8x128x128 .f32) (harg19 : arg19.IsWhole)
  (arg20 : Memref sig .tc .vmem S2048x128 .bf16) (harg20 : arg20.IsWhole)
  (arg21 : Memref sig .tc .vmem S512x2048 .bf16) (harg21 : arg21.IsWhole)
  (arg22 : Memref sig .tc .vmem S4x128x128 .f32) (harg22 : arg22.IsWhole)

/-- Case A's pieces for output 16 are of SEVERAL sizes (36 stores of `S1x128x128`, `S1x256x128`, `S1x512x128`): cut into blocks of `![1, 128, 128]` they tile its block (checked by the kernel's evaluation: Lib/Ring.lean `Piece.tiledBy`), so they cover it. -/
theorem cover0_A_16 (hc0 : cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (y : S1x512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15).1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15).1 ![1, 128, 128] (by sl_kernel_rfl) y

/-- What case A leaves in output 16's staging buffer: its pieces read back over junk. -/
def out0_A_16 (hc0 : cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) : Vec F S1x512x2048 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15).1)

/-- Case A's pieces for output 17 are of SEVERAL sizes (17 stores of `S1x1x128x128`, `S1x8x128x128`): cut into blocks of `![1, 1, 128, 128]` they tile its block (checked by the kernel's evaluation: Lib/Ring.lean `Piece.tiledBy`), so they cover it. -/
theorem cover0_A_17 (hc0 : cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (y : S1x8x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15).2.1 ![1, 1, 128, 128] (by sl_kernel_rfl) y

/-- What case A leaves in output 17's staging buffer: its pieces read back over junk. -/
def out0_A_17 (hc0 : cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) : Vec F S1x8x128x128 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15).2.1)

/-- Case A's pieces for scratch `arg22`, which the kernel carries between points, cover it: 4 pieces of `S1x128x128` tiling it (Lib/Ring.lean `Piece.tiledL`). -/
theorem scover0_A_1 (hc0 : cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (y : S4x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15).2.2.1 S1x128x128.size (by sl_kernel_rfl) y

/-- What case A leaves in scratch `arg22`: its pieces read back over junk. -/
def sout0_A_1 (hc0 : cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) : Vec F S4x128x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15).2.2.1)

/-- Case B's pieces for output 16 are of SEVERAL sizes (36 stores of `S1x128x128`, `S1x256x128`, `S1x512x128`): cut into blocks of `![1, 128, 128]` they tile its block (checked by the kernel's evaluation: Lib/Ring.lean `Piece.tiledBy`), so they cover it. -/
theorem cover0_B_16 (hc0 : ¬cond0_0 i) (hc1 : cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) (y : S1x512x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).1 ![1, 128, 128] (by sl_kernel_rfl) y

/-- What case B leaves in output 16's staging buffer: its pieces read back over junk. -/
def out0_B_16 (hc0 : ¬cond0_0 i) (hc1 : cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) : Vec F S1x512x2048 .bf16 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).1)

/-- Case B's pieces for output 17 tile its block (16 stores of `S1x1x128x128`, checked by the kernel's evaluation: Lib/Ring.lean `Piece.tiledL`, linear in the pieces, through a loop's `@[irreducible]` trip theorem too), so they cover it. -/
theorem cover0_B_17 (hc0 : ¬cond0_0 i) (hc1 : cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) (y : S1x8x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).2.1 S1x1x128x128.size (by sl_kernel_rfl) y

/-- What case B leaves in output 17's staging buffer: its pieces read back over junk. -/
def out0_B_17 (hc0 : ¬cond0_0 i) (hc1 : cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) : Vec F S1x8x128x128 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).2.1)

/-- Case C's pieces for output 16 are of SEVERAL sizes (36 stores of `S1x128x128`, `S1x256x128`, `S1x512x128`): cut into blocks of `![1, 128, 128]` they tile its block (checked by the kernel's evaluation: Lib/Ring.lean `Piece.tiledBy`), so they cover it. -/
theorem cover0_C_16 (hc0 : ¬cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) (y : S1x512x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).1, y ∈ pc.1.set :=
  View.cover_of_tiledBy (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).1 ![1, 128, 128] (by sl_kernel_rfl) y

/-- What case C leaves in output 16's staging buffer: its pieces read back over junk. -/
def out0_C_16 (hc0 : ¬cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) : Vec F S1x512x2048 .bf16 :=
  VO0_16.read (Elt F) (VO0_16.writes (Elt F) VO0_16.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).1)

/-- Case C's pieces for output 17 are of SEVERAL sizes (17 stores of `S1x1x128x128`, `S1x8x128x128`): cut into blocks of `![1, 1, 128, 128]` they tile its block (checked by the kernel's evaluation: Lib/Ring.lean `Piece.tiledBy`), so they cover it. -/
theorem cover0_C_17 (hc0 : ¬cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) (y : S1x8x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).2.1, y ∈ pc.1.set :=
  View.cover_of_tiledBy (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).2.1 ![1, 1, 128, 128] (by sl_kernel_rfl) y

/-- What case C leaves in output 17's staging buffer: its pieces read back over junk. -/
def out0_C_17 (hc0 : ¬cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) : Vec F S1x8x128x128 .f32 :=
  VO0_17.read (Elt F) (VO0_17.writes (Elt F) VO0_17.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).2.1)

/-- Case D's pieces for output 16 are of SEVERAL sizes (36 stores of `S1x128x128`, `S1x256x128`, `S1x512x128`): cut into blocks of `![1, 128, 128]` they tile its block (checked by the kernel's evaluation: Lib/Ring.lean `Piece.tiledBy`), so they cover it. -/
theorem cover0_D_16 (hc0 : ¬cond0_0 i) (hc1 : ¬cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) (y : S1x512x2048.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).1, y ∈ pc.1.set :=
  View.cover_of_tiledBy (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).1 ![1, 128, 128] (by sl_kernel_rfl) y

/-- What case D leaves in output 16's staging buffer: its pieces read back over junk. -/
def out0_D_16 (hc0 : ¬cond0_0 i) (hc1 : ¬cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) : Vec F S1x512x2048 .bf16 :=
  VO0_16.read (Elt F) (VO0_16.writes (Elt F) VO0_16.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).1)

/-- Case D's pieces for output 17 are of SEVERAL sizes (17 stores of `S1x1x128x128`, `S1x8x128x128`): cut into blocks of `![1, 1, 128, 128]` they tile its block (checked by the kernel's evaluation: Lib/Ring.lean `Piece.tiledBy`), so they cover it. -/
theorem cover0_D_17 (hc0 : ¬cond0_0 i) (hc1 : ¬cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) (y : S1x8x128x128.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).2.1, y ∈ pc.1.set :=
  View.cover_of_tiledBy (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).2.1 ![1, 1, 128, 128] (by sl_kernel_rfl) y

/-- What case D leaves in output 17's staging buffer: its pieces read back over junk. -/
def out0_D_17 (hc0 : ¬cond0_0 i) (hc1 : ¬cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) : Vec F S1x8x128x128 .f32 :=
  VO0_17.read (Elt F) (VO0_17.writes (Elt F) VO0_17.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1).2.1)

/-- Case E's pieces for output 16 are of SEVERAL sizes (36 stores of `S1x128x128`, `S1x256x128`, `S1x512x128`): cut into blocks of `![1, 128, 128]` they tile its block (checked by the kernel's evaluation: Lib/Ring.lean `Piece.tiledBy`), so they cover it. -/
theorem cover0_E_16 (hc0 : ¬cond0_0 i) (hc1 : ¬cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) (y : S1x512x2048.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).1, y ∈ pc.1.set :=
  View.cover_of_tiledBy (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).1 ![1, 128, 128] (by sl_kernel_rfl) y

/-- What case E leaves in output 16's staging buffer: its pieces read back over junk. -/
def out0_E_16 (hc0 : ¬cond0_0 i) (hc1 : ¬cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) : Vec F S1x512x2048 .bf16 :=
  VO0_16.read (Elt F) (VO0_16.writes (Elt F) VO0_16.junk (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).1)

/-- Case E's pieces for output 17 tile its block (16 stores of `S1x1x128x128`, checked by the kernel's evaluation: Lib/Ring.lean `Piece.tiledL`, linear in the pieces, through a loop's `@[irreducible]` trip theorem too), so they cover it. -/
theorem cover0_E_17 (hc0 : ¬cond0_0 i) (hc1 : ¬cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) (y : S1x8x128x128.Idx) :
    ∃ pc ∈ (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).2.1 S1x1x128x128.size (by sl_kernel_rfl) y

/-- What case E leaves in output 17's staging buffer: its pieces read back over junk. -/
def out0_E_17 (hc0 : ¬cond0_0 i) (hc1 : ¬cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) : Vec F S1x8x128x128 .f32 :=
  VO0_17.read (Elt F) (VO0_17.writes (Elt F) VO0_17.junk (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1).2.1)

end Leaves

/-- Case B stores nothing into scratch `arg22`: it holds what the point before left. -/
def sout0_B_1 (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x2048 .f32) (harg7 : arg7.IsWhole) (arg8 : Memref sig .tc .vmem S2048x6656 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S4x128 .f32) (harg12 : arg12.IsWhole) (arg13 : Memref sig .tc .vmem S8x256x256 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x1x128 .f32) (harg16 : arg16.IsWhole) (arg17 : Memref sig .tc .vmem S2048x128 .f32) (harg17 : arg17.IsWhole) (arg18 : Memref sig .tc .vmem S1x512x2048 .bf16) (harg18 : arg18.IsWhole) (arg19 : Memref sig .tc .vmem S1x8x128x128 .f32) (harg19 : arg19.IsWhole) (arg20 : Memref sig .tc .vmem S2048x128 .bf16) (harg20 : arg20.IsWhole) (arg21 : Memref sig .tc .vmem S512x2048 .bf16) (harg21 : arg21.IsWhole) (arg22 : Memref sig .tc .vmem S4x128x128 .f32) (harg22 : arg22.IsWhole) (hc0 : ¬cond0_0 i) (hc1 : cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) : Vec F S4x128x128 .f32 := xs1

/-- Case C stores nothing into scratch `arg22`: it holds what the point before left. -/
def sout0_C_1 (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x2048 .f32) (harg7 : arg7.IsWhole) (arg8 : Memref sig .tc .vmem S2048x6656 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S4x128 .f32) (harg12 : arg12.IsWhole) (arg13 : Memref sig .tc .vmem S8x256x256 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x1x128 .f32) (harg16 : arg16.IsWhole) (arg17 : Memref sig .tc .vmem S2048x128 .f32) (harg17 : arg17.IsWhole) (arg18 : Memref sig .tc .vmem S1x512x2048 .bf16) (harg18 : arg18.IsWhole) (arg19 : Memref sig .tc .vmem S1x8x128x128 .f32) (harg19 : arg19.IsWhole) (arg20 : Memref sig .tc .vmem S2048x128 .bf16) (harg20 : arg20.IsWhole) (arg21 : Memref sig .tc .vmem S512x2048 .bf16) (harg21 : arg21.IsWhole) (arg22 : Memref sig .tc .vmem S4x128x128 .f32) (harg22 : arg22.IsWhole) (hc0 : ¬cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) : Vec F S4x128x128 .f32 := xs1

/-- Case D stores nothing into scratch `arg22`: it holds what the point before left. -/
def sout0_D_1 (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x2048 .f32) (harg7 : arg7.IsWhole) (arg8 : Memref sig .tc .vmem S2048x6656 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S4x128 .f32) (harg12 : arg12.IsWhole) (arg13 : Memref sig .tc .vmem S8x256x256 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x1x128 .f32) (harg16 : arg16.IsWhole) (arg17 : Memref sig .tc .vmem S2048x128 .f32) (harg17 : arg17.IsWhole) (arg18 : Memref sig .tc .vmem S1x512x2048 .bf16) (harg18 : arg18.IsWhole) (arg19 : Memref sig .tc .vmem S1x8x128x128 .f32) (harg19 : arg19.IsWhole) (arg20 : Memref sig .tc .vmem S2048x128 .bf16) (harg20 : arg20.IsWhole) (arg21 : Memref sig .tc .vmem S512x2048 .bf16) (harg21 : arg21.IsWhole) (arg22 : Memref sig .tc .vmem S4x128x128 .f32) (harg22 : arg22.IsWhole) (hc0 : ¬cond0_0 i) (hc1 : ¬cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) : Vec F S4x128x128 .f32 := xs1

/-- Case E stores nothing into scratch `arg22`: it holds what the point before left. -/
def sout0_E_1 (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x2048 .f32) (harg7 : arg7.IsWhole) (arg8 : Memref sig .tc .vmem S2048x6656 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S4x128 .f32) (harg12 : arg12.IsWhole) (arg13 : Memref sig .tc .vmem S8x256x256 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x1x128 .f32) (harg16 : arg16.IsWhole) (arg17 : Memref sig .tc .vmem S2048x128 .f32) (harg17 : arg17.IsWhole) (arg18 : Memref sig .tc .vmem S1x512x2048 .bf16) (harg18 : arg18.IsWhole) (arg19 : Memref sig .tc .vmem S1x8x128x128 .f32) (harg19 : arg19.IsWhole) (arg20 : Memref sig .tc .vmem S2048x128 .bf16) (harg20 : arg20.IsWhole) (arg21 : Memref sig .tc .vmem S512x2048 .bf16) (harg21 : arg21.IsWhole) (arg22 : Memref sig .tc .vmem S4x128x128 .f32) (harg22 : arg22.IsWhole) (hc0 : ¬cond0_0 i) (hc1 : ¬cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) : Vec F S4x128x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x2048 .bf16 × Vec F S1x8x128x128 .f32 × Vec F S4x128x128 .f32
  | 0, hn => (out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩))
  | n + 1, hn =>
    if h0 : (n + 1) % 32 = 0 then
      if h1 : (n + 1) < 16 then
        if h2 : (n + 1) % 8 = 0 then
          (out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩))
        else
          False.elim (by have hN : n + 1 < 32 := lt_of_lt_of_eq hn (show cfg0.N = 32 from N_0); omega)
      else
        False.elim (by have hN : n + 1 < 32 := lt_of_lt_of_eq hn (show cfg0.N = 32 from N_0); omega)
    else
      if h1 : (n + 1) < 16 then
        if h2 : (n + 1) % 8 = 0 then
          (out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.2, out0_C_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.2)
        else
          (out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.1 (outsAt0 c n (Nat.lt_of_succ_lt hn)).2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.1 (outsAt0 c n (Nat.lt_of_succ_lt hn)).2.2)
      else
        if h2 : (n + 1) % 8 = 0 then
          (out0_D_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.2, out0_D_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.2)
        else
          (out0_E_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.1 (outsAt0 c n (Nat.lt_of_succ_lt hn)).2.2, out0_E_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.1 (outsAt0 c n (Nat.lt_of_succ_lt hn)).2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 32 = 0) (h1 : t.val < 16) (h2 : t.val % 8 = 0) :
    outsAt0 m c t.val t.isLt = (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  obtain ⟨n, hn⟩ := t
  cases n with
  | zero => exact rfl
  | succ n => exact (dif_pos h0).trans ((dif_pos h1).trans ((dif_pos h2).trans rfl))

/-- `outsAt0` at a point of case B: that case's contents, over what the point before left. -/
theorem outsAt0_B (c : Dev nD) (t : Fin cfg0.N) (h0 : ¬t.val % 32 = 0) (h1 : t.val < 16) (h2 : ¬t.val % 8 = 0) :
    outsAt0 m c t.val t.isLt = (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 32 = 0) (h1 : t.val < 16) (h2 : t.val % 8 = 0) :
    outsAt0 m c t.val t.isLt = (out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- `outsAt0` at a point of case D: that case's contents, over what the point before left. -/
theorem outsAt0_D (c : Dev nD) (t : Fin cfg0.N) (h0 : ¬t.val % 32 = 0) (h1 : ¬t.val < 16) (h2 : t.val % 8 = 0) :
    outsAt0 m c t.val t.isLt = (out0_D_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2, out0_D_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case E: that case's contents, over what the point before left. -/
theorem outsAt0_E (c : Dev nD) (t : Fin cfg0.N) (h0 : ¬t.val % 32 = 0) (h1 : ¬t.val < 16) (h2 : ¬t.val % 8 = 0) :
    outsAt0 m c t.val t.isLt = (out0_E_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2, out0_E_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The output windows this certificate FORGETS (18): nothing reads what the kernel leaves in them, so nothing
    of it is named (Lib/Pipeline/Dat.lean `Dat.toRForget`). -/
def forgets0 : Fin 19 → Bool := fun w => w.val == 18
theorem forgets0_16 : forgets0 (16 : Fin 19) = false := by decide
theorem forgets0_17 : forgets0 (17 : Fin 19) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, h⟩ => Pipeline.Dat.unnamed (cfg := cfg0) ⟨18, h⟩ t
    | ⟨_ + 19, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 32 = 0) (h1 : t.val < 16) (h2 : ¬t.val % 8 = 0) (d) :
    (dats m 0 c).before 17 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case E output 17's current staging buffer holds what the body left at the point before: the point is
    not the first, the buffer was not written back between (`flush0_17`), the window is live and uncut (Lib/Pipeline/Frame.lean
    `Dat.before_out_kept`). -/
theorem before0_17_E (c : Dev nD) (t : Fin cfg0.N) (h0 : ¬t.val % 32 = 0) (h1 : ¬t.val < 16) (h2 : ¬t.val % 8 = 0) (d) :
    (dats m 0 c).before 17 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (∃ d, owns (c : Thread nD τ) (ms0_18 t) fullShare d))

/-! At every grid point each of these windows is live: it leaves its staging buffer holding its contents after the body. -/

theorem leaves0_0 (c : Dev nD) (t : Fin cfg0.N) :
    (dats m 0 c).leavesExact 0 t = owns (c : Thread nD τ) (ms0_0 t) fullShare ((dats m 0 c).after 0 t) := by
  unfold Dat.leavesExact; rw [liveAt0_0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0_1 t]
theorem leaves0_2 (c : Dev nD) (t : Fin cfg0.N) :
    (dats m 0 c).leavesExact 2 t = owns (c : Thread nD τ) (ms0_2 t) fullShare ((dats m 0 c).after 2 t) := by
  unfold Dat.leavesExact; rw [liveAt0_2 t]
theorem leaves0_3 (c : Dev nD) (t : Fin cfg0.N) :
    (dats m 0 c).leavesExact 3 t = owns (c : Thread nD τ) (ms0_3 t) fullShare ((dats m 0 c).after 3 t) := by
  unfold Dat.leavesExact; rw [liveAt0_3 t]
theorem leaves0_4 (c : Dev nD) (t : Fin cfg0.N) :
    (dats m 0 c).leavesExact 4 t = owns (c : Thread nD τ) (ms0_4 t) fullShare ((dats m 0 c).after 4 t) := by
  unfold Dat.leavesExact; rw [liveAt0_4 t]
theorem leaves0_5 (c : Dev nD) (t : Fin cfg0.N) :
    (dats m 0 c).leavesExact 5 t = owns (c : Thread nD τ) (ms0_5 t) fullShare ((dats m 0 c).after 5 t) := by
  unfold Dat.leavesExact; rw [liveAt0_5 t]
theorem leaves0_6 (c : Dev nD) (t : Fin cfg0.N) :
    (dats m 0 c).leavesExact 6 t = owns (c : Thread nD τ) (ms0_6 t) fullShare ((dats m 0 c).after 6 t) := by
  unfold Dat.leavesExact; rw [liveAt0_6 t]
theorem leaves0_7 (c : Dev nD) (t : Fin cfg0.N) :
    (dats m 0 c).leavesExact 7 t = owns (c : Thread nD τ) (ms0_7 t) fullShare ((dats m 0 c).after 7 t) := by
  unfold Dat.leavesExact; rw [liveAt0_7 t]
theorem leaves0_8 (c : Dev nD) (t : Fin cfg0.N) :
    (dats m 0 c).leavesExact 8 t = owns (c : Thread nD τ) (ms0_8 t) fullShare ((dats m 0 c).after 8 t) := by
  unfold Dat.leavesExact; rw [liveAt0_8 t]
theorem leaves0_9 (c : Dev nD) (t : Fin cfg0.N) :
    (dats m 0 c).leavesExact 9 t = owns (c : Thread nD τ) (ms0_9 t) fullShare ((dats m 0 c).after 9 t) := by
  unfold Dat.leavesExact; rw [liveAt0_9 t]
theorem leaves0_10 (c : Dev nD) (t : Fin cfg0.N) :
    (dats m 0 c).leavesExact 10 t = owns (c : Thread nD τ) (ms0_10 t) fullShare ((dats m 0 c).after 10 t) := by
  unfold Dat.leavesExact; rw [liveAt0_10 t]
theorem leaves0_11 (c : Dev nD) (t : Fin cfg0.N) :
    (dats m 0 c).leavesExact 11 t = owns (c : Thread nD τ) (ms0_11 t) fullShare ((dats m 0 c).after 11 t) := by
  unfold Dat.leavesExact; rw [liveAt0_11 t]
theorem leaves0_12 (c : Dev nD) (t : Fin cfg0.N) :
    (dats m 0 c).leavesExact 12 t = owns (c : Thread nD τ) (ms0_12 t) fullShare ((dats m 0 c).after 12 t) := by
  unfold Dat.leavesExact; rw [liveAt0_12 t]
theorem leaves0_13 (c : Dev nD) (t : Fin cfg0.N) :
    (dats m 0 c).leavesExact 13 t = owns (c : Thread nD τ) (ms0_13 t) fullShare ((dats m 0 c).after 13 t) := by
  unfold Dat.leavesExact; rw [liveAt0_13 t]
theorem leaves0_14 (c : Dev nD) (t : Fin cfg0.N) :
    (dats m 0 c).leavesExact 14 t = owns (c : Thread nD τ) (ms0_14 t) fullShare ((dats m 0 c).after 14 t) := by
  unfold Dat.leavesExact; rw [liveAt0_14 t]
theorem leaves0_15 (c : Dev nD) (t : Fin cfg0.N) :
    (dats m 0 c).leavesExact 15 t = owns (c : Thread nD τ) (ms0_15 t) fullShare ((dats m 0 c).after 15 t) := by
  unfold Dat.leavesExact; rw [liveAt0_15 t]
theorem leaves0_16 (c : Dev nD) (t : Fin cfg0.N) :
    (dats m 0 c).leavesExact 16 t = owns (c : Thread nD τ) (ms0_16 t) fullShare ((dats m 0 c).after 16 t) := by
  unfold Dat.leavesExact; rw [liveAt0_16 t]
theorem leaves0_17 (c : Dev nD) (t : Fin cfg0.N) :
    (dats m 0 c).leavesExact 17 t = owns (c : Thread nD τ) (ms0_17 t) fullShare ((dats m 0 c).after 17 t) := by
  unfold Dat.leavesExact; rw [liveAt0_17 t]

set_option maxHeartbeats 40000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val < 16
    · by_cases h2 : t.val % 8 = 0
      · rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_17, after0_17]
        by_cases hz : t.val = 0
        · rw [PhiS_castSucc m c t, PhiS_zero m c _ _ hz, PhiA0_eq]
          rw [outsAt0_A m c t h0 h1 h2]
          unfold out0_A_16 out0_A_17 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
          iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexists _; iexact H16
          isplitl [H17]; · iexists _; iexact H17
          isplitl [H18]; · iexists _; iexact H18
          isplitl [HS0]; · iexact HS0
          isplitl [HS1]; · iexact HS1
          iintro ⟨H0, H1, H2, H3, H4, H5, H6, H7, H8, H9, H10, H11, H12, H13, H14, H15, ⟨%e16, H16⟩, ⟨%e17, H17⟩, H18, ⟨%fT0, HS0⟩, ⟨%es1, HS1⟩⟩
          isplitl [HS0 HS1 Hg]
          · isplitl [HS0 HS1]
            · isplitl [HS0]
              · iexists _; unfold owns; iexists _; isplitr
                swap; · iexact HS0
                ipureintro; rfl
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]
          · unfold owns; iexists _; isplitr
            swap; · iexact H16
            ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact H18
        · exfalso; have hN : t.val < 32 := lt_of_lt_of_eq t.isLt (show cfg0.N = 32 from N_0); omega
      · exfalso; omega
    · exfalso; omega
  · by_cases h1 : t.val < 16
    · by_cases h2 : t.val % 8 = 0
      · rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_17, after0_17]
        by_cases hz : t.val = 0
        · exfalso; have hN : t.val < 32 := lt_of_lt_of_eq t.isLt (show cfg0.N = 32 from N_0); omega
        · rw [PhiS_castSucc m c t, PhiS_pos m c _ _ hz]
          rw [outsAt0_C m c t h0 h1 h2]
          unfold out0_C_16 out0_C_17 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
          iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexists _; iexact H16
          isplitl [H17]; · iexists _; iexact H17
          isplitl [H18]; · iexists _; iexact H18
          isplitl [HS0]; · iexact HS0
          isplitl [HS1]; · iexact HS1
          iintro ⟨H0, H1, H2, H3, H4, H5, H6, H7, H8, H9, H10, H11, H12, H13, H14, H15, ⟨%e16, H16⟩, ⟨%e17, H17⟩, H18, ⟨%fT0, HS0⟩, HS1⟩
          isplitl [HS0 HS1 Hg]
          · isplitl [HS0 HS1]
            · isplitl [HS0]
              · iexists _; unfold owns; iexists _; isplitr
                swap; · iexact HS0
                ipureintro; rfl
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]
          · unfold owns; iexists _; isplitr
            swap; · iexact H16
            ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact H18
      · rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_17, after0_17]
        by_cases hz : t.val = 0
        · exfalso; have hN : t.val < 32 := lt_of_lt_of_eq t.isLt (show cfg0.N = 32 from N_0); omega
        · rw [PhiS_castSucc m c t, PhiS_pos m c _ _ hz]
          rw [outsAt0_B m c t h0 h1 h2]
          simp only [before0_17_B m c t h0 h1 h2]
          unfold out0_B_16 out0_B_17 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
          iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexists _; iexact H16
          isplitl [H17]; · iexact H17
          isplitl [H18]; · iexists _; iexact H18
          isplitl [HS0]; · iexact HS0
          isplitl [HS1]; · iexact HS1
          iintro ⟨H0, H1, H2, H3, H4, H5, H6, H7, H8, H9, H10, H11, H12, H13, H14, H15, ⟨%e16, H16⟩, ⟨%e17, H17⟩, H18, ⟨%fT0, HS0⟩, HS1⟩
          isplitl [HS0 HS1 Hg]
          · isplitl [HS0 HS1]
            · isplitl [HS0]
              · iexists _; unfold owns; iexists _; isplitr
                swap; · iexact HS0
                ipureintro; rfl
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]
          · unfold owns; iexists _; isplitr
            swap; · iexact H16
            ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact H18
    · by_cases h2 : t.val % 8 = 0
      · rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_17, after0_17]
        by_cases hz : t.val = 0
        · exfalso; have hN : t.val < 32 := lt_of_lt_of_eq t.isLt (show cfg0.N = 32 from N_0); omega
        · rw [PhiS_castSucc m c t, PhiS_pos m c _ _ hz]
          rw [outsAt0_D m c t h0 h1 h2]
          unfold out0_D_16 out0_D_17 sout0_D_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
          iapply ((kernelRun0_D c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexists _; iexact H16
          isplitl [H17]; · iexists _; iexact H17
          isplitl [H18]; · iexists _; iexact H18
          isplitl [HS0]; · iexact HS0
          isplitl [HS1]; · iexact HS1
          iintro ⟨H0, H1, H2, H3, H4, H5, H6, H7, H8, H9, H10, H11, H12, H13, H14, H15, ⟨%e16, H16⟩, ⟨%e17, H17⟩, H18, ⟨%fT0, HS0⟩, HS1⟩
          isplitl [HS0 HS1 Hg]
          · isplitl [HS0 HS1]
            · isplitl [HS0]
              · iexists _; unfold owns; iexists _; isplitr
                swap; · iexact HS0
                ipureintro; rfl
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]
          · unfold owns; iexists _; isplitr
            swap; · iexact H16
            ipureintro; exact View.read_writes_of_cover _ _ _ _ _ (cover0_D_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_D_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact H18
      · rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_17, after0_17]
        by_cases hz : t.val = 0
        · exfalso; have hN : t.val < 32 := lt_of_lt_of_eq t.isLt (show cfg0.N = 32 from N_0); omega
        · rw [PhiS_castSucc m c t, PhiS_pos m c _ _ hz]
          rw [outsAt0_E m c t h0 h1 h2]
          simp only [before0_17_E m c t h0 h1 h2]
          unfold out0_E_16 out0_E_17 sout0_E_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
          iapply ((kernelRun0_E c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexists _; iexact H16
          isplitl [H17]; · iexact H17
          isplitl [H18]; · iexists _; iexact H18
          isplitl [HS0]; · iexact HS0
          isplitl [HS1]; · iexact HS1
          iintro ⟨H0, H1, H2, H3, H4, H5, H6, H7, H8, H9, H10, H11, H12, H13, H14, H15, ⟨%e16, H16⟩, ⟨%e17, H17⟩, H18, ⟨%fT0, HS0⟩, HS1⟩
          isplitl [HS0 HS1 Hg]
          · isplitl [HS0 HS1]
            · isplitl [HS0]
              · iexists _; unfold owns; iexists _; isplitr
                swap; · iexact HS0
                ipureintro; rfl
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]
          · unfold owns; iexists _; isplitr
            swap; · iexact H16
            ipureintro; exact View.read_writes_of_cover _ _ _ _ _ (cover0_E_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_E_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 18) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Layer

end
-- ==== Proof.Layer.Value.lean ====
/- The two named outputs of the prompt kernel as whole arrays: which grid point writes which block back, that the blocks
   tile the arrays, and the run of the program with the arrays so named. -/
module

public import proofs.«01_k».proof.Proof.Layer.Frame
public import Idealize.ShloMosaic.Lib.Pipeline.Value

@[expose] public section

noncomputable section

namespace Cert.KernelIdeal.Layer

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 16's array: the run's contents for that window after the body (`Gen.outsAt0`: its component 0), read through the window's block. -/
theorem flushed16 (c : Dev nD) (t : Fin cfg0.N) :
    (dats m 0 c).flushed 16 t = (cfg0.win 16).cut (grid0.coords t) ((outsAt0 m c t.val t.isLt).1) := by
  show (cfg0.win 16).cut (grid0.coords t) ((dats m 0 c).after 16 t) = _
  rw [after0_16]

/-- WHAT POINT `t` WRITES BACK to output window 17's array: the run's contents for that window after the body (`Gen.outsAt0`: its component 1), read through the window's block. -/
theorem flushed17 (c : Dev nD) (t : Fin cfg0.N) :
    (dats m 0 c).flushed 17 t = (cfg0.win 17).cut (grid0.coords t) ((outsAt0 m c t.val t.isLt).2.1) := by
  show (cfg0.win 17).cut (grid0.coords t) ((dats m 0 c).after 17 t) = _
  rw [after0_17]

-- no `blocks17`: window 17's index map revisits a block index, or its points could not be enumerated here;
-- the final array is still the frame's `arrAt`, to read with Lib/Pipeline/Value.lean's lemmas by hand

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 19) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 16's array is `(dats m 0 c).arrAt 16 N`. -/
theorem post16 (r : PUnit × MemSt nD τ sig (Elt F)) (h : Pipeline.RDat.FramePost (cfgs 0) (fun c => (dats m 0 c).toRForget forgets0) (V m) r) (c : Dev nD) :
    r.2.mem ((c : Thread nD τ).loc main_v88_0) = (dats m 0 c).arrAt 16 cfg0.N :=
  finalR_out0 m r h c 16 forgets0_16

/-- After the frame run, output window 17's array is `(dats m 0 c).arrAt 17 N`. -/
theorem post17 (r : PUnit × MemSt nD τ sig (Elt F)) (h : Pipeline.RDat.FramePost (cfgs 0) (fun c => (dats m 0 c).toRForget forgets0) (V m) r) (c : Dev nD) :
    r.2.mem ((c : Thread nD τ).loc main_v88_1) = (dats m 0 c).arrAt 17 cfg0.N :=
  finalR_out0 m r h c 17 forgets0_17

/-- After the frame run, argument `main_arg0` is as launched: input window 0 stages it and never writes it back. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- After the frame run, argument `main_arg1` is as launched: no window stages it, and the run leaves the region's other buffers as they were. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.RDat.FramePost (cfgs 0) (fun c => (dats m 0 c).toRForget forgets0) (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.RDat.FramePost (cfgs 0) (fun c => (dats m 0 c).toRForget forgets0) (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.RDat.FramePost (cfgs 0) (fun c => (dats m 0 c).toRForget forgets0) (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v88_0) = (dats m 0 c).arrAt 16 cfg0.N
      ∧ r.2.mem ((c : Thread nD τ).loc main_v88_1) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post16 m r h c,
      post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

/-- Two points of equal number have the same contents (the bound's proof does not enter). -/
theorem outsAt0_congr (c : Dev nD) {n n' : ℕ} (h : n < cfg0.N) (h' : n' < cfg0.N) (e : n = n') :
    outsAt0 m c n h = outsAt0 m c n' h' := by
  subst e; rfl

/-! ## Output window 16 -/

/-- The block of the array that holds index `i`, numbered in the order the points write the blocks back (one per point),
    `i`'s place in it, and the point that writes it back. -/
abbrev run16Of (i : S4x4096x2048.Idx) : ℕ := 8 * ((i 0).val / 1 - 0) + 1 * ((i 1).val / 512 - 0) + 1 * ((i 2).val / 2048 - 0)
set_option backward.proofsInPublic true in
abbrev loc16Of (i : S4x4096x2048.Idx) : S1x512x2048.Idx := fun a => match a with
  | ⟨0, _⟩ => ⟨(i 0).val % 1, Nat.mod_lt _ (by decide)⟩
  | ⟨1, _⟩ => ⟨(i 1).val % 512, Nat.mod_lt _ (by decide)⟩
  | ⟨2, _⟩ => ⟨(i 2).val % 2048, Nat.mod_lt _ (by decide)⟩
abbrev pt16Of (i : S4x4096x2048.Idx) : ℕ := run16Of i

/-- The array's contents after the run at index `i`: what the point that writes `i`'s block back left in the window, at
    `i`'s place in the block. -/
def G16 (c : Dev nD) : Buf (Elt F) ((c : Thread nD τ).loc main_v88_0) := fun i =>
  if h : pt16Of i < cfg0.N then
    (outsAt0 m c (pt16Of i) h).1 (loc16Of i)
  else V m c (Pipeline.arrRef spec0 16) i

/-- The printed index map, decided over the grid: output window 16's block indices stay in the box, and the block number
    read off them is the point's (`t`). -/
theorem idx_facts16 : ∀ t : Fin cfg0.N, 0 ≤ win0_16.index t (0 : Fin 3) ∧ win0_16.index t (0 : Fin 3) ≤ 3
    ∧ 0 ≤ win0_16.index t (1 : Fin 3) ∧ win0_16.index t (1 : Fin 3) ≤ 7
    ∧ 0 ≤ win0_16.index t (2 : Fin 3) ∧ win0_16.index t (2 : Fin 3) ≤ 0
    ∧ 8 * (win0_16.index t (0 : Fin 3) - 0) + 1 * (win0_16.index t (1 : Fin 3) - 0) + 1 * (win0_16.index t (2 : Fin 3) - 0) = t.val :=
  (by decide +kernel : ∀ t : Fin grid0.N, _)

/-- Every block of the box is SOME flushing point's: `onto16Pt`, the point that writes back the block at place `q` of the box. -/
abbrev onto16Pt (q0 : Fin 4) (q1 : Fin 8) (q2 : Fin 1) : Fin grid0.N :=
  ⟨8 * q0.val + 1 * q1.val + 1 * q2.val, lt_of_lt_of_eq (by omega) N_0.symm⟩
theorem idx_onto16 : ∀ (q0 : Fin 4) (q1 : Fin 8) (q2 : Fin 1), ∃ t : Fin cfg0.N, (cfg0.win 16).flush t = true ∧ win0_16.index t = ![q0.val + 0, q1.val + 0, q2.val + 0] :=
  fun q0 q1 q2 => ⟨onto16Pt q0 q1 q2, (by decide +kernel : ∀ (q0 : Fin 4) (q1 : Fin 8) (q2 : Fin 1), win0_16.flush (onto16Pt q0 q1 q2) = true ∧ win0_16.index (onto16Pt q0 q1 q2) = ![q0.val + 0, q1.val + 0, q2.val + 0]) q0 q1 q2⟩

/-- WHAT A FLUSHING POINT `t` WRITES BACK is block `t` of `G16`. -/
theorem flushed16_eq (c : Dev nD) (t : Fin cfg0.N) (hf : (cfg0.win 16).flush t = true) :
    (dats m 0 c).flushed 16 t = ((cfg0.win 16).blk t).view.read (Elt F) (G16 m c) := by
  show (cfg0.win 16).cut (grid0.coords t) ((dats m 0 c).after 16 t) = _
  rw [after0_16]
  obtain ⟨e0, e1, e2, e3⟩ := idx_facts16 t
  funext y
  have hy0 : (y 0).val < 1 := (y 0).isLt
  have hy1 : (y 1).val < 512 := (y 1).isLt
  have hy2 : (y 2).val < 2048 := (y 2).isLt
  have hb0 : (((cfg0.win 16).blk t).view.emb y 0).val = win0_16.index t (0 : Fin 3) * 1 + 1 * (y 0).val := rfl
  have hb1 : (((cfg0.win 16).blk t).view.emb y 1).val = win0_16.index t (1 : Fin 3) * 512 + 1 * (y 1).val := rfl
  have hb2 : (((cfg0.win 16).blk t).view.emb y 2).val = win0_16.index t (2 : Fin 3) * 2048 + 1 * (y 2).val := rfl
  have hr : run16Of (((cfg0.win 16).blk t).view.emb y) = t.val := by
    show 8 * ((((cfg0.win 16).blk t).view.emb y 0).val / 1 - 0) + 1 * ((((cfg0.win 16).blk t).view.emb y 1).val / 512 - 0) + 1 * ((((cfg0.win 16).blk t).view.emb y 2).val / 2048 - 0) = _
    rw [hb0, hb1, hb2]
    rw [show (win0_16.index t (0 : Fin 3) * 1 + 1 * (y 0).val) / 1 = win0_16.index t (0 : Fin 3) from by omega]; rw [show (win0_16.index t (1 : Fin 3) * 512 + 1 * (y 1).val) / 512 = win0_16.index t (1 : Fin 3) from by omega]; rw [show (win0_16.index t (2 : Fin 3) * 2048 + 1 * (y 2).val) / 2048 = win0_16.index t (2 : Fin 3) from by omega]
    omega
  have hl : loc16Of (((cfg0.win 16).blk t).view.emb y) = (cfg0.win 16).xinj (grid0.coords t) y := by
    funext a; apply Fin.ext
    match a with
    | ⟨0, _⟩ => show (((cfg0.win 16).blk t).view.emb y 0).val % 1 = (y 0).val; rw [hb0]; omega
    | ⟨1, _⟩ => show (((cfg0.win 16).blk t).view.emb y 1).val % 512 = (y 1).val; rw [hb1]; omega
    | ⟨2, _⟩ => show (((cfg0.win 16).blk t).view.emb y 2).val % 2048 = (y 2).val; rw [hb2]; omega
  have hp : pt16Of (((cfg0.win 16).blk t).view.emb y) = t.val := by
    exact hr
  show (outsAt0 m c t.val t.isLt).1 ((cfg0.win 16).xinj (grid0.coords t) y) = G16 m c (((cfg0.win 16).blk t).view.emb y)
  unfold G16
  rw [dif_pos (by rw [hp]; exact t.isLt), hl, outsAt0_congr m c _ t.isLt hp]

/-- An index of the array is in point `t`'s block iff each coordinate is in the block's range on its axis. -/
theorem mem_blk16 (t : Fin cfg0.N) (i : S4x4096x2048.Idx) :
    i ∈ ((cfg0.win 16).blk t).view.set ↔ ∀ a : Fin 3, win0_16.index t a * S1x512x2048.size a ≤ (i a).val ∧ (i a).val < win0_16.index t a * S1x512x2048.size a + S1x512x2048.size a := by
  show i ∈ ((View.whole main_v88_0).slice (win0_16.rect t)).set ↔ _
  rw [View.set_slice_whole, Rect.mem_set_unit]
  exact Iff.rfl

/-- THE COVERED INDICES: in some flushing point's block iff inside the box those blocks fill. -/
theorem covered_iff16 (i : S4x4096x2048.Idx) :
    (∃ t : Fin cfg0.N, (cfg0.win 16).flush t = true ∧ i ∈ ((cfg0.win 16).blk t).view.set) ↔ 0 ≤ (i 0).val ∧ (i 0).val < 4 ∧ 0 ≤ (i 1).val ∧ (i 1).val < 4096 ∧ 0 ≤ (i 2).val ∧ (i 2).val < 2048 := by
  constructor
  · rintro ⟨t, -, hi⟩
    rw [mem_blk16] at hi
    have b0 : win0_16.index t (0 : Fin 3) * 1 ≤ (i 0).val ∧ (i 0).val < win0_16.index t (0 : Fin 3) * 1 + 1 := hi 0
    have b1 : win0_16.index t (1 : Fin 3) * 512 ≤ (i 1).val ∧ (i 1).val < win0_16.index t (1 : Fin 3) * 512 + 512 := hi 1
    have b2 : win0_16.index t (2 : Fin 3) * 2048 ≤ (i 2).val ∧ (i 2).val < win0_16.index t (2 : Fin 3) * 2048 + 2048 := hi 2
    obtain ⟨e0, e1, e2, e3⟩ := idx_facts16 t
    omega
  · intro h
    have hi0 : (i 0).val < 4 := (i 0).isLt
    have hi1 : (i 1).val < 4096 := (i 1).isLt
    have hi2 : (i 2).val < 2048 := (i 2).isLt
    obtain ⟨t, hft, ht⟩ := idx_onto16 ⟨(i 0).val / 1 - 0, by omega⟩ ⟨(i 1).val / 512 - 0, by omega⟩ ⟨(i 2).val / 2048 - 0, by omega⟩
    have q0 : win0_16.index t (0 : Fin 3) = (i 0).val / 1 - 0 + 0 := congrFun ht 0
    have q1 : win0_16.index t (1 : Fin 3) = (i 1).val / 512 - 0 + 0 := congrFun ht 1
    have q2 : win0_16.index t (2 : Fin 3) = (i 2).val / 2048 - 0 + 0 := congrFun ht 2
    refine ⟨t, hft, ?_⟩
    rw [mem_blk16]
    intro a
    match a with
    | ⟨0, _⟩ => show win0_16.index t (0 : Fin 3) * 1 ≤ (i 0).val ∧ (i 0).val < win0_16.index t (0 : Fin 3) * 1 + 1; omega
    | ⟨1, _⟩ => show win0_16.index t (1 : Fin 3) * 512 ≤ (i 1).val ∧ (i 1).val < win0_16.index t (1 : Fin 3) * 512 + 512; omega
    | ⟨2, _⟩ => show win0_16.index t (2 : Fin 3) * 2048 ≤ (i 2).val ∧ (i 2).val < win0_16.index t (2 : Fin 3) * 2048 + 2048; omega

/-- THE ARRAY after the run: `G16` (the flushing blocks tile it). -/
theorem final16 (c : Dev nD) : (dats m 0 c).arrAt 16 cfg0.N = G16 m c :=
  (dats m 0 c).arrAt_eq_of_cover 16 _ (fun t hf => flushed16_eq m c t hf) (fun i => (covered_iff16 i).2 (by
    have h0 : (i 0).val < 4 := (i 0).isLt; have h1 : (i 1).val < 4096 := (i 1).isLt; have h2 : (i 2).val < 2048 := (i 2).isLt; omega))

/-! ## Output window 17 -/

/-- The block of the array that holds index `i`, numbered in the order the points write the blocks back (one every 8 points),
    `i`'s place in it, and the point that writes it back (the last of its 8). -/
abbrev run17Of (i : S4x8x128x128.Idx) : ℕ := 1 * ((i 0).val / 1 - 0) + 1 * ((i 1).val / 8 - 0) + 1 * ((i 2).val / 128 - 0) + 1 * ((i 3).val / 128 - 0)
set_option backward.proofsInPublic true in
abbrev loc17Of (i : S4x8x128x128.Idx) : S1x8x128x128.Idx := fun a => match a with
  | ⟨0, _⟩ => ⟨(i 0).val % 1, Nat.mod_lt _ (by decide)⟩
  | ⟨1, _⟩ => ⟨(i 1).val % 8, Nat.mod_lt _ (by decide)⟩
  | ⟨2, _⟩ => ⟨(i 2).val % 128, Nat.mod_lt _ (by decide)⟩
  | ⟨3, _⟩ => ⟨(i 3).val % 128, Nat.mod_lt _ (by decide)⟩
abbrev pt17Of (i : S4x8x128x128.Idx) : ℕ := 8 * run17Of i + 7

/-- The array's contents after the run at index `i`: what the point that writes `i`'s block back left in the window, at
    `i`'s place in the block. -/
def G17 (c : Dev nD) : Buf (Elt F) ((c : Thread nD τ).loc main_v88_1) := fun i =>
  if h : pt17Of i < cfg0.N then
    (outsAt0 m c (pt17Of i) h).2.1 (loc17Of i)
  else V m c (Pipeline.arrRef spec0 17) i

/-- The printed index map, decided over the grid: output window 17's block indices stay in the box, and the block number
    read off them is the point's (`t / 8`). -/
theorem idx_facts17 : ∀ t : Fin cfg0.N, 0 ≤ win0_17.index t (0 : Fin 4) ∧ win0_17.index t (0 : Fin 4) ≤ 3
    ∧ 0 ≤ win0_17.index t (1 : Fin 4) ∧ win0_17.index t (1 : Fin 4) ≤ 0
    ∧ 0 ≤ win0_17.index t (2 : Fin 4) ∧ win0_17.index t (2 : Fin 4) ≤ 0
    ∧ 0 ≤ win0_17.index t (3 : Fin 4) ∧ win0_17.index t (3 : Fin 4) ≤ 0
    ∧ 1 * (win0_17.index t (0 : Fin 4) - 0) + 1 * (win0_17.index t (1 : Fin 4) - 0) + 1 * (win0_17.index t (2 : Fin 4) - 0) + 1 * (win0_17.index t (3 : Fin 4) - 0) = t.val / 8 :=
  (by decide +kernel : ∀ t : Fin grid0.N, _)

/-- Every block of the box is SOME flushing point's: `onto17Pt`, the point that writes back the block at place `q` of the box (the last point of its run). -/
abbrev onto17Pt (q0 : Fin 4) (q1 : Fin 1) (q2 : Fin 1) (q3 : Fin 1) : Fin grid0.N :=
  ⟨8 * (1 * q0.val + 1 * q1.val + 1 * q2.val + 1 * q3.val) + 7, lt_of_lt_of_eq (by omega) N_0.symm⟩
theorem idx_onto17 : ∀ (q0 : Fin 4) (q1 : Fin 1) (q2 : Fin 1) (q3 : Fin 1), ∃ t : Fin cfg0.N, (cfg0.win 17).flush t = true ∧ win0_17.index t = ![q0.val + 0, q1.val + 0, q2.val + 0, q3.val + 0] :=
  fun q0 q1 q2 q3 => ⟨onto17Pt q0 q1 q2 q3, (by decide +kernel : ∀ (q0 : Fin 4) (q1 : Fin 1) (q2 : Fin 1) (q3 : Fin 1), win0_17.flush (onto17Pt q0 q1 q2 q3) = true ∧ win0_17.index (onto17Pt q0 q1 q2 q3) = ![q0.val + 0, q1.val + 0, q2.val + 0, q3.val + 0]) q0 q1 q2 q3⟩

/-- WHAT A FLUSHING POINT `t` WRITES BACK is block `t` of `G17`. -/
theorem flushed17_eq (c : Dev nD) (t : Fin cfg0.N) (hf : (cfg0.win 17).flush t = true) :
    (dats m 0 c).flushed 17 t = ((cfg0.win 17).blk t).view.read (Elt F) (G17 m c) := by
  show (cfg0.win 17).cut (grid0.coords t) ((dats m 0 c).after 17 t) = _
  rw [after0_17]
  have hm : t.val % 8 = 7 := (flush0_17 t).mp hf
  obtain ⟨e0, e1, e2, e3, e4⟩ := idx_facts17 t
  funext y
  have hy0 : (y 0).val < 1 := (y 0).isLt
  have hy1 : (y 1).val < 8 := (y 1).isLt
  have hy2 : (y 2).val < 128 := (y 2).isLt
  have hy3 : (y 3).val < 128 := (y 3).isLt
  have hb0 : (((cfg0.win 17).blk t).view.emb y 0).val = win0_17.index t (0 : Fin 4) * 1 + 1 * (y 0).val := rfl
  have hb1 : (((cfg0.win 17).blk t).view.emb y 1).val = win0_17.index t (1 : Fin 4) * 8 + 1 * (y 1).val := rfl
  have hb2 : (((cfg0.win 17).blk t).view.emb y 2).val = win0_17.index t (2 : Fin 4) * 128 + 1 * (y 2).val := rfl
  have hb3 : (((cfg0.win 17).blk t).view.emb y 3).val = win0_17.index t (3 : Fin 4) * 128 + 1 * (y 3).val := rfl
  have hr : run17Of (((cfg0.win 17).blk t).view.emb y) = t.val / 8 := by
    show 1 * ((((cfg0.win 17).blk t).view.emb y 0).val / 1 - 0) + 1 * ((((cfg0.win 17).blk t).view.emb y 1).val / 8 - 0) + 1 * ((((cfg0.win 17).blk t).view.emb y 2).val / 128 - 0) + 1 * ((((cfg0.win 17).blk t).view.emb y 3).val / 128 - 0) = _
    rw [hb0, hb1, hb2, hb3]
    rw [show (win0_17.index t (0 : Fin 4) * 1 + 1 * (y 0).val) / 1 = win0_17.index t (0 : Fin 4) from by omega]; rw [show (win0_17.index t (1 : Fin 4) * 8 + 1 * (y 1).val) / 8 = win0_17.index t (1 : Fin 4) from by omega]; rw [show (win0_17.index t (2 : Fin 4) * 128 + 1 * (y 2).val) / 128 = win0_17.index t (2 : Fin 4) from by omega]; rw [show (win0_17.index t (3 : Fin 4) * 128 + 1 * (y 3).val) / 128 = win0_17.index t (3 : Fin 4) from by omega]
    omega
  have hl : loc17Of (((cfg0.win 17).blk t).view.emb y) = (cfg0.win 17).xinj (grid0.coords t) y := by
    funext a; apply Fin.ext
    match a with
    | ⟨0, _⟩ => show (((cfg0.win 17).blk t).view.emb y 0).val % 1 = (y 0).val; rw [hb0]; omega
    | ⟨1, _⟩ => show (((cfg0.win 17).blk t).view.emb y 1).val % 8 = (y 1).val; rw [hb1]; omega
    | ⟨2, _⟩ => show (((cfg0.win 17).blk t).view.emb y 2).val % 128 = (y 2).val; rw [hb2]; omega
    | ⟨3, _⟩ => show (((cfg0.win 17).blk t).view.emb y 3).val % 128 = (y 3).val; rw [hb3]; omega
  have hp : pt17Of (((cfg0.win 17).blk t).view.emb y) = t.val := by
    show 8 * run17Of (((cfg0.win 17).blk t).view.emb y) + 7 = _
    rw [hr]; have := Nat.div_add_mod t.val 8; omega
  show (outsAt0 m c t.val t.isLt).2.1 ((cfg0.win 17).xinj (grid0.coords t) y) = G17 m c (((cfg0.win 17).blk t).view.emb y)
  unfold G17
  rw [dif_pos (by rw [hp]; exact t.isLt), hl, outsAt0_congr m c _ t.isLt hp]

/-- An index of the array is in point `t`'s block iff each coordinate is in the block's range on its axis. -/
theorem mem_blk17 (t : Fin cfg0.N) (i : S4x8x128x128.Idx) :
    i ∈ ((cfg0.win 17).blk t).view.set ↔ ∀ a : Fin 4, win0_17.index t a * S1x8x128x128.size a ≤ (i a).val ∧ (i a).val < win0_17.index t a * S1x8x128x128.size a + S1x8x128x128.size a := by
  show i ∈ ((View.whole main_v88_1).slice (win0_17.rect t)).set ↔ _
  rw [View.set_slice_whole, Rect.mem_set_unit]
  exact Iff.rfl

/-- THE COVERED INDICES: in some flushing point's block iff inside the box those blocks fill. -/
theorem covered_iff17 (i : S4x8x128x128.Idx) :
    (∃ t : Fin cfg0.N, (cfg0.win 17).flush t = true ∧ i ∈ ((cfg0.win 17).blk t).view.set) ↔ 0 ≤ (i 0).val ∧ (i 0).val < 4 ∧ 0 ≤ (i 1).val ∧ (i 1).val < 8 ∧ 0 ≤ (i 2).val ∧ (i 2).val < 128 ∧ 0 ≤ (i 3).val ∧ (i 3).val < 128 := by
  constructor
  · rintro ⟨t, -, hi⟩
    rw [mem_blk17] at hi
    have b0 : win0_17.index t (0 : Fin 4) * 1 ≤ (i 0).val ∧ (i 0).val < win0_17.index t (0 : Fin 4) * 1 + 1 := hi 0
    have b1 : win0_17.index t (1 : Fin 4) * 8 ≤ (i 1).val ∧ (i 1).val < win0_17.index t (1 : Fin 4) * 8 + 8 := hi 1
    have b2 : win0_17.index t (2 : Fin 4) * 128 ≤ (i 2).val ∧ (i 2).val < win0_17.index t (2 : Fin 4) * 128 + 128 := hi 2
    have b3 : win0_17.index t (3 : Fin 4) * 128 ≤ (i 3).val ∧ (i 3).val < win0_17.index t (3 : Fin 4) * 128 + 128 := hi 3
    obtain ⟨e0, e1, e2, e3, e4⟩ := idx_facts17 t
    omega
  · intro h
    have hi0 : (i 0).val < 4 := (i 0).isLt
    have hi1 : (i 1).val < 8 := (i 1).isLt
    have hi2 : (i 2).val < 128 := (i 2).isLt
    have hi3 : (i 3).val < 128 := (i 3).isLt
    obtain ⟨t, hft, ht⟩ := idx_onto17 ⟨(i 0).val / 1 - 0, by omega⟩ ⟨(i 1).val / 8 - 0, by omega⟩ ⟨(i 2).val / 128 - 0, by omega⟩ ⟨(i 3).val / 128 - 0, by omega⟩
    have q0 : win0_17.index t (0 : Fin 4) = (i 0).val / 1 - 0 + 0 := congrFun ht 0
    have q1 : win0_17.index t (1 : Fin 4) = (i 1).val / 8 - 0 + 0 := congrFun ht 1
    have q2 : win0_17.index t (2 : Fin 4) = (i 2).val / 128 - 0 + 0 := congrFun ht 2
    have q3 : win0_17.index t (3 : Fin 4) = (i 3).val / 128 - 0 + 0 := congrFun ht 3
    refine ⟨t, hft, ?_⟩
    rw [mem_blk17]
    intro a
    match a with
    | ⟨0, _⟩ => show win0_17.index t (0 : Fin 4) * 1 ≤ (i 0).val ∧ (i 0).val < win0_17.index t (0 : Fin 4) * 1 + 1; omega
    | ⟨1, _⟩ => show win0_17.index t (1 : Fin 4) * 8 ≤ (i 1).val ∧ (i 1).val < win0_17.index t (1 : Fin 4) * 8 + 8; omega
    | ⟨2, _⟩ => show win0_17.index t (2 : Fin 4) * 128 ≤ (i 2).val ∧ (i 2).val < win0_17.index t (2 : Fin 4) * 128 + 128; omega
    | ⟨3, _⟩ => show win0_17.index t (3 : Fin 4) * 128 ≤ (i 3).val ∧ (i 3).val < win0_17.index t (3 : Fin 4) * 128 + 128; omega

/-- THE ARRAY after the run: `G17` (the flushing blocks tile it). -/
theorem final17 (c : Dev nD) : (dats m 0 c).arrAt 17 cfg0.N = G17 m c :=
  (dats m 0 c).arrAt_eq_of_cover 17 _ (fun t hf => flushed17_eq m c t hf) (fun i => (covered_iff17 i).2 (by
    have h0 : (i 0).val < 4 := (i 0).isLt; have h1 : (i 1).val < 8 := (i 1).isLt; have h2 : (i 2).val < 128 := (i 2).isLt; have h3 : (i 3).val < 128 := (i 3).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v88_0) = G16 m c
      ∧ r.2.mem ((c : Thread nD τ).loc main_v88_1) = G17 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(post16 m r h c).trans (final16 m c),
      (post17 m r h c).trans (final17 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Layer

end
-- ==== Proof.Layer.SameText.lean ====
/- The kernel and its idealized program are one text over any arithmetic: the tables of bodies they run agree. -/
module

public import proofs.«01_k».proof.Defs
public import proofs.«01_k».proof.Proof.Gen.Kernel
public import proofs.«01_k».proof.Proof.Gen.KernelIdeal

@[expose] public section

namespace Cert.Proof

open Idealize.ShloMosaic Idealize.SL.Sem

set_option maxHeartbeats 4000000

attribute [local instance] Cert.Kernel.Gen.facts Cert.KernelIdeal.Gen.facts

variable {F : FTy → Type} [FloatOps F]

/-- The compute core's only body. -/
theorem bodies_tc : (Cert.Kernel.defs₀ (F := F) .tc) = (Cert.KernelIdeal.defs₀ (F := F) .tc) := by
  funext ℓ a
  match ℓ, a with
  | ⟨0, _⟩, (t, s) => rfl
  | ⟨n + 1, h⟩, _ => exact absurd h (by omega)

/-- Every processor's bodies. -/
theorem bodies : (Cert.Kernel.defs₀ (F := F)) = (Cert.KernelIdeal.defs₀ (F := F)) := by
  funext p
  match p with
  | .tc => exact bodies_tc
  | .scScalar _ => rfl
  | .scVector _ _ => rfl

/-- The tables with the pipeline's own labels. -/
theorem tables : (Cert.Kernel.defs (F := F)) = (Cert.KernelIdeal.defs (F := F)) :=
  congrArg (Pipeline.defs Cert.KernelIdeal.pcfgs) bodies

end Cert.Proof

end
-- ==== Proof.Layer.KernelFrame.lean ====
/- The kernel's frame at machine words, taken from the run over any arithmetic: the two programs are one text. -/
module

public import proofs.«01_k».proof.Defs
public import proofs.«01_k».proof.Proof.Gen.Kernel
public import proofs.«01_k».proof.Proof.Layer.Value
public import proofs.«01_k».proof.Proof.Layer.SameText

@[expose] public section

noncomputable section

namespace Cert.Proof

open Idealize.ShloMosaic Idealize.SL.Sem

set_option maxHeartbeats 8000000

attribute [local instance] Cert.Kernel.Gen.facts Cert.KernelIdeal.Gen.facts

/-- The kernel's run at any arithmetic: its program is the idealized one's, so the run is that one's. -/
theorem run_kernel {F : FTy → Type} [FloatOps F] (m : (ℓ : Loc Cert.Kernel.nD Cert.Kernel.τ Cert.Kernel.sig) → Buf (Elt F) ℓ)
    (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0) :=
  Eq.subst (motive := fun D => θ_run D (onTc (τ := Cert.KernelIdeal.τ) (Cert.KernelIdeal.main (F := F))) ⟨m, fun _ => 0, g⟩ _)
    tables.symm (Cert.KernelIdeal.Layer.frame (F := F) m g)

/-- The kernel's frame at machine words. -/
theorem frame_kernel : Cert.quiescent_Kernel (hKernel := Cert.Kernel.Gen.facts) := fun m g _ => run_kernel (F := Bits) m g

end Cert.Proof

end
-- ==== Proof.Math.Spec.lean ====
/- The mathematics of the layer's prompt part in one place, at natural-number indices and over the extended reals: the
   normalised rows and their projection, the rotary queries and keys, the retention's decayed sums over all earlier rows, the
   chunk-wise gating and the memory attention. No program is mentioned here. -/
module

public import Idealize.ShloMosaic.PureOps.Ideal
public import Idealize.ShloMosaic.PureOps.Ideal.Laws

@[expose] public section

noncomputable section

namespace Cert.Spec

open Idealize.ShloMosaic

/-- The arguments, read at natural numbers. -/
structure Args where
  x : ℕ → ℕ → ℕ → EReal
  mem : ℕ → ℕ → ℕ → ℕ → EReal
  val : ℕ → ℕ → ℕ → ℕ → EReal
  gn : ℕ → EReal
  w : ℕ → ℕ → EReal
  gr : ℕ → EReal
  gg : ℕ → EReal
  ws : ℕ → ℕ → ℕ → EReal
  bs : ℕ → ℕ → EReal

/-- The three arguments that hold real numbers. -/
structure Args.Real (A : Args) : Prop where
  gn : ∀ d, ∃ r : ℝ, A.gn d = (r : EReal)
  w : ∀ d c, ∃ r : ℝ, A.w d c = (r : EReal)
  mem : ∀ b j h l, ∃ r : ℝ, A.mem b j h l = (r : EReal)

/-! ## Constants, as the words that name them -/

abbrev c2048 : EReal := Ideal.ofBits .f32 0x45000000#32
abbrev c128 : EReal := Ideal.ofBits .f32 0x43000000#32
abbrev c512 : EReal := Ideal.ofBits .f32 0x44000000#32
abbrev eps : EReal := Ideal.ofBits .f32 0x358637BD#32
abbrev kscale : EReal := Ideal.ofBits .f32 0x3DB504F3#32
abbrev down : EReal := Ideal.ofBits .f32 0x2F800000#32
abbrev up : EReal := Ideal.ofBits .f32 0x4F800000#32

/-! ## Norms and gates -/

/-- One over the root of a row's mean square plus the small constant. -/
def invRms (N : ℕ) (n : EReal) (u : ℕ → EReal) : EReal := Ideal.rsqrt (Ideal.div (∑ k : Fin N, u k.val * u k.val) n + eps)

/-- A row's mean. -/
def mean (N : ℕ) (n : EReal) (u : ℕ → EReal) : EReal := Ideal.div (∑ k : Fin N, u k.val) n

/-- A row centred and divided by the root of its mean square. -/
def lnorm (N : ℕ) (n : EReal) (u : ℕ → EReal) (e : ℕ) : EReal :=
  (u e - mean N n u) * invRms N n (fun k => u k - mean N n u)

/-- `x / (1 + exp (-x))`. -/
def silu (x : EReal) : EReal := Ideal.div x (1 + Ideal.exp (-x))

variable (A : Args)

/-! ## The projection -/

/-- The normalised rows. -/
def Args.h (b i d : ℕ) : EReal := A.x b i d * invRms 2048 c2048 (A.x b i) * A.gn d

/-- Their projection. -/
def Args.P (b i c : ℕ) : EReal := ∑ d : Fin 2048, A.h b i d.val * A.w d.val c

/-! ## The rotary embedding -/

def freq (l : ℕ) : EReal :=
  Ideal.pow (Ideal.ofBits .f32 0x461C4000#32)
    (Ideal.div (-(Ideal.ofBits .f32 0x00000000#32 + Ideal.ofBits .f32 0x40000000#32 * ((l : ℝ) : EReal))) c128)

def angle (i l : ℕ) : EReal := ((i : ℝ) : EReal) * freq l

/-- The lower half of the lanes turned against the upper one. -/
def rope (u : ℕ → EReal) (i l : ℕ) : EReal :=
  if l < 64 then u l * Ideal.cos (angle i l) - u (l + 64) * Ideal.sin (angle i l)
  else u (l - 64) * Ideal.sin (angle i (l - 64)) + u l * Ideal.cos (angle i (l - 64))

def Args.Q (b h i l : ℕ) : EReal := rope (fun l => A.P b i (128 * h + l)) i l
def Args.K (b h i l : ℕ) : EReal := rope (fun l => A.P b i (1024 + 128 * h + l)) i l * kscale
def Args.V (b h i l : ℕ) : EReal := A.P b i (2048 + 128 * h + l)
def Args.G (b h i l : ℕ) : EReal := A.P b i (3072 + 128 * h + l)

/-! ## The retention -/

/-- A head's decay rate in the logarithm, and the factor of one step. -/
def lg (h : ℕ) : EReal :=
  Ideal.log (Ideal.ofBits .f32 0x3F800000#32 - Ideal.pow (Ideal.ofBits .f32 0x40000000#32) (Ideal.ofBits .f32 0xC0A00000#32 - ((h : ℝ) : EReal)))
def gam (h : ℕ) : ℝ := Real.exp (lg h).toReal

def Args.q (b h i l : ℕ) : ℝ := (A.Q b h i l).toReal
def Args.k (b h i l : ℕ) : ℝ := (A.K b h i l).toReal
def Args.v (b h i l : ℕ) : ℝ := (A.V b h i l).toReal

/-- The state after `n` rows: each row's key-value product, decayed by the rows since. -/
def Args.s (b h n d e : ℕ) : ℝ := ∑ j ∈ Finset.range n, gam h ^ (n - 1 - j) * A.k b h j d * A.v b h j e

/-- Row `i`'s retention: the scores against all rows up to it, decayed by the distance. -/
def Args.o (b h i e : ℕ) : ℝ :=
  ∑ j ∈ Finset.range (i + 1), gam h ^ (i - j) * (∑ l : Fin 128, A.q b h i l.val * A.k b h j l.val) * A.v b h j e

/-- A retention head's part of the output. -/
def Args.ret (b h i e : ℕ) : EReal :=
  lnorm 128 c128 (fun e => (A.o b h i e : EReal)) e * A.gr (128 * h + e) * silu (A.G b h i e)

/-! ## The gating -/

/-- The gated values, normalised and weighted. -/
def Args.gv (b i c : ℕ) : EReal := lnorm 512 c512 (fun k => A.P b i (4608 + k)) c * A.gg c

/-- The mixing matrix with its upper triangle cleared. -/
def Args.tri (g r j : ℕ) : EReal := if j ≤ r then A.ws g r j else 0

/-- Group `g`, lane `l` of row `128 n + r`: the chunk's rows mixed, a bias, and the gates. -/
def Args.gate (b n r g l : ℕ) : EReal :=
  A.P b (128 * n + r) (4096 + 128 * g + l)
    * (((∑ j : Fin 128, A.tri g r j.val * A.gv b (128 * n + j.val) (128 * g + l)) + A.bs g r) * silu (A.P b (128 * n + r) (5120 + 128 * g + l)))

/-! ## The memory attention -/

def Args.sc (b hd i m : ℕ) : EReal := (∑ l : Fin 128, A.P b i (5632 + 128 * hd + l.val) * A.mem b m hd l.val) * kscale

/-- The exponential of a score less the row's greatest. -/
def Args.ex (b hd i m : ℕ) : EReal :=
  Ideal.exp (A.sc b hd i m - (Finset.univ : Finset (Fin 256)).fold max ⊥ (fun m => A.sc b hd i m.val))

def Args.att (b hd i l : ℕ) : EReal :=
  Ideal.div (∑ m : Fin 256, A.ex b hd i m.val * A.val b m.val hd l) (∑ m : Fin 256, A.ex b hd i m.val)
    * silu (A.P b i (6144 + 128 * hd + l))

/-! ## The whole output row -/

def Args.mix (b i c : ℕ) : EReal :=
  if c < 1024 then A.ret b (c / 128) i (c % 128)
  else if c < 1536 then A.gate b (i / 128) (i % 128) ((c - 1024) / 128) ((c - 1024) % 128)
  else A.att b ((c - 1536) / 128) i ((c - 1536) % 128)

end Cert.Spec

end
-- ==== Proof.Math.Arrays.lean ====
/- An array read at natural numbers, and the layer's arguments as such readings. -/
module

public import proofs.«01_k».proof.Proof.Math.Spec
public import Idealize.ShloMosaic.Lib.ValueIdx

@[expose] public section

noncomputable section

namespace Cert.Spec

open Idealize.ShloMosaic Idealize.ShloMosaic.ValueIdx

variable {n0 n1 n2 n3 : ℕ} {α : Type}

/-- Arrays of one to four axes at natural numbers, each reduced into its axis. -/
def at1 [NeZero n0] (x : (⟨1, ![n0]⟩ : Shape).Idx → α) (a : ℕ) : α := x (ix1 (Fin.ofNat n0 a))
def at2 [NeZero n0] [NeZero n1] (x : (⟨2, ![n0, n1]⟩ : Shape).Idx → α) (a b : ℕ) : α := x (ix2 (Fin.ofNat n0 a) (Fin.ofNat n1 b))
def at3 [NeZero n0] [NeZero n1] [NeZero n2] (x : (⟨3, ![n0, n1, n2]⟩ : Shape).Idx → α) (a b c : ℕ) : α :=
  x (ix3 (Fin.ofNat n0 a) (Fin.ofNat n1 b) (Fin.ofNat n2 c))
def at4 [NeZero n0] [NeZero n1] [NeZero n2] [NeZero n3] (x : (⟨4, ![n0, n1, n2, n3]⟩ : Shape).Idx → α) (a b c d : ℕ) : α :=
  x (ix4 (Fin.ofNat n0 a) (Fin.ofNat n1 b) (Fin.ofNat n2 c) (Fin.ofNat n3 d))

theorem ofNat_of_val {n : ℕ} [NeZero n] (i : Fin n) {a : ℕ} (h : i.val = a) : i = Fin.ofNat n a :=
  Fin.ext (by subst h; exact (Nat.mod_eq_of_lt i.isLt).symm)

theorem at2_of [NeZero n0] [NeZero n1] (x : (⟨2, ![n0, n1]⟩ : Shape).Idx → α) (i : (⟨2, ![n0, n1]⟩ : Shape).Idx) {a b : ℕ}
    (h0 : (i 0).val = a) (h1 : (i 1).val = b) : x i = at2 x a b := by
  exact (congrArg x (eq_ix2 i)).trans (by unfold at2; rw [ofNat_of_val (n := n0) (i 0) h0, ofNat_of_val (n := n1) (i 1) h1]; rfl)
theorem at3_of [NeZero n0] [NeZero n1] [NeZero n2] (x : (⟨3, ![n0, n1, n2]⟩ : Shape).Idx → α) (i : (⟨3, ![n0, n1, n2]⟩ : Shape).Idx)
    {a b c : ℕ} (h0 : (i 0).val = a) (h1 : (i 1).val = b) (h2 : (i 2).val = c) : x i = at3 x a b c := by
  exact (congrArg x (eq_ix3 i)).trans (by unfold at3; rw [ofNat_of_val (n := n0) (i 0) h0, ofNat_of_val (n := n1) (i 1) h1, ofNat_of_val (n := n2) (i 2) h2]; rfl)
theorem at4_of [NeZero n0] [NeZero n1] [NeZero n2] [NeZero n3] (x : (⟨4, ![n0, n1, n2, n3]⟩ : Shape).Idx → α)
    (i : (⟨4, ![n0, n1, n2, n3]⟩ : Shape).Idx) {a b c d : ℕ} (h0 : (i 0).val = a) (h1 : (i 1).val = b) (h2 : (i 2).val = c)
    (h3 : (i 3).val = d) : x i = at4 x a b c d := by
  exact (congrArg x (eq_ix4 i)).trans (by unfold at4; rw [ofNat_of_val (n := n0) (i 0) h0, ofNat_of_val (n := n1) (i 1) h1, ofNat_of_val (n := n2) (i 2) h2, ofNat_of_val (n := n3) (i 3) h3]; rfl)

/-- The layer's arguments as the mathematics reads them. -/
def argsOf (x0 : (⟨3, ![4, 4096, 2048]⟩ : Shape).Idx → EReal) (x1 x2 : (⟨4, ![4, 256, 4, 128]⟩ : Shape).Idx → EReal)
    (x3 : (⟨2, ![1, 2048]⟩ : Shape).Idx → EReal) (x4 : (⟨3, ![1, 2048, 6656]⟩ : Shape).Idx → EReal)
    (x5 : (⟨2, ![1, 1024]⟩ : Shape).Idx → EReal) (x6 : (⟨2, ![1, 512]⟩ : Shape).Idx → EReal)
    (x7 : (⟨4, ![1, 4, 128, 128]⟩ : Shape).Idx → EReal) (x8 : (⟨3, ![1, 4, 128]⟩ : Shape).Idx → EReal) : Args where
  x := at3 x0
  mem := at4 x1
  val := at4 x2
  gn := at2 x3 0
  w := at3 x4 0
  gr := at2 x5 0
  gg := at2 x6 0
  ws := at4 x7 0
  bs := at3 x8 0

/-- The arrays hold the arguments. -/
structure Reads (A : Args) (x0 : (⟨3, ![4, 4096, 2048]⟩ : Shape).Idx → EReal) (x1 x2 : (⟨4, ![4, 256, 4, 128]⟩ : Shape).Idx → EReal)
    (x3 : (⟨2, ![1, 2048]⟩ : Shape).Idx → EReal) (x4 : (⟨3, ![1, 2048, 6656]⟩ : Shape).Idx → EReal)
    (x5 : (⟨2, ![1, 1024]⟩ : Shape).Idx → EReal) (x6 : (⟨2, ![1, 512]⟩ : Shape).Idx → EReal)
    (x7 : (⟨4, ![1, 4, 128, 128]⟩ : Shape).Idx → EReal) (x8 : (⟨3, ![1, 4, 128]⟩ : Shape).Idx → EReal) : Prop where
  x : ∀ i {a b c : ℕ}, (i 0).val = a → (i 1).val = b → (i 2).val = c → x0 i = A.x a b c
  mem : ∀ i {a b c d : ℕ}, (i 0).val = a → (i 1).val = b → (i 2).val = c → (i 3).val = d → x1 i = A.mem a b c d
  val : ∀ i {a b c d : ℕ}, (i 0).val = a → (i 1).val = b → (i 2).val = c → (i 3).val = d → x2 i = A.val a b c d
  gn : ∀ i {b : ℕ}, (i 1).val = b → x3 i = A.gn b
  w : ∀ i {b c : ℕ}, (i 1).val = b → (i 2).val = c → x4 i = A.w b c
  gr : ∀ i {b : ℕ}, (i 1).val = b → x5 i = A.gr b
  gg : ∀ i {b : ℕ}, (i 1).val = b → x6 i = A.gg b
  ws : ∀ i {b c d : ℕ}, (i 1).val = b → (i 2).val = c → (i 3).val = d → x7 i = A.ws b c d
  bs : ∀ i {b c : ℕ}, (i 1).val = b → (i 2).val = c → x8 i = A.bs b c

theorem reads_argsOf (x0 : (⟨3, ![4, 4096, 2048]⟩ : Shape).Idx → EReal) (x1 x2 : (⟨4, ![4, 256, 4, 128]⟩ : Shape).Idx → EReal)
    (x3 : (⟨2, ![1, 2048]⟩ : Shape).Idx → EReal) (x4 : (⟨3, ![1, 2048, 6656]⟩ : Shape).Idx → EReal)
    (x5 : (⟨2, ![1, 1024]⟩ : Shape).Idx → EReal) (x6 : (⟨2, ![1, 512]⟩ : Shape).Idx → EReal)
    (x7 : (⟨4, ![1, 4, 128, 128]⟩ : Shape).Idx → EReal) (x8 : (⟨3, ![1, 4, 128]⟩ : Shape).Idx → EReal) :
    Reads (argsOf x0 x1 x2 x3 x4 x5 x6 x7 x8) x0 x1 x2 x3 x4 x5 x6 x7 x8 where
  x i _ _ _ h0 h1 h2 := at3_of x0 i h0 h1 h2
  mem i _ _ _ _ h0 h1 h2 h3 := at4_of x1 i h0 h1 h2 h3
  val i _ _ _ _ h0 h1 h2 h3 := at4_of x2 i h0 h1 h2 h3
  gn i _ h := at2_of x3 i (Nat.lt_one_iff.mp (i 0).isLt) h
  w i _ _ h1 h2 := at3_of x4 i (Nat.lt_one_iff.mp (i 0).isLt) h1 h2
  gr i _ h := at2_of x5 i (Nat.lt_one_iff.mp (i 0).isLt) h
  gg i _ h := at2_of x6 i (Nat.lt_one_iff.mp (i 0).isLt) h
  ws i _ _ _ h1 h2 h3 := at4_of x7 i (Nat.lt_one_iff.mp (i 0).isLt) h1 h2 h3
  bs i _ _ h1 h2 := at3_of x8 i (Nat.lt_one_iff.mp (i 0).isLt) h1 h2

end Cert.Spec

end
-- ==== Proof.Math.Finite.lean ====
/- Which of the quantities are real numbers: the constants, the projection (whatever the rows are: a row with an infinite entry
   normalises to zero), queries, keys and values, the decay. And the projection with its row scale put off. -/
module

public import proofs.«01_k».proof.Proof.Math.Spec

@[expose] public section

noncomputable section

namespace Cert.Spec

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of real numbers is one. -/
theorem real_sum {ι : Type} (s : Finset ι) (f : ι → EReal) (h : ∀ i, ∃ r : ℝ, f i = (r : EReal)) : ∃ r : ℝ, ∑ i ∈ s, f i = (r : EReal) := by
  choose g hg using h
  exact ⟨∑ i ∈ s, g i, by rw [coe_sum]; exact Finset.sum_congr rfl fun i _ => hg i⟩

theorem real_mul {a b : EReal} (ha : ∃ r : ℝ, a = (r : EReal)) (hb : ∃ r : ℝ, b = (r : EReal)) : ∃ r : ℝ, a * b = (r : EReal) := by
  obtain ⟨r, rfl⟩ := ha; obtain ⟨s, rfl⟩ := hb; exact ⟨r * s, (EReal.coe_mul r s).symm⟩

theorem real_add {a b : EReal} (ha : ∃ r : ℝ, a = (r : EReal)) (hb : ∃ r : ℝ, b = (r : EReal)) : ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) : ∃ r : ℝ, a - b = (r : EReal) := by
  obtain ⟨r, rfl⟩ := ha; obtain ⟨s, rfl⟩ := hb; exact ⟨r - s, (EReal.coe_sub r s).symm⟩

theorem coe_toReal {a : EReal} (ha : ∃ r : ℝ, a = (r : EReal)) : a = ((a.toReal : ℝ) : EReal) := by
  obtain ⟨r, rfl⟩ := ha; rfl

/-! ## Constants -/

theorem c2048_eq : c2048 = ((2048 : ℝ) : EReal) := by
  simp [Ideal.ofBits, Ideal.ieee, -EReal.coe_mul]; norm_num
theorem c128_eq : c128 = ((128 : ℝ) : EReal) := by
  simp [Ideal.ofBits, Ideal.ieee, -EReal.coe_mul]; norm_num
theorem down_eq : down = (((2 : ℝ) ^ (-32 : ℤ) : ℝ) : EReal) := by
  simp [Ideal.ofBits, Ideal.ieee, -EReal.coe_mul]; norm_num
theorem up_eq : up = (((2 : ℝ) ^ (32 : ℤ) : ℝ) : EReal) := by
  rw [show (2 : ℝ) ^ (32 : ℤ) = 4294967296 by norm_num]
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem m5_eq : Ideal.ofBits .f32 0xC0A00000#32 = ((-5 : ℝ) : EReal) := by
  simp [Ideal.ofBits, Ideal.ieee, -EReal.coe_mul, -EReal.coe_neg]; norm_num
theorem ten4_eq : Ideal.ofBits .f32 0x461C4000#32 = ((10000 : ℝ) : EReal) := by
  simp [Ideal.ofBits, Ideal.ieee, -EReal.coe_mul]; norm_num
theorem n4095_eq : Ideal.ofBits .f32 0x457FF000#32 = ((4095 : ℝ) : EReal) := by
  simp [Ideal.ofBits, Ideal.ieee, -EReal.coe_mul]; norm_num
theorem n4096_eq : Ideal.ofBits .f32 0x45800000#32 = ((4096 : ℝ) : EReal) := by
  simp [Ideal.ofBits, Ideal.ieee, -EReal.coe_mul]; norm_num
theorem n255_eq : Ideal.ofBits .f32 0x437F0000#32 = ((255 : ℝ) : EReal) := by
  simp [Ideal.ofBits, Ideal.ieee, -EReal.coe_mul]; norm_num
theorem n256_eq : Ideal.ofBits .f32 0x43800000#32 = ((256 : ℝ) : EReal) := by
  simp [Ideal.ofBits, Ideal.ieee, -EReal.coe_mul]; norm_num
theorem ninf_eq : Ideal.ofBits .f32 0xFF800000#32 = ⊥ := by
  simp [Ideal.ofBits, Ideal.ieee]
/-- A word with sign zero and a middling exponent names a positive real. -/
theorem ofBits_pos (b : BitVec 32) (hn : (b.extractLsb' 31 1 == 1#1) = false) (he : (b.extractLsb' 23 8).toNat ≠ 255)
    (h0 : (b.extractLsb' 23 8).toNat ≠ 0) : ∃ r : ℝ, 0 < r ∧ Ideal.ofBits .f32 b = (r : EReal) := by
  show ∃ r : ℝ, 0 < r ∧ Ideal.ieee 8 23 b = (r : EReal)
  unfold Ideal.ieee
  simp only [hn]
  rw [if_neg (by simpa using he), if_neg h0]
  refine ⟨_, ?_, rfl⟩
  have h2 : (0 : ℝ) < ((2 ^ 23 + (b.extractLsb' 0 23).toNat : ℕ) : ℝ) := by exact_mod_cast (by positivity)
  simp only [Bool.false_eq_true, if_false, one_mul]
  exact mul_pos h2 (zpow_pos (by norm_num) _)

theorem kscale_real : ∃ r : ℝ, kscale = (r : EReal) :=
  let ⟨r, _, h⟩ := ofBits_pos 0x3DB504F3#32 (by decide) (by decide) (by decide)
  ⟨r, h⟩
theorem eps_pos : ∃ r : ℝ, 0 < r ∧ eps = (r : EReal) := ofBits_pos 0x358637BD#32 (by decide) (by decide) (by decide)

/-! ## Division -/

theorem div_coe (a : EReal) {r : ℝ} (hr : r ≠ 0) : Ideal.div a (r : EReal) = a * ((r⁻¹ : ℝ) : EReal) := by
  unfold Ideal.div
  rw [if_neg (by exact_mod_cast hr)]
  rfl

theorem real_div {a : EReal} (ha : ∃ r : ℝ, a = (r : EReal)) {r : ℝ} (hr : r ≠ 0) : ∃ q : ℝ, Ideal.div a (r : EReal) = (q : EReal) := by
  rw [div_coe a hr]; exact real_mul ha ⟨_, rfl⟩

/-! ## The projection -/

theorem mul_self_nonneg' (x : EReal) : 0 ≤ x * x := by
  induction x with
  | bot => simp
  | top => simp
  | coe r => exact_mod_cast mul_self_nonneg r

/-- A row with an infinite entry scales by zero. -/
theorem invRms_of_inf (u : ℕ → EReal) (d : Fin 2048) (hd : u d.val = ⊤ ∨ u d.val = ⊥) : invRms 2048 c2048 u = 0 := by
  have hs : (∑ k : Fin 2048, u k.val * u k.val) = ⊤ := by
    rw [← top_le_iff]
    calc (⊤ : EReal) = u d.val * u d.val := by rcases hd with h | h <;> rw [h] <;> simp
      _ ≤ _ := Finset.single_le_sum (f := fun k : Fin 2048 => u k.val * u k.val) (fun k _ => mul_self_nonneg' _) (Finset.mem_univ d)
  unfold invRms
  obtain ⟨e, _, he⟩ := eps_pos
  rw [hs, c2048_eq, div_coe _ (by norm_num), he, EReal.top_mul_coe_of_pos (by norm_num), EReal.top_add_coe]
  rfl

/-- A row of real numbers scales by one. -/
theorem invRms_real (u : ℕ → EReal) (hu : ∀ d : Fin 2048, ∃ r : ℝ, u d.val = (r : EReal)) : ∃ r : ℝ, invRms 2048 c2048 u = (r : EReal) := by
  choose f hf using hu
  unfold invRms
  obtain ⟨e, he0, he⟩ := eps_pos
  have hs : (∑ k : Fin 2048, u k.val * u k.val) = ((∑ k : Fin 2048, f k * f k : ℝ) : EReal) := by
    rw [coe_sum]; exact Finset.sum_congr rfl fun k _ => by rw [hf k, EReal.coe_mul]
  have h0 : 0 ≤ ∑ k : Fin 2048, f k * f k := Finset.sum_nonneg fun k _ => mul_self_nonneg _
  rw [hs, c2048_eq, div_coe _ (by norm_num), he, ← EReal.coe_mul, ← EReal.coe_add]
  have hp : 0 < (∑ k : Fin 2048, f k * f k) * (2048 : ℝ)⁻¹ + e := by positivity
  refine ⟨(Real.sqrt ((∑ k : Fin 2048, f k * f k) * (2048 : ℝ)⁻¹ + e))⁻¹, ?_⟩
  show (if _ < (0 : ℝ) then (⊥ : EReal) else _) = _
  rw [if_neg (not_lt.mpr hp.le), if_neg hp.ne']

theorem row_cases (u : ℕ → EReal) : (∀ d : Fin 2048, ∃ r : ℝ, u d.val = (r : EReal)) ∨ ∃ d : Fin 2048, u d.val = ⊤ ∨ u d.val = ⊥ := by
  by_cases h : ∃ d : Fin 2048, u d.val = ⊤ ∨ u d.val = ⊥
  · exact .inr h
  · refine .inl fun d => ?_
    have hd : ¬ (u d.val = ⊤ ∨ u d.val = ⊥) := fun hd => h ⟨d, hd⟩
    rw [not_or] at hd
    exact ⟨(u d.val).toReal, (EReal.coe_toReal hd.1 hd.2).symm⟩

variable {A : Args}

/-- The projection is real, whatever the rows hold. -/
theorem P_real (hA : A.Real) (b i c : ℕ) : ∃ r : ℝ, A.P b i c = (r : EReal) := by
  unfold Args.P
  rcases row_cases (A.x b i) with hx | ⟨d, hd⟩
  · exact real_sum' fun d => real_mul (real_mul (real_mul (hx d) (invRms_real _ hx)) (hA.gn _)) (hA.w _ _)
  · refine ⟨0, Finset.sum_eq_zero fun k _ => ?_⟩
    unfold Args.h
    rw [invRms_of_inf _ d hd]; simp
where real_sum' {f : Fin 2048 → EReal} (h : ∀ i, ∃ r : ℝ, f i = (r : EReal)) : ∃ r : ℝ, ∑ i, f i = (r : EReal) := real_sum _ f h

/-- Projecting rows that keep out their scale, with the weights scaled down, and scaling the result is projecting the
    normalised rows. -/
theorem early (hA : A.Real) (b i c : ℕ) :
    (∑ d : Fin 2048, A.x b i d.val * (A.gn d.val * down) * A.w d.val c) * (invRms 2048 c2048 (A.x b i) * up) = A.P b i c := by
  unfold Args.P Args.h
  rcases row_cases (A.x b i) with hx | ⟨d, hd⟩
  · obtain ⟨ρ, hρ⟩ := invRms_real _ hx
    choose f hf using hx
    choose g hg using hA.gn
    choose w hw using hA.w
    have e1 : (∑ d : Fin 2048, A.x b i d.val * (A.gn d.val * down) * A.w d.val c)
        = ((∑ d : Fin 2048, f d * (g d.val * (2 : ℝ) ^ (-32 : ℤ)) * w d.val c : ℝ) : EReal) := by
      rw [coe_sum]; refine Finset.sum_congr rfl fun d _ => ?_
      rw [hf d, hg, hw, down_eq]; push_cast; rfl
    have e2 : (∑ d : Fin 2048, A.x b i d.val * invRms 2048 c2048 (A.x b i) * A.gn d.val * A.w d.val c)
        = ((∑ d : Fin 2048, f d * ρ * g d.val * w d.val c : ℝ) : EReal) := by
      rw [coe_sum]; refine Finset.sum_congr rfl fun d _ => ?_
      rw [hf d, hg, hw, hρ]; push_cast; rfl
    rw [e1, e2, hρ, up_eq, ← EReal.coe_mul, ← EReal.coe_mul]
    congr 1
    rw [Finset.sum_mul]
    refine Finset.sum_congr rfl fun d _ => ?_
    have : ((2 : ℝ) ^ (-32 : ℤ)) * ((2 : ℝ) ^ (32 : ℤ)) = 1 := by norm_num
    linear_combination (f d * ρ * g d.val * w d.val c) * this
  · rw [invRms_of_inf _ d hd, zero_mul, mul_zero]
    exact (Finset.sum_eq_zero fun k _ => by simp).symm

/-! ## Queries, keys, values -/

theorem freq_real (l : ℕ) : ∃ r : ℝ, freq l = (r : EReal) := by
  unfold freq
  rw [ten4_eq, two_eq, c128_eq, Ideal.ofBits_zero_f32, zero_add, ← EReal.coe_mul, ← EReal.coe_neg, div_coe _ (by norm_num), ← EReal.coe_mul]
  exact ⟨_, rfl⟩

theorem angle_real (i l : ℕ) : ∃ r : ℝ, angle i l = (r : EReal) := real_mul ⟨_, rfl⟩ (freq_real l)

theorem cos_real {a : EReal} (h : ∃ r : ℝ, a = (r : EReal)) : ∃ r : ℝ, Ideal.cos a = (r : EReal) := by
  obtain ⟨r, rfl⟩ := h; exact ⟨_, rfl⟩
theorem sin_real {a : EReal} (h : ∃ r : ℝ, a = (r : EReal)) : ∃ r : ℝ, Ideal.sin a = (r : EReal) := by
  obtain ⟨r, rfl⟩ := h; exact ⟨_, rfl⟩

theorem rope_real (u : ℕ → EReal) (hu : ∀ l, ∃ r : ℝ, u l = (r : EReal)) (i l : ℕ) : ∃ r : ℝ, rope u i l = (r : EReal) := by
  unfold rope
  split
  · exact real_sub (real_mul (hu _) (cos_real (angle_real _ _))) (real_mul (hu _) (sin_real (angle_real _ _)))
  · exact real_add (real_mul (hu _) (sin_real (angle_real _ _))) (real_mul (hu _) (cos_real (angle_real _ _)))

theorem Q_eq (hA : A.Real) (b h i l : ℕ) : A.Q b h i l = (A.q b h i l : EReal) :=
  coe_toReal (rope_real _ (fun _ => P_real hA _ _ _) _ _)
theorem K_eq (hA : A.Real) (b h i l : ℕ) : A.K b h i l = (A.k b h i l : EReal) :=
  coe_toReal (real_mul (rope_real _ (fun _ => P_real hA _ _ _) _ _) kscale_real)
theorem V_eq (hA : A.Real) (b h i l : ℕ) : A.V b h i l = (A.v b h i l : EReal) :=
  coe_toReal (P_real hA _ _ _)

/-! ## The decay -/

theorem lg_eq (h : ℕ) : lg h = ((lg h).toReal : EReal) := by
  refine coe_toReal ?_
  unfold lg
  rw [one_eq, two_eq, m5_eq, ← EReal.coe_sub]
  have hp : Real.rpow 2 (-5 - (h : ℝ)) < 1 :=
    Real.rpow_lt_one_of_one_lt_of_neg (by norm_num) (by have : (0 : ℝ) ≤ h := Nat.cast_nonneg h; linarith)
  refine ⟨Real.log (1 - Real.rpow 2 (-5 - (h : ℝ))), ?_⟩
  show Ideal.log (((1 : ℝ) : EReal) - ((Real.rpow 2 (-5 - (h : ℝ)) : ℝ) : EReal)) = _
  rw [← EReal.coe_sub]
  show (if _ ≤ (0 : ℝ) then (⊥ : EReal) else _) = _
  rw [if_neg (by linarith)]

/-- The decay over `n` rows. -/
theorem exp_lg (h n : ℕ) : Ideal.exp (lg h * ((n : ℝ) : EReal)) = ((gam h ^ n : ℝ) : EReal) := by
  rw [lg_eq, ← EReal.coe_mul]
  show ((Real.exp _ : ℝ) : EReal) = _
  rw [gam, ← Real.exp_nat_mul, mul_comm]

end Cert.Spec

end
-- ==== Proof.Math.Block.lean ====
/- The retention's decayed sums, block by block: the state after a block of rows from the state before it, and a block row's
   output from the scores inside the block and the state before it. And the same sums over all rows at once. -/
module

public import proofs.«01_k».proof.Proof.Math.Finite

@[expose] public section

noncomputable section

namespace Cert.Spec

open Idealize.ShloMosaic

variable {A : Args}

theorem s_zero (b h d e : ℕ) : A.s b h 0 d e = 0 := by simp [Args.s]

/-- The state after `L` more rows. -/
theorem s_add (b h n L d e : ℕ) : A.s b h (n + L) d e
    = A.s b h n d e * gam h ^ L + ∑ r : Fin L, (A.k b h (n + r.val) d * gam h ^ (L - 1 - r.val)) * A.v b h (n + r.val) e := by
  unfold Args.s
  rw [Finset.sum_range_add, Finset.sum_mul]
  congr 1
  · refine Finset.sum_congr rfl fun j hj => ?_
    have hj := Finset.mem_range.mp hj
    rw [show n + L - 1 - j = (n - 1 - j) + L by omega, pow_add]; ring
  · rw [Fin.sum_univ_eq_sum_range (fun r => (A.k b h (n + r) d * gam h ^ (L - 1 - r)) * A.v b h (n + r) e)]
    refine Finset.sum_congr rfl fun r hr => ?_
    rw [show n + L - 1 - (n + r) = L - 1 - r by omega]; ring

/-- A block row's output: the scores inside the block, and the queries on the state before it. -/
theorem o_add (b h n L e : ℕ) (r : ℕ) (hr : r < L) : A.o b h (n + r) e
    = (∑ j : Fin L, ((∑ l : Fin 128, A.q b h (n + r) l.val * A.k b h (n + j.val) l.val) * (if j.val ≤ r then gam h ^ (r - j.val) else 0)) * A.v b h (n + j.val) e)
      + (∑ d : Fin 128, A.q b h (n + r) d.val * A.s b h n d.val e) * gam h ^ (r + 1) := by
  have e1 : A.o b h (n + r) e = (∑ j ∈ Finset.range n, gam h ^ (n + r - j) * (∑ l : Fin 128, A.q b h (n + r) l.val * A.k b h j l.val) * A.v b h j e)
      + ∑ j ∈ Finset.range (r + 1), gam h ^ (r - j) * (∑ l : Fin 128, A.q b h (n + r) l.val * A.k b h (n + j) l.val) * A.v b h (n + j) e := by
    unfold Args.o
    rw [add_assoc, Finset.sum_range_add]
    congr 1
    refine Finset.sum_congr rfl fun j _ => ?_
    rw [show n + r - (n + j) = r - j by omega]
  rw [e1, add_comm]
  congr 1
  · rw [Fin.sum_univ_eq_sum_range (fun j => ((∑ l : Fin 128, A.q b h (n + r) l.val * A.k b h (n + j) l.val) * (if j ≤ r then gam h ^ (r - j) else 0)) * A.v b h (n + j) e)]
    rw [← Finset.sum_subset (Finset.range_subset_range.mpr (show r + 1 ≤ L by omega))
      (f := fun j => ((∑ l : Fin 128, A.q b h (n + r) l.val * A.k b h (n + j) l.val) * (if j ≤ r then gam h ^ (r - j) else 0)) * A.v b h (n + j) e)
      (fun j _ hj => by rw [if_neg (by simpa using hj)]; ring)]
    refine Finset.sum_congr rfl fun j hj => ?_
    rw [if_pos (by have := Finset.mem_range.mp hj; omega)]; ring
  · unfold Args.s
    simp only [Finset.mul_sum, Finset.sum_mul]
    rw [Finset.sum_comm]
    refine Finset.sum_congr rfl fun d _ => Finset.sum_congr rfl fun j hj => ?_
    have hj := Finset.mem_range.mp hj
    rw [show n + r - j = (n - 1 - j) + (r + 1) by omega, pow_add]; ring

/-! ## Over the extended reals -/

/-- A block's new state, as the extended reals compute it. -/
theorem state_step (b h n L d e : ℕ) :
    (A.s b h n d e : EReal) * ((gam h ^ L : ℝ) : EReal)
      + ∑ r : Fin L, ((A.k b h (n + r.val) d : EReal) * ((gam h ^ (L - 1 - r.val) : ℝ) : EReal)) * (A.v b h (n + r.val) e : EReal)
    = (A.s b h (n + L) d e : EReal) := by
  rw [s_add, EReal.coe_add, EReal.coe_mul, coe_sum]
  simp only [EReal.coe_mul]

/-- The decay between two rows of a block, nothing for a later row. -/
def dec (h r j : ℕ) : EReal := if j ≤ r then ((gam h ^ (r - j) : ℝ) : EReal) else 0

theorem dec_eq (h r j : ℕ) : dec h r j = ((if j ≤ r then gam h ^ (r - j) else 0 : ℝ) : EReal) := by
  unfold dec; split <;> rfl

/-- A block row's output, as the extended reals compute it. -/
theorem out_step (b h n L e r : ℕ) (hr : r < L) :
    (∑ j : Fin L, ((∑ l : Fin 128, (A.q b h (n + r) l.val : EReal) * (A.k b h (n + j.val) l.val : EReal)) * dec h r j.val) * (A.v b h (n + j.val) e : EReal))
      + (∑ d : Fin 128, (A.q b h (n + r) d.val : EReal) * (A.s b h n d.val e : EReal)) * ((gam h ^ (r + 1) : ℝ) : EReal)
    = (A.o b h (n + r) e : EReal) := by
  rw [o_add b h n L e r hr, EReal.coe_add, EReal.coe_mul, coe_sum, coe_sum]
  simp only [EReal.coe_mul, coe_sum, dec_eq]

end Cert.Spec

end
-- ==== Proof.Math.Masks.lean ====
/- Masks: a selection by a comparison of two counted rows, at floats and at words. -/
module

public import proofs.«01_k».proof.Proof.Math.Block
public import Idealize.ShloMosaic.Lib.IdealHost

@[expose] public section

noncomputable section

namespace Cert.Spec

open Idealize.ShloMosaic

theorem sub_nat (r j : ℕ) (h : j ≤ r) : ((r : ℝ) : EReal) - ((j : ℝ) : EReal) = (((r - j : ℕ) : ℝ) : EReal) := by
  rw [← EReal.coe_sub, Nat.cast_sub h]

theorem select_oge {α : Type} (r j : ℕ) (a b : α) :
    Scalar.select (Ideal.cmp .oge (((r : ℝ) : EReal) - ((j : ℝ) : EReal)) 0) a b = if j ≤ r then a else b := by
  have e : (0 : EReal) ≤ ((r : ℝ) : EReal) - ((j : ℝ) : EReal) ↔ j ≤ r := by
    rw [← EReal.coe_sub]; norm_cast; rw [Int.subNatNat_eq_coe]; omega
  show (if BitVec.ofBool (decide _) = 1 then a else b) = _
  rw [show decide ((0 : EReal) ≤ ((r : ℝ) : EReal) - ((j : ℝ) : EReal)) = decide (j ≤ r) from decide_eq_decide.2 e]
  by_cases h : j ≤ r
  · rw [if_pos h]; simp [h]
  · rw [if_neg h]; simp [h]

/-- A word below two to the thirty-first, read signed. -/
theorem toInt_ofNat_small (n : ℕ) (h : n < 2147483648) : (BitVec.ofNat 32 n).toInt = n := by
  have e : (BitVec.ofNat 32 n).toNat = n := by rw [BitVec.toNat_ofNat]; omega
  rw [BitVec.toInt_eq_toNat_of_lt (by rw [e]; omega), e]

theorem select_sge {α : Type} (r j : ℕ) (hr : r < 128) (hj : j < 128) (a b : α) :
    Scalar.select (IntOp.cmpi .sge (IntOp.addi (BitVec.ofNat 32 r) 0#32) (BitVec.ofNat 32 j)) a b = if j ≤ r then a else b := by
  have e : (BitVec.ofNat 32 j).sle (IntOp.addi (BitVec.ofNat 32 r) 0#32) = decide (j ≤ r) := by
    show (BitVec.ofNat 32 j).sle (BitVec.ofNat 32 r + 0#32) = _
    rw [BitVec.add_zero, BitVec.sle, toInt_ofNat_small _ (by omega), toInt_ofNat_small _ (by omega)]
    simp
  by_cases h : j ≤ r
  · rw [if_pos h]; simp [Scalar.select, IntOp.cmpi, e, h]
  · rw [if_neg h]; simp [Scalar.select, IntOp.cmpi, e, h]

/-- The decay between two rows, as a masked exponential computes it. -/
theorem masked_exp (h r j : ℕ) :
    Scalar.select (Ideal.cmp .oge (((r : ℝ) : EReal) - ((j : ℝ) : EReal)) 0)
      (Ideal.exp (lg h * Scalar.select (Ideal.cmp .oge (((r : ℝ) : EReal) - ((j : ℝ) : EReal)) 0) (((r : ℝ) : EReal) - ((j : ℝ) : EReal)) 0)) 0
      = dec h r j := by
  rw [select_oge, select_oge, dec]
  by_cases hj : j ≤ r
  · rw [if_pos hj, if_pos hj, if_pos hj, sub_nat r j hj, exp_lg]
  · rw [if_neg hj, if_neg hj]

end Cert.Spec

end
-- ==== Proof.Math.Host.lean ====
/- What the host code before the region leaves in each array the windows read: the arguments reshaped, and the rotary and
   decay tables entry by entry. -/
module

public import proofs.«01_k».proof.Proof.Layer.Runs
public import proofs.«01_k».proof.Proof.Math.Arrays
public import proofs.«01_k».proof.Proof.Math.Masks
public import Idealize.ShloMosaic.Lib.Pointwise
public import Idealize.ShloMosaic.Lib.StableHlo.ReadAt
public import Idealize.ShloMosaic.Lib.KernelVsHost
public import Idealize.ShloMosaic.Lib.Pipeline.Value

@[expose] public section

noncomputable section

namespace Cert.KernelIdeal.Layer

open Idealize.ShloMosaic Idealize.ShloMosaic.Pointwise Idealize.ShloMosaic.TcCoe
open Cert.KernelIdeal Cert.KernelIdeal.Gen
open Cert.Spec (Args angle dec gam lg freq Reads argsOf reads_argsOf)

variable (m : (ℓ : Loc nD τ sig) → Buf (Elt Ideal) ℓ) (c : Dev nD)

/-- The mathematics' reading of a core's arguments. -/
def args : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem args_reads : Reads (args m c) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) := reads_argsOf _ _ _ _ _ _ _ _ _

/-! ## The arguments -/

theorem host_x (i : Fin 4) (r : Fin 4096) (d : Fin 2048) : (V m c main_arg0 (ix3 i r d) : EReal) = (args m c).x i.val r.val d.val := by
  rw [V_main_arg0]
  exact (args_reads m c).x _ rfl rfl rfl

theorem host_mk (i : Fin 4) (j : Fin 256) (l : Fin 512) :
    (V m c main_v5 (ix3 i j l) : EReal) = (args m c).mem i.val j.val (l.val / 128) (l.val % 128) := by
  unfold V
  simp only [List.flatten_cons, List.flatten_nil, List.append_nil, List.cons_append, List.nil_append, hostOps0, hostOps0_1, hostOps0_2]
  after_reads_at
  exact (args_reads m c).mem _ rfl rfl rfl rfl

theorem host_mv (i : Fin 4) (j : Fin 256) (l : Fin 512) :
    (V m c main_v7 (ix3 i j l) : EReal) = (args m c).val i.val j.val (l.val / 128) (l.val % 128) := by
  unfold V
  simp only [List.flatten_cons, List.flatten_nil, List.append_nil, List.cons_append, List.nil_append, hostOps0, hostOps0_1, hostOps0_2]
  after_reads_at
  exact (args_reads m c).val _ rfl rfl rfl rfl

theorem host_gn (i : Fin 1) (d : Fin 2048) : (V m c main_v12 (ix2 i d) : EReal) = (args m c).gn d.val := by
  unfold V
  simp only [List.flatten_cons, List.flatten_nil, List.append_nil, List.cons_append, List.nil_append, hostOps0, hostOps0_1, hostOps0_2]
  after_reads_at
  exact (args_reads m c).gn _ rfl

theorem host_w (d : Fin 2048) (l : Fin 6656) : (V m c main_v9 (ix2 d l) : EReal) = (args m c).w d.val l.val := by
  unfold V
  simp only [List.flatten_cons, List.flatten_nil, List.append_nil, List.cons_append, List.nil_append, hostOps0, hostOps0_1, hostOps0_2]
  after_reads_at
  exact (args_reads m c).w _ rfl rfl

theorem host_gr (i : Fin 1) (d : Fin 1024) : (V m c main_v13 (ix2 i d) : EReal) = (args m c).gr d.val := by
  unfold V
  simp only [List.flatten_cons, List.flatten_nil, List.append_nil, List.cons_append, List.nil_append, hostOps0, hostOps0_1, hostOps0_2]
  after_reads_at
  exact (args_reads m c).gr _ rfl

theorem host_gg (i : Fin 1) (d : Fin 512) : (V m c main_v14 (ix2 i d) : EReal) = (args m c).gg d.val := by
  unfold V
  simp only [List.flatten_cons, List.flatten_nil, List.append_nil, List.cons_append, List.nil_append, hostOps0, hostOps0_1, hostOps0_2]
  after_reads_at
  exact (args_reads m c).gg _ rfl

theorem host_ws (g : Fin 4) (r j : Fin 128) : (V m c main_v2 (ix3 g r j) : EReal) = (args m c).ws g.val r.val j.val := by
  unfold V
  simp only [List.flatten_cons, List.flatten_nil, List.append_nil, List.cons_append, List.nil_append, hostOps0, hostOps0_1, hostOps0_2]
  after_reads_at
  exact (args_reads m c).ws _ rfl rfl rfl

theorem host_bs (g : Fin 4) (r : Fin 128) : (V m c main_v3 (ix2 g r) : EReal) = (args m c).bs g.val r.val := by
  unfold V
  simp only [List.flatten_cons, List.flatten_nil, List.append_nil, List.cons_append, List.nil_append, hostOps0, hostOps0_1, hostOps0_2]
  after_reads_at
  exact (args_reads m c).bs _ rfl rfl

/-! ## The tables -/

/-- A counted row as a float. -/
theorem count_eq (n : ℕ) (h : n < 4096) : (FloatOps.sitofp .f32 (BitVec.ofNat 32 n) : Ideal .f32) = ((n : ℝ) : EReal) := by
  show (((BitVec.ofNat 32 n).toInt : ℝ) : EReal) = _
  rw [Cert.Spec.toInt_ofNat_small n (by omega)]
  norm_cast

/-- The decay rate as the host code writes it. -/
theorem rate_eq (n : ℕ) (h : n < 4096) : Ideal.log ((1 : EReal) - Ideal.pow (Ideal.ofBits .f32 1073741824#32)
    (Ideal.ofBits .f32 3231711232#32 - (FloatOps.sitofp .f32 (BitVec.ofNat 32 n) : Ideal .f32))) = lg n := by
  rw [count_eq n h, lg, Cert.Spec.one_eq]
  rfl

/-- The masked decay with the distance clipped at zero. -/
theorem clipped_exp (h r j : ℕ) :
    (if (0 : EReal) ≤ ((r : ℝ) : EReal) - ((j : ℝ) : EReal) then Ideal.exp (lg h * max (((r : ℝ) : EReal) - ((j : ℝ) : EReal)) 0) else 0)
      = dec h r j := by
  have e : (0 : EReal) ≤ ((r : ℝ) : EReal) - ((j : ℝ) : EReal) ↔ j ≤ r := by
    rw [← EReal.coe_sub]; norm_cast; rw [Int.subNatNat_eq_coe]; omega
  rw [dec]
  by_cases hj : j ≤ r
  · rw [if_pos (e.2 hj), if_pos hj, max_eq_left (e.2 hj), Cert.Spec.sub_nat r j hj, Cert.Spec.exp_lg]
  · rw [if_neg (fun h => hj (e.1 h)), if_neg hj]

theorem host_dm (h : Fin 8) (r j : Fin 256) : (V m c main_v39 (ix3 h r j) : EReal) = dec h.val r.val j.val := by
  unfold V
  simp only [List.flatten_cons, List.flatten_nil, List.append_nil, List.cons_append, List.nil_append, hostOps0, hostOps0_1, hostOps0_2]
  after_reads_at
  rw [rate_eq h.val (by omega), count_eq r.val (by omega), count_eq j.val (by omega)]
  refine Eq.trans ?_ (clipped_exp h.val r.val j.val)
  refine congrArg (fun z : EReal => if (0 : EReal) ≤ ((r.val : ℝ) : EReal) - ((j.val : ℝ) : EReal) then
    Ideal.exp (lg h.val * max (((r.val : ℝ) : EReal) - ((j.val : ℝ) : EReal)) 0) else z) ?_
  exact Ideal.ofBits_zero_f32

theorem host_qd (h : Fin 8) (r : Fin 256) (l : Fin 128) :
    (V m c main_v60 (ix3 h r l) : EReal) = ((gam h.val ^ (r.val + 1) : ℝ) : EReal) := by
  unfold V
  simp only [List.flatten_cons, List.flatten_nil, List.append_nil, List.cons_append, List.nil_append, hostOps0, hostOps0_1, hostOps0_2]
  after_reads_at
  rw [rate_eq h.val (by omega), count_eq r.val (by omega), ← Cert.Spec.exp_lg]
  refine congrArg (fun z : EReal => Ideal.exp (lg h.val * z)) ?_
  norm_cast

theorem host_kd (h : Fin 8) (r : Fin 256) (l : Fin 128) :
    (V m c main_v62 (ix3 h r l) : EReal) = ((gam h.val ^ (256 - 1 - r.val) : ℝ) : EReal) := by
  unfold V
  simp only [List.flatten_cons, List.flatten_nil, List.append_nil, List.cons_append, List.nil_append, hostOps0, hostOps0_1, hostOps0_2]
  after_reads_at
  rw [rate_eq h.val (by omega), count_eq r.val (by omega), ← Cert.Spec.exp_lg, Cert.Spec.n255_eq]
  refine congrArg (fun z : EReal => Ideal.exp (lg h.val * z)) ?_
  exact Cert.Spec.sub_nat 255 r.val (by omega)

theorem host_sd (h : Fin 8) (z : Fin 1) (l : Fin 128) : (V m c main_v65 (ix3 h z l) : EReal) = ((gam h.val ^ 256 : ℝ) : EReal) := by
  unfold V
  simp only [List.flatten_cons, List.flatten_nil, List.append_nil, List.cons_append, List.nil_append, hostOps0, hostOps0_1, hostOps0_2]
  after_reads_at
  rw [rate_eq h.val (by omega), ← Cert.Spec.exp_lg, Cert.Spec.n256_eq]
  norm_cast

/-- The angles of all rows and the lower lanes, as the host code multiplies them out. -/
def angles : S4096x64.Idx → EReal :=
  mulf (F := Ideal) (φ := .f32)
    (broadcastInDim S4096x64 ![0, 1] bcast_S4096x1_S4096x64_0_1
      (broadcastInDim S4096x1 ![0] bcast_S4096_S4096x1_0 (sitofp FTy.f32 (iotaInDim S4096 32 0))))
    (broadcastInDim S4096x64 ![0, 1] bcast_S1x64_S4096x64_0_1
      (broadcastInDim S1x64 ![1] bcast_S64_S1x64_1
        (Host.powf (broadcastInDim S64 ![] bcast_S_S64 (constant S_ FTy.f32 1176256512#32))
          (Host.divf
            (Host.negf
              (addf (broadcastInDim S64 ![] bcast_S_S64 (constant S_ FTy.f32 0#32))
                (mulf (broadcastInDim S64 ![] bcast_S_S64 (constant S_ FTy.f32 1073741824#32))
                  (sitofp FTy.f32 (iotaInDim S64 32 0)))))
            (broadcastInDim S64 ![] bcast_S_S64 (constant S_ FTy.f32 1124073472#32))))))

theorem angles_at (i : Fin 4096) (l : Fin 64) : angles (ix2 i l) = angle i.val l.val := by
  pointwise [angles]
  rw [count_eq i.val (by omega), count_eq l.val (by omega)]
  rw [angle, freq, Ideal.ofBits_zero_f32, zero_add]

/-- Two tables side by side. -/
theorem beside2 (X Y : S4096x64.Idx → EReal) (h) (i : Fin 4096) (l : Fin 128) :
    concatenate S4096x128 1 [⟨S4096x64, X⟩, ⟨S4096x64, Y⟩] h (ix2 i l)
      = if h : l.val < 64 then X (ix2 i ⟨l.val, h⟩) else Y (ix2 i ⟨l.val - 64, by omega⟩) := by
  by_cases c1 : l.val < 64
  · rw [dif_pos c1, concatenate_pair_apply_left (s₁ := S4096x64) (s₂ := S4096x64) 1 _ _ _ (ix2 i l) rfl (ix2 i ⟨l.val, c1⟩)
      (fun b => match b with | ⟨0, _⟩ => rfl | ⟨1, _⟩ => rfl)]
  · rw [dif_neg c1, concatenate_pair_apply_right (s₁ := S4096x64) (s₂ := S4096x64) 1 _ _ _ (ix2 i l) rfl rfl (ix2 i ⟨l.val - 64, by omega⟩)
      (fun b hb => match b, hb with | ⟨0, _⟩, _ => rfl | ⟨1, _⟩, hb => absurd rfl hb)
      (by show l.val - 64 + 64 = l.val; omega)]

theorem host_cos (i : Fin 4096) (l : Fin 128) : (V m c main_v85 (ix2 i l) : EReal) = Ideal.cos (angle i.val (l.val % 64)) := by
  unfold V
  simp only [List.flatten_cons, List.flatten_nil, List.append_nil, List.cons_append, List.nil_append, hostOps0, hostOps0_1, hostOps0_2]
  after_reads_simp
  refine (beside2 (Host.cos (F := Ideal) (φ := .f32) angles) (Host.cos (F := Ideal) (φ := .f32) angles) _ i l).trans ?_
  by_cases c1 : l.val < 64
  · rw [dif_pos c1]
    refine congrArg Ideal.cos ((angles_at _ _).trans (congrArg (angle i.val) ?_))
    show l.val = l.val % 64
    omega
  · rw [dif_neg c1]
    refine congrArg Ideal.cos ((angles_at _ _).trans (congrArg (angle i.val) ?_))
    show l.val - 64 = l.val % 64
    omega

theorem host_sin (i : Fin 4096) (l : Fin 128) : (V m c main_v87 (ix2 i l) : EReal)
    = if l.val < 64 then -Ideal.sin (angle i.val l.val) else Ideal.sin (angle i.val (l.val - 64)) := by
  unfold V
  simp only [List.flatten_cons, List.flatten_nil, List.append_nil, List.cons_append, List.nil_append, hostOps0, hostOps0_1, hostOps0_2]
  after_reads_simp
  refine (beside2 (Host.negf (F := Ideal) (φ := .f32) (Host.sin (F := Ideal) (φ := .f32) angles)) (Host.sin (F := Ideal) (φ := .f32) angles) _ i l).trans ?_
  by_cases c1 : l.val < 64
  · rw [dif_pos c1, if_pos c1]
    exact congrArg (fun z => -Ideal.sin z) (angles_at _ _)
  · rw [dif_neg c1, if_neg c1]
    exact congrArg Ideal.sin (angles_at _ _)

end Cert.KernelIdeal.Layer

end
-- ==== Proof.Layer.Tile.lean ====
/- What one grid point of the prompt kernel computes, written once for all its cases: the tile's projections, the rotary
   embedding, a head's retention block and its state, a gating chunk, a memory-attention head, and the stores of the two
   outputs as lists. The inputs are the point's blocks, the state the stream has reached and the bias tiles. -/
module

public import proofs.«01_k».proof.Proof.Layer.Runs

@[expose] public section

noncomputable section

namespace Cert.KernelIdeal.Layer

open Idealize.ShloMosaic
open Cert.KernelIdeal Cert.KernelIdeal.Gen

variable {F : FTy → Type} [FloatOps F]

/-- The blocks a grid point reads, the state before it, and the four bias tiles. -/
structure In (F : FTy → Type) where
  x : Vec F S1x512x2048 .f32
  cos : Vec F S512x128 .f32
  sin : Vec F S512x128 .f32
  mkb : Vec F S1x256x512 .bf16
  mvb : Vec F S1x256x512 .bf16
  gn : Vec F S1x2048 .f32
  w : Vec F S2048x6656 .bf16
  gr : Vec F S1x1024 .f32
  gg : Vec F S1x512 .f32
  ws : Vec F S4x128x128 .f32
  dm : Vec F S8x256x256 .f32
  qd : Vec F S8x256x128 .f32
  kd : Vec F S8x256x128 .f32
  sd : Vec F S8x1x128 .f32
  st : Vec F S1x8x128x128 .f32
  b : Fin 4 → Vec F S1x128x128 .f32

variable (I : In F)

/-! ## The normalised rows -/

/-- The rows of `x` as one matrix. -/
def In.xm : FVec F S512x2048 .f32 := shapeCast S512x2048 (View.ld I.x (Rect.unit (s := S1x512x2048) ![0, 0, 0] S1x512x2048.size inb_S1x512x2048_S1x512x2048_0_0_0)) shapeCasts_S1x512x2048_S512x2048

/-- The weights of the norm, as a row. -/
def In.gnm : FVec F S1x2048 .f32 := shapeCast S1x2048 (View.ld I.gn (Rect.unit (s := S1x2048) ![0, 0] S1x2048.size inb_S1x2048_S1x2048_0_0)) shapeCasts_S1x2048_S1x2048

/-- The reciprocal root of each row's mean square plus the small constant. -/
def In.rs : FVec F S512x1 .f32 :=
  rsqrt (addf (divf (shapeCast S512x1 (multiReduction .add [1] S512 (mulf I.xm I.xm) 0x00000000#32 reduces_S512x2048_S512 (.inl rfl) rfl) shapeCasts_S512_S512x1)
    (broadcast S512x1 (Scalar.ofBits .f32 0x45000000#32))) (broadcast S512x1 (Scalar.ofBits .f32 0x358637BD#32)))

/-- The rows before their scale: `x` times the scaled-down weights. -/
def In.hE : FVec F S512x2048 .bf16 :=
  shapeCast S512x2048 (truncf .bf16 (mulf I.xm (broadcastTo S512x2048 (mulf I.gnm (broadcast S1x2048 (Scalar.ofBits .f32 0x2F800000#32))) broadcasts_S1x2048_S512x2048)) bitsLt_bf16_f32)
    shapeCasts_S512x2048_S512x2048

/-- The normalised rows. -/
def In.hL : FVec F S512x2048 .bf16 :=
  shapeCast S512x2048 (truncf .bf16 (mulf (mulf I.xm (broadcastTo S512x2048 I.rs broadcasts_S512x1_S512x2048)) (broadcastTo S512x2048 I.gnm broadcasts_S1x2048_S512x2048)) bitsLt_bf16_f32)
    shapeCasts_S512x2048_S512x2048

/-- The row scale put off by the first head pair, in every lane of a head. -/
def In.rsb : FVec F S512x128 .f32 :=
  broadcastTo S512x128 (shapeCast S512x1 (mulf I.rs (broadcast S512x1 (Scalar.ofBits .f32 0x4F800000#32))) shapeCasts_S512x1_S512x1) broadcasts_S512x1_S512x128

/-! ## The projections -/

theorem inbW2 : ∀ (s p : Fin 4) (a : Fin 2), (![0, 1024 * s.val + 256 * p.val] : Fin 2 → ℕ) a + S2048x256.size a ≤ S2048x6656.size a := by decide
theorem inbW5 : ∀ (s : Fin 5) (a : Fin 2), (![0, 4096 + 512 * s.val] : Fin 2 → ℕ) a + S2048x512.size a ≤ S2048x6656.size a := by decide

/-- The columns of the projection that section `s` (queries, keys, values, gates) of head pair `p` takes. -/
def In.w2 (s p : Fin 4) : FVec F S2048x256 .bf16 :=
  shapeCast S2048x256 (View.ld I.w (Rect.unit (s := S2048x6656) ![0, 1024 * s.val + 256 * p.val] S2048x256.size (inbW2 s p))) shapeCasts_S2048x256_S2048x256

/-- The columns of the projection's wide section `s` (gating value in, gated value, gate; attention query, gate). -/
def In.w5 (s : Fin 5) : FVec F S2048x512 .bf16 :=
  shapeCast S2048x512 (View.ld I.w (Rect.unit (s := S2048x6656) ![0, 4096 + 512 * s.val] S2048x512.size (inbW5 s))) shapeCasts_S2048x512_S2048x512

theorem slices2 : ∀ hh : Fin 2, S512x256.Slices ![0, 128 * hh.val] S512x128 := by decide
theorem slices4 : ∀ hd : Fin 4, S512x512.Slices ![0, 128 * hd.val] S512x128 := by decide
theorem slicesG : ∀ bi hh : Fin 2, S512x256.Slices ![256 * bi.val, 128 * hh.val] S256x128 := by decide
theorem slicesB : ∀ bi : Fin 2, S512x128.Slices ![256 * bi.val, 0] S256x128 := by decide
theorem slicesC : ∀ ch g : Fin 4, S512x512.Slices ![128 * ch.val, 128 * g.val] S128x128 := by decide

/-- One head's columns of a pair's projection. -/
def half {α : Type} (hh : Fin 2) (u : S512x256.Idx → α) : S512x128.Idx → α := extractStridedSlice S512x128 ![0, 128 * hh.val] u (slices2 hh)

/-- The first pair's projection: unscaled rows, the scale put on the columns afterwards. -/
def In.pE (s : Fin 4) : FVec F S512x256 .f32 :=
  let r : FVec F S512x256 .f32 := matmul dot_S512x2048_S2048x256_S512x256_1_0_0_1_n_n none I.hE (I.w2 s 0) (constant S512x256 .f32 0x00000000#32)
  concatenate S512x256 1 [⟨S512x128, (mulf (half 0 r) I.rsb : FVec F S512x128 .f32)⟩, ⟨S512x128, (mulf (half 1 r) I.rsb : FVec F S512x128 .f32)⟩] concatenates_S512x128_S512x128_S512x256_d1

/-- A later pair's projection. -/
def In.pL (s p : Fin 4) : FVec F S512x256 .f32 :=
  matmul dot_S512x2048_S2048x256_S512x256_1_0_0_1_n_n none I.hL (I.w2 s p) (constant S512x256 .f32 0x00000000#32)

/-- Head pair `p`'s projection of section `s`. -/
def In.pr (s p : Fin 4) : FVec F S512x256 .f32 := match p.val with
  | 0 => I.pE s
  | _ + 1 => I.pL s p

/-- A wide section's projection. -/
def In.pw (s : Fin 5) : FVec F S512x512 .f32 :=
  matmul dot_S512x2048_S2048x512_S512x512_1_0_0_1_n_n none I.hL (I.w5 s) (constant S512x512 .f32 0x00000000#32)

/-! ## Shared pieces of arithmetic -/

/-- Half a turn of a head's lanes, the two tables weighting the lanes and their turned copy. -/
def In.rope (u : FVec F S512x128 .f32) : FVec F S512x128 .f32 :=
  addf (mulf u (shapeCast S512x128 (View.ld I.cos (Rect.unit (s := S512x128) ![0, 0] S512x128.size inb_S512x128_S512x128_0_0)) shapeCasts_S512x128_S512x128))
    (mulf (dynamicRotate 1 64#32 none u rotates_S512x128_d1) (shapeCast S512x128 (View.ld I.sin (Rect.unit (s := S512x128) ![0, 0] S512x128.size inb_S512x128_S512x128_0_0)) shapeCasts_S512x128_S512x128))

/-- `x / (1 + exp (0 - x))`, lane by lane. -/
def silu {s : Shape} (u : FVec F s .f32) : FVec F s .f32 :=
  divf u (addf (broadcast s (Scalar.ofBits .f32 0x3F800000#32)) (exp (subf (broadcast s (Scalar.ofBits .f32 0x00000000#32)) u)))

/-! ## A head's retention block -/

variable (p : Fin 4) (hh bi : Fin 2)

def In.q : FVec F S512x128 .bf16 := truncf .bf16 (I.rope (half hh (I.pr 0 p))) bitsLt_bf16_f32
def In.k : FVec F S512x128 .f32 := mulf (I.rope (half hh (I.pr 1 p))) (broadcast S512x128 (Scalar.ofBits .f32 0x3DB504F3#32))
def In.v : FVec F S512x128 .bf16 := truncf .bf16 (half hh (I.pr 2 p) : FVec F S512x128 .f32) bitsLt_bf16_f32

/-- Rows of block `bi`. -/
def blk {α : Type} (bi : Fin 2) (u : S512x128.Idx → α) : S256x128.Idx → α := extractStridedSlice S256x128 ![256 * bi.val, 0] u (slicesB bi)

theorem inbD : ∀ (p : Fin 4) (hh : Fin 2) (a : Fin 3), (![2 * p.val + hh.val, 0, 0] : Fin 3 → ℕ) a + S1x256x256.size a ≤ S8x256x256.size a := by decide
theorem inbQ : ∀ (p : Fin 4) (hh : Fin 2) (a : Fin 3), (![2 * p.val + hh.val, 0, 0] : Fin 3 → ℕ) a + S1x256x128.size a ≤ S8x256x128.size a := by decide
theorem inbS : ∀ (p : Fin 4) (hh : Fin 2) (a : Fin 3), (![2 * p.val + hh.val, 0, 0] : Fin 3 → ℕ) a + S1x1x128.size a ≤ S8x1x128.size a := by decide
theorem inbT : ∀ (p : Fin 4) (hh : Fin 2) (a : Fin 4), (![0, 2 * p.val + hh.val, 0, 0] : Fin 4 → ℕ) a + S1x1x128x128.size a ≤ S1x8x128x128.size a := by decide
theorem inbR : ∀ (p : Fin 4) (hh : Fin 2) (a : Fin 2), (![0, 128 * (2 * p.val + hh.val)] : Fin 2 → ℕ) a + S1x128.size a ≤ S1x1024.size a := by decide
theorem inbO : ∀ (p : Fin 4) (hh bi : Fin 2) (a : Fin 3), (![0, 256 * bi.val, 128 * (2 * p.val + hh.val)] : Fin 3 → ℕ) a + S1x256x128.size a ≤ S1x512x2048.size a := by decide

/-- Where head `2p + hh`'s state lies. -/
abbrev stRect : Rect S1x8x128x128 := Rect.unit (s := S1x8x128x128) ![0, 2 * p.val + hh.val, 0, 0] S1x1x128x128.size (inbT p hh)

/-- The state after a block, from the state `s` before it. -/
def In.stNext (s : Vec F S1x1x128x128 .f32) : FVec F S1x1x128x128 .f32 :=
  shapeCast S1x1x128x128 (addf
    (mulf (shapeCast S128x128 s shapeCasts_S1x1x128x128_S128x128)
      (broadcastTo S128x128 (shapeCast S1x128 (View.ld I.sd (Rect.unit (s := S8x1x128) ![2 * p.val + hh.val, 0, 0] S1x1x128.size (inbS p hh))) shapeCasts_S1x1x128_S1x128) broadcasts_S1x128_S128x128))
    (matmul dot_S256x128_S256x128_S128x128_0_0_1_1_n_n none
      (truncf .bf16 (mulf (blk bi (I.k p hh)) (shapeCast S256x128 (View.ld I.kd (Rect.unit (s := S8x256x128) ![2 * p.val + hh.val, 0, 0] S1x256x128.size (inbQ p hh))) shapeCasts_S1x256x128_S256x128) : FVec F S256x128 .f32) bitsLt_bf16_f32)
      (blk bi (I.v p hh)) (constant S128x128 .f32 0x00000000#32))) shapeCasts_S128x128_S1x1x128x128

/-- A block's output before its normalisation, from the state `s` before it. -/
def In.oBlk (s : Vec F S1x1x128x128 .f32) : FVec F S256x128 .f32 :=
  addf
    (matmul dot_S256x256_S256x128_S256x128_1_0_0_1_n_n none
      (truncf .bf16 (mulf
        (matmul dot_S256x128_S256x128_S256x256_1_1_0_0_n_n none (blk bi (I.q p hh)) (truncf .bf16 (blk bi (I.k p hh) : FVec F S256x128 .f32) bitsLt_bf16_f32) (constant S256x256 .f32 0x00000000#32))
        (shapeCast S256x256 (View.ld I.dm (Rect.unit (s := S8x256x256) ![2 * p.val + hh.val, 0, 0] S1x256x256.size (inbD p hh))) shapeCasts_S1x256x256_S256x256) : FVec F S256x256 .f32) bitsLt_bf16_f32)
      (blk bi (I.v p hh)) (constant S256x128 .f32 0x00000000#32))
    (mulf
      (matmul dot_S256x128_S128x128_S256x128_1_0_0_1_n_n none (blk bi (I.q p hh)) (truncf .bf16 (shapeCast S128x128 s shapeCasts_S1x1x128x128_S128x128 : FVec F S128x128 .f32) bitsLt_bf16_f32) (constant S256x128 .f32 0x00000000#32))
      (shapeCast S256x128 (View.ld I.qd (Rect.unit (s := S8x256x128) ![2 * p.val + hh.val, 0, 0] S1x256x128.size (inbQ p hh))) shapeCasts_S1x256x128_S256x128))

/-- A block's rows less their mean. -/
def center (o : FVec F S256x128 .f32) : FVec F S256x128 .f32 :=
  subf o (broadcastTo S256x128 (divf (shapeCast S256x1 (multiReduction .add [1] S256 o 0x00000000#32 reduces_S256x128_S256 (.inl rfl) rfl) shapeCasts_S256_S256x1)
    (broadcast S256x1 (Scalar.ofBits .f32 0x43000000#32))) broadcasts_S256x1_S256x128)

/-- Centred rows `d` over the root of their mean square plus the small constant. -/
def rescale (d : FVec F S256x128 .f32) : FVec F S256x128 .f32 :=
  mulf d (broadcastTo S256x128 (rsqrt (addf (divf (shapeCast S256x1 (multiReduction .add [1] S256 (mulf d d) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128)

/-- What the block stores of a head whose output is `o`: normalised, weighted and gated. -/
def In.retOut (o : FVec F S256x128 .f32) : FVec F S1x256x128 .bf16 :=
  shapeCast S1x256x128 (truncf .bf16 (mulf
    (mulf (rescale (center o)) (broadcastTo S256x128 (shapeCast S1x128 (View.ld I.gr (Rect.unit (s := S1x1024) ![0, 128 * (2 * p.val + hh.val)] S1x128.size (inbR p hh))) shapeCasts_S1x128_S1x128) broadcasts_S1x128_S256x128))
    (silu (extractStridedSlice S256x128 ![256 * bi.val, 128 * hh.val] (I.pr 3 p) (slicesG bi hh))) : FVec F S256x128 .f32) bitsLt_bf16_f32) shapeCasts_S256x128_S1x256x128

/-- The state a head brings to the tile's first block, and the one it brings to the second. -/
def In.s0 : Vec F S1x1x128x128 .f32 := View.ld I.st (stRect p hh)
def In.s1 : Vec F S1x1x128x128 .f32 := I.stNext p hh 0 (I.s0 p hh)
def In.s2 : Vec F S1x1x128x128 .f32 := I.stNext p hh 1 (I.s1 p hh)

def In.ret0 : View.Piece (Elt F) S1x512x2048 .bf16 :=
  ⟨Rect.unit (s := S1x512x2048) ![0, 256 * (0 : Fin 2).val, 128 * (2 * p.val + hh.val)] S1x256x128.size (inbO p hh 0), I.retOut p hh 0 (I.oBlk p hh 0 (I.s0 p hh))⟩
def In.ret1 : View.Piece (Elt F) S1x512x2048 .bf16 :=
  ⟨Rect.unit (s := S1x512x2048) ![0, 256 * (1 : Fin 2).val, 128 * (2 * p.val + hh.val)] S1x256x128.size (inbO p hh 1), I.retOut p hh 1 (I.oBlk p hh 1 (I.s1 p hh))⟩

def In.st1 : View.Piece (Elt F) S1x8x128x128 .f32 := ⟨stRect p hh, I.s1 p hh⟩
def In.st2 : View.Piece (Elt F) S1x8x128x128 .f32 := ⟨stRect p hh, I.s2 p hh⟩

/-! ## A memory-attention head -/

variable (hd : Fin 4)

theorem inbM : ∀ (hd : Fin 4) (a : Fin 3), (![0, 0, 128 * hd.val] : Fin 3 → ℕ) a + S1x256x128.size a ≤ S1x256x512.size a := by decide
theorem inbX : ∀ (hd : Fin 4) (a : Fin 3), (![0, 0, 1536 + 128 * hd.val] : Fin 3 → ℕ) a + S1x512x128.size a ≤ S1x512x2048.size a := by decide

/-- One head's columns of a wide projection. -/
def col4 (hd : Fin 4) (u : FVec F S512x512 .f32) : FVec F S512x128 .f32 := extractStridedSlice S512x128 ![0, 128 * hd.val] u (slices4 hd)

/-- The head's scores. -/
def In.xs : FVec F S512x256 .f32 :=
  mulf (matmul dot_S512x128_S256x128_S512x256_1_1_0_0_n_n none (truncf .bf16 (col4 hd (I.pw 3)) bitsLt_bf16_f32)
    (shapeCast S256x128 (View.ld I.mkb (Rect.unit (s := S1x256x512) ![0, 0, 128 * hd.val] S1x256x128.size (inbM hd))) shapeCasts_S1x256x128_S256x128 : FVec F S256x128 .bf16) (constant S512x256 .f32 0x00000000#32))
    (broadcast S512x256 (Scalar.ofBits .f32 0x3DB504F3#32))

/-- The exponentials of the scores less their row's greatest. -/
def In.xe : FVec F S512x256 .f32 :=
  exp (subf (I.xs hd) (broadcastTo S512x256 (shapeCast S512x1 (multiReduction .maximumf [1] S512 (I.xs hd) 0xFF800000#32 reduces_S512x256_S512 (.inl rfl) rfl) shapeCasts_S512_S512x1) broadcasts_S512x1_S512x256))

/-- The head's output before its gate. -/
def In.xo : FVec F S512x128 .f32 :=
  divf (matmul dot_S512x256_S256x128_S512x128_1_0_0_1_n_n none (truncf .bf16 (I.xe hd) bitsLt_bf16_f32)
      (shapeCast S256x128 (View.ld I.mvb (Rect.unit (s := S1x256x512) ![0, 0, 128 * hd.val] S1x256x128.size (inbM hd))) shapeCasts_S1x256x128_S256x128 : FVec F S256x128 .bf16) (constant S512x128 .f32 0x00000000#32))
    (broadcastTo S512x128 (shapeCast S512x1 (multiReduction .add [1] S512 (I.xe hd) 0x00000000#32 reduces_S512x256_S512 (.inl rfl) rfl) shapeCasts_S512_S512x1) broadcasts_S512x1_S512x128)

def In.xOut : FVec F S1x512x128 .bf16 :=
  shapeCast S1x512x128 (truncf .bf16 (mulf (I.xo hd) (silu (col4 hd (I.pw 4)))) bitsLt_bf16_f32) shapeCasts_S512x128_S1x512x128

def In.xp : View.Piece (Elt F) S1x512x2048 .bf16 :=
  ⟨Rect.unit (s := S1x512x2048) ![0, 0, 1536 + 128 * hd.val] S1x512x128.size (inbX hd), I.xOut hd⟩

/-! ## A gating chunk -/

variable (g ch : Fin 4)

theorem inbG : ∀ (g : Fin 4) (a : Fin 3), (![g.val, 0, 0] : Fin 3 → ℕ) a + S1x128x128.size a ≤ S4x128x128.size a := by decide
theorem inbGo : ∀ (g ch : Fin 4) (a : Fin 3), (![0, 128 * ch.val, 1024 + 128 * g.val] : Fin 3 → ℕ) a + S1x128x128.size a ≤ S1x512x2048.size a := by decide

/-- The gated values less their row's mean. -/
def In.gc : FVec F S512x512 .f32 :=
  subf (I.pw 1) (broadcastTo S512x512 (divf (shapeCast S512x1 (multiReduction .add [1] S512 (I.pw 1) 0x00000000#32 reduces_S512x512_S512 (.inl rfl) rfl) shapeCasts_S512_S512x1)
    (broadcast S512x1 (Scalar.ofBits .f32 0x44000000#32))) broadcasts_S512x1_S512x512)

/-- The gated values normalised and weighted. -/
def In.gv : FVec F S512x512 .f32 :=
  mulf (mulf I.gc (broadcastTo S512x512 (rsqrt (addf (divf (shapeCast S512x1 (multiReduction .add [1] S512 (mulf I.gc I.gc) 0x00000000#32 reduces_S512x512_S512 (.inl rfl) rfl) shapeCasts_S512_S512x1)
    (broadcast S512x1 (Scalar.ofBits .f32 0x44000000#32))) (broadcast S512x1 (Scalar.ofBits .f32 0x358637BD#32)))) broadcasts_S512x1_S512x512))
    (broadcastTo S512x512 (shapeCast S1x512 (View.ld I.gg (Rect.unit (s := S1x512) ![0, 0] S1x512.size inb_S1x512_S1x512_0_0)) shapeCasts_S1x512_S1x512) broadcasts_S1x512_S512x512)

/-- A group's mixing matrix with its upper triangle cleared. -/
def In.wm : FVec F S128x128 .bf16 :=
  truncf .bf16 (select (cmpi .sge (iota .tc S128x128 32 [0] iota_S128x128_d0_w32) (iota .tc S128x128 32 [1] iota_S128x128_d1_w32))
    (shapeCast S128x128 (View.ld I.ws (Rect.unit (s := S4x128x128) ![g.val, 0, 0] S1x128x128.size (inbG g))) shapeCasts_S1x128x128_S128x128)
    (broadcast S128x128 (Scalar.ofBits .f32 0x00000000#32)) : FVec F S128x128 .f32) bitsLt_bf16_f32

/-- One chunk of one group of a wide projection. -/
def tile4 (ch g : Fin 4) (u : FVec F S512x512 .f32) : FVec F S128x128 .f32 := extractStridedSlice S128x128 ![128 * ch.val, 128 * g.val] u (slicesC ch g)

def In.gOut : FVec F S1x128x128 .bf16 :=
  shapeCast S1x128x128 (truncf .bf16 (mulf (tile4 ch g (I.pw 0))
    (mulf (addf (matmul dot_S128x128_S128x128_S128x128_1_0_0_1_n_n none (I.wm g) (truncf .bf16 (tile4 ch g I.gv) bitsLt_bf16_f32) (constant S128x128 .f32 0x00000000#32))
        (shapeCast S128x128 (I.b g) shapeCasts_S1x128x128_S128x128))
      (silu (tile4 ch g (I.pw 2))))) bitsLt_bf16_f32) shapeCasts_S128x128_S1x128x128

def In.gp : View.Piece (Elt F) S1x512x2048 .bf16 :=
  ⟨Rect.unit (s := S1x512x2048) ![0, 128 * ch.val, 1024 + 128 * g.val] S1x128x128.size (inbGo g ch), I.gOut g ch⟩

/-! ## The stores, last first -/

/-- The stores into the mixed tile. -/
def In.mixPieces : List (View.Piece (Elt F) S1x512x2048 .bf16) :=
  [I.gp 3 3, I.gp 3 2, I.gp 3 1, I.gp 3 0, I.gp 2 3, I.gp 2 2, I.gp 2 1, I.gp 2 0, I.gp 1 3, I.gp 1 2, I.gp 1 1, I.gp 1 0, I.gp 0 3, I.gp 0 2, I.gp 0 1, I.gp 0 0,
    I.xp 3, I.xp 2, I.xp 1, I.xp 0,
    I.ret1 3 1, I.ret1 3 0, I.ret0 3 1, I.ret0 3 0, I.ret1 2 1, I.ret1 2 0, I.ret0 2 1, I.ret0 2 0,
    I.ret1 1 1, I.ret1 1 0, I.ret0 1 1, I.ret0 1 0, I.ret1 0 1, I.ret1 0 0, I.ret0 0 1, I.ret0 0 0]

/-- The stores into the state. -/
def In.stPieces : List (View.Piece (Elt F) S1x8x128x128 .f32) :=
  [I.st2 3 1, I.st2 3 0, I.st1 3 1, I.st1 3 0, I.st2 2 1, I.st2 2 0, I.st1 2 1, I.st1 2 0,
    I.st2 1 1, I.st2 1 0, I.st1 1 1, I.st1 1 0, I.st2 0 1, I.st2 0 0, I.st1 0 1, I.st1 0 0]

end Cert.KernelIdeal.Layer

end

end
-- ==== Proof.Layer.Bias.lean ====
/- The bias tiles the first grid point fills from `b_s`, and the state's fill with zeros, as `Tile.lean` takes them. -/
module

public import proofs.«01_k».proof.Proof.Layer.Tile

@[expose] public section

noncomputable section

namespace Cert.KernelIdeal.Layer

open Idealize.ShloMosaic
open Cert.KernelIdeal Cert.KernelIdeal.Gen

variable {F : FTy → Type} [FloatOps F]

/-- A grid point's inputs from its blocks. -/
def inOf (x0 : Vec F S1x512x2048 .f32) (x1 : Vec F S512x128 .f32) (x2 : Vec F S512x128 .f32) (x3 : Vec F S1x256x512 .bf16) (x4 : Vec F S1x256x512 .bf16)
    (x5 : Vec F S1x2048 .f32) (x6 : Vec F S2048x6656 .bf16) (x7 : Vec F S1x1024 .f32) (x8 : Vec F S1x512 .f32) (x9 : Vec F S4x128x128 .f32)
    (x11 : Vec F S8x256x256 .f32) (x12 : Vec F S8x256x128 .f32) (x13 : Vec F S8x256x128 .f32) (x14 : Vec F S8x1x128 .f32)
    (st : Vec F S1x8x128x128 .f32) (b : Fin 4 → Vec F S1x128x128 .f32) : In F :=
  ⟨x0, x1, x2, x3, x4, x5, x6, x7, x8, x9, x11, x12, x13, x14, st, b⟩

theorem inbBs : ∀ (g : Fin 4) (a : Fin 2), (![g.val, 0] : Fin 2 → ℕ) a + S1x128.size a ≤ S4x128.size a := by decide

/-- A group's bias, one row's number in every lane: the diagonal of the row repeated, summed over the lanes. -/
def biasTile (bs : Vec F S4x128 .f32) (g : Fin 4) : Vec F S1x128x128 .f32 :=
  shapeCast S1x128x128 (broadcastTo S128x128 (shapeCast S128x1 (shapeCast S128x1 (multiReduction .add [1] S128
    (select (cmpi .eq (iota .tc S128x128 32 [0] iota_S128x128_d0_w32) (iota .tc S128x128 32 [1] iota_S128x128_d1_w32))
      (broadcastTo S128x128 (shapeCast S1x128 (shapeCast S1x128 (View.ld bs (Rect.unit (s := S4x128) ![g.val, 0] S1x128.size (inbBs g))) shapeCasts_S1x128_S1x128) shapeCasts_S1x128_S1x128) broadcasts_S1x128_S128x128)
      (broadcast S128x128 (Scalar.ofBits .f32 0x00000000#32)) : FVec F S128x128 .f32)
    0x00000000#32 reduces_S128x128_S128 (.inl rfl) rfl) shapeCasts_S128_S128x1) shapeCasts_S128x1_S128x1) broadcasts_S128x1_S128x128) shapeCasts_S128x128_S1x128x128

/-- The store of the four bias tiles, last first. -/
def biasPieces (bs : Vec F S4x128 .f32) : List (View.Piece (Elt F) S4x128x128 .f32) :=
  [⟨Rect.unit (s := S4x128x128) ![(3 : Fin 4).val, 0, 0] S1x128x128.size (inbG 3), biasTile bs 3⟩,
    ⟨Rect.unit (s := S4x128x128) ![(2 : Fin 4).val, 0, 0] S1x128x128.size (inbG 2), biasTile bs 2⟩,
    ⟨Rect.unit (s := S4x128x128) ![(1 : Fin 4).val, 0, 0] S1x128x128.size (inbG 1), biasTile bs 1⟩,
    ⟨Rect.unit (s := S4x128x128) ![(0 : Fin 4).val, 0, 0] S1x128x128.size (inbG 0), biasTile bs 0⟩]

/-- The state's fill at the head of a stream. -/
def fillPieces : List (View.Piece (Elt F) S1x8x128x128 .f32) :=
  [⟨Rect.unit (s := S1x8x128x128) ![0, 0, 0, 0] S1x8x128x128.size inb_S1x8x128x128_S1x8x128x128_0_0_0_0, k0_pay9⟩]

end Cert.KernelIdeal.Layer

end

end
-- ==== Proof.Math.TileProj.lean ====
/- A grid point's blocks as parts of the arguments, and what its projections, queries, keys and values hold. -/
module

public import proofs.«01_k».proof.Proof.Layer.Bias
public import proofs.«01_k».proof.Proof.Math.Block
public import Idealize.ShloMosaic.Lib.Pointwise

@[expose] public section

noncomputable section

namespace Cert.KernelIdeal.Layer

open Idealize.ShloMosaic Idealize.ShloMosaic.Pointwise
open Cert.KernelIdeal Cert.KernelIdeal.Gen
open Cert.Spec (Args invRms angle dec gam c2048 down up kscale)

/-- The blocks of the tile of stream `b` whose first row is `i0`, with the state its rows so far have reached. -/
structure Of (A : Args) (b i0 : ℕ) (I : In Ideal) : Prop where
  x : ∀ (r : Fin 512) (d : Fin 2048), I.x (ix3 0 r d) = A.x b (i0 + r.val) d.val
  cos : ∀ (r : Fin 512) (l : Fin 128), I.cos (ix2 r l) = Ideal.cos (angle (i0 + r.val) (l.val % 64))
  sin : ∀ (r : Fin 512) (l : Fin 128), I.sin (ix2 r l)
    = if l.val < 64 then -Ideal.sin (angle (i0 + r.val) l.val) else Ideal.sin (angle (i0 + r.val) (l.val - 64))
  mkb : ∀ (j : Fin 256) (c : Fin 512), I.mkb (ix3 0 j c) = A.mem b j.val (c.val / 128) (c.val % 128)
  mvb : ∀ (j : Fin 256) (c : Fin 512), I.mvb (ix3 0 j c) = A.val b j.val (c.val / 128) (c.val % 128)
  gn : ∀ d : Fin 2048, I.gn (ix2 0 d) = A.gn d.val
  w : ∀ (d : Fin 2048) (c : Fin 6656), I.w (ix2 d c) = A.w d.val c.val
  gr : ∀ c : Fin 1024, I.gr (ix2 0 c) = A.gr c.val
  gg : ∀ c : Fin 512, I.gg (ix2 0 c) = A.gg c.val
  ws : ∀ (g : Fin 4) (r j : Fin 128), I.ws (ix3 g r j) = A.ws g.val r.val j.val
  dm : ∀ (h : Fin 8) (r j : Fin 256), I.dm (ix3 h r j) = dec h.val r.val j.val
  qd : ∀ (h : Fin 8) (r : Fin 256) (l : Fin 128), I.qd (ix3 h r l) = ((gam h.val ^ (r.val + 1) : ℝ) : EReal)
  kd : ∀ (h : Fin 8) (r : Fin 256) (l : Fin 128), I.kd (ix3 h r l) = ((gam h.val ^ (256 - 1 - r.val) : ℝ) : EReal)
  sd : ∀ (h : Fin 8) (l : Fin 128), I.sd (ix3 h 0 l) = ((gam h.val ^ 256 : ℝ) : EReal)
  st : ∀ (h : Fin 8) (d e : Fin 128), I.st (ix4 0 h d e) = (A.s b h.val i0 d.val e.val : EReal)
  bias : ∀ (g : Fin 4) (r l : Fin 128), I.b g (ix3 0 r l) = A.bs g.val r.val

variable {A : Args} {b i0 : ℕ} {I : In Ideal} (O : Of A b i0 I)

theorem half_at (hh : Fin 2) (u : S512x256.Idx → EReal) (r : Fin 512) (l : Fin 128) :
    half hh u (ix2 r l) = u (ix2 r ⟨128 * hh.val + l.val, by omega⟩) := by
  pointwise [half]

include O

theorem xm_of (r : Fin 512) (d : Fin 2048) : I.xm (ix2 r d) = A.x b (i0 + r.val) d.val := by
  pointwise [In.xm]
  exact O.x r d

theorem gnm_of (r : Fin 1) (d : Fin 2048) : I.gnm (ix2 r d) = A.gn d.val := by
  pointwise [In.gnm]
  exact O.gn d

/-- A row's scale. -/
theorem rs_of (r : Fin 512) (z : Fin 1) : I.rs (ix2 r z) = invRms 2048 c2048 (A.x b (i0 + r.val)) := by
  pointwise [In.rs]
  simp only [xm_of O]
  rfl

theorem hE_of (r : Fin 512) (d : Fin 2048) : I.hE (ix2 r d) = A.x b (i0 + r.val) d.val * (A.gn d.val * down) := by
  pointwise [In.hE]
  rw [xm_of O, gnm_of O]

theorem hL_of (r : Fin 512) (d : Fin 2048) : I.hL (ix2 r d) = A.h b (i0 + r.val) d.val := by
  pointwise [In.hL]
  rw [xm_of O, rs_of O, gnm_of O]
  rfl

theorem rsb_of (r : Fin 512) (l : Fin 128) : I.rsb (ix2 r l) = invRms 2048 c2048 (A.x b (i0 + r.val)) * up := by
  pointwise [In.rsb]
  rw [rs_of O]

theorem w2_of (s p : Fin 4) (d : Fin 2048) (c : Fin 256) : I.w2 s p (ix2 d c) = A.w d.val (1024 * s.val + 256 * p.val + c.val) := by
  pointwise [In.w2]
  exact O.w _ _

theorem w5_of (s : Fin 5) (d : Fin 2048) (c : Fin 512) : I.w5 s (ix2 d c) = A.w d.val (4096 + 512 * s.val + c.val) := by
  pointwise [In.w5]
  exact O.w _ _

theorem pL_of (s p : Fin 4) (r : Fin 512) (c : Fin 256) : I.pL s p (ix2 r c) = A.P b (i0 + r.val) (1024 * s.val + 256 * p.val + c.val) := by
  pointwise [In.pL]
  simp only [hL_of O, w2_of O]
  rfl

/-- A wide section. -/
theorem pw_of (s : Fin 5) (r : Fin 512) (c : Fin 512) : I.pw s (ix2 r c) = A.P b (i0 + r.val) (4096 + 512 * s.val + c.val) := by
  pointwise [In.pw]
  simp only [hL_of O, w5_of O]
  rfl

/-- The rotary embedding of a row. -/
theorem rope_of (u : FVec Ideal S512x128 .f32) (U : ℕ → EReal) (r : Fin 512) (hu : ∀ l : Fin 128, u (ix2 r l) = U l.val) (l : Fin 128) :
    I.rope u (ix2 r l) = Spec.rope U (i0 + r.val) l.val := by
  pointwise [In.rope]
  rw [hu, hu, O.cos, O.sin]
  unfold Spec.rope
  have hl := l.isLt
  by_cases h : l.val < 64
  · rw [if_pos h, if_pos h, Nat.mod_eq_of_lt h]
    show U l.val * _ + U ((l.val + 128 - 64) % 128) * _ = _
    rw [show (l.val + 128 - 64) % 128 = l.val + 64 by omega, mul_neg, ← sub_eq_add_neg]
  · rw [if_neg h, if_neg h, show l.val % 64 = l.val - 64 by omega]
    show U l.val * _ + U ((l.val + 128 - 64) % 128) * _ = _
    rw [show (l.val + 128 - 64) % 128 = l.val - 64 by omega, add_comm]

variable (hA : A.Real)
include hA

theorem pE_of (s : Fin 4) (r : Fin 512) (c : Fin 256) : I.pE s (ix2 r c) = A.P b (i0 + r.val) (1024 * s.val + 256 * (0 : Fin 4).val + c.val) := by
  pointwise [In.pE, half]
  simp only [hE_of O, w2_of O, rsb_of O]
  split
  · exact Spec.early hA _ _ _
  · rename_i h
    rw [show 128 + (c.val - 128) = c.val by omega]
    exact Spec.early hA _ _ _

/-- A head pair's section. -/
theorem pr_of (s p : Fin 4) (r : Fin 512) (c : Fin 256) : I.pr s p (ix2 r c) = A.P b (i0 + r.val) (1024 * s.val + 256 * p.val + c.val) := by
  match p with
  | ⟨0, _⟩ => exact pE_of O hA s r c
  | ⟨n + 1, h⟩ => exact pL_of O s ⟨n + 1, h⟩ r c

theorem q_of (p : Fin 4) (hh : Fin 2) (r : Fin 512) (l : Fin 128) : I.q p hh (ix2 r l) = (A.q b (2 * p.val + hh.val) (i0 + r.val) l.val : EReal) := by
  rw [← Spec.Q_eq hA]
  exact rope_of O _ _ r (fun l => by
    rw [half_at, pr_of O hA]
    exact congrArg (A.P b (i0 + r.val)) (by show 1024 * 0 + 256 * p.val + (128 * hh.val + l.val) = _; omega)) l

theorem k_of (p : Fin 4) (hh : Fin 2) (r : Fin 512) (l : Fin 128) : I.k p hh (ix2 r l) = (A.k b (2 * p.val + hh.val) (i0 + r.val) l.val : EReal) := by
  rw [← Spec.K_eq hA]
  exact congrArg (fun z : EReal => z * kscale) (rope_of O _ (fun l => A.P b (i0 + r.val) (1024 + 128 * (2 * p.val + hh.val) + l)) r (fun l => by
    rw [half_at, pr_of O hA]
    exact congrArg (A.P b (i0 + r.val)) (by show 1024 * 1 + 256 * p.val + (128 * hh.val + l.val) = _; omega)) l)

theorem v_of (p : Fin 4) (hh : Fin 2) (r : Fin 512) (l : Fin 128) : I.v p hh (ix2 r l) = (A.v b (2 * p.val + hh.val) (i0 + r.val) l.val : EReal) := by
  rw [← Spec.V_eq hA]
  refine (half_at hh (I.pr 2 p) r l).trans ?_
  rw [pr_of O hA]
  exact congrArg (A.P b (i0 + r.val)) (by show 1024 * 2 + 256 * p.val + (128 * hh.val + l.val) = _; omega)

end Cert.KernelIdeal.Layer

end

end
-- ==== Proof.Math.Blocks.lean ====
/- What the windows' blocks hold at a grid point: point `t` is tile `t % 8` of stream `t / 8`, and its blocks, with the state
   and the bias it starts from, are the tile's inputs as `TileProj.lean` wants them. -/
module

public import proofs.«01_k».proof.Proof.Math.Host
public import proofs.«01_k».proof.Proof.Math.TileProj
public import Idealize.ShloMosaic.Lib.Pipeline.ValueKit

@[expose] public section

noncomputable section

namespace Cert.KernelIdeal.Layer

open Idealize.ShloMosaic Idealize.ShloMosaic.Pointwise Idealize.ShloMosaic.TcCoe
open Cert.KernelIdeal Cert.KernelIdeal.Gen
open Cert.Spec (Args angle dec gam)

variable (m : (ℓ : Loc nD τ sig) → Buf (Elt Ideal) ℓ) (c : Dev nD)

/-! ## The fills -/

/-- A row's diagonal summed over the lanes is the row. -/
theorem biasTile_at (bs : S4x128.Idx → EReal) (g : Fin 4) (z : Fin 1) (r l : Fin 128) :
    biasTile (F := Ideal) bs g (ix3 z r l) = bs (ix2 g r) := by
  pointwise [biasTile]
  refine (Finset.sum_eq_single r (fun x _ hx => ?_) (fun h => absurd (Finset.mem_univ _) h)).trans ?_
  · have : BitVec.ofNat 32 r.val ≠ BitVec.ofNat 32 x.val := fun h => hx (Fin.ext (by
      have := congrArg BitVec.toNat h
      simp only [BitVec.toNat_ofNat] at this
      omega))
    simp [Scalar.select, IntOp.cmpi, beq_eq_false_iff_ne.2 this]
  · simp [Scalar.select, IntOp.cmpi]

theorem fill_at (y : S1x8x128x128.Idx) : (k0_pay9 (F := Ideal)) y = (0 : EReal) := by
  rw [eq_ix4 y]
  pointwise [k0_pay9]

/-! ## The windows' block indices -/

theorem index_facts : ∀ t : Fin cfg0.N,
    (win0_0.index t (0 : Fin 3) = t.val / 8 ∧ win0_0.index t (1 : Fin 3) = t.val % 8 ∧ win0_0.index t (2 : Fin 3) = 0)
    ∧ (win0_1.index t (0 : Fin 2) = t.val % 8 ∧ win0_1.index t (1 : Fin 2) = 0)
    ∧ (win0_2.index t (0 : Fin 2) = t.val % 8 ∧ win0_2.index t (1 : Fin 2) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0) :=
  (by decide +kernel : ∀ t : Fin grid0.N, _)

theorem index_zero : ∀ t : Fin cfg0.N,
    (∀ a, win0_5.index t a = 0) ∧ (∀ a, win0_6.index t a = 0) ∧ (∀ a, win0_7.index t a = 0) ∧ (∀ a, win0_8.index t a = 0)
    ∧ (∀ a, win0_9.index t a = 0) ∧ (∀ a, win0_10.index t a = 0) ∧ (∀ a, win0_11.index t a = 0) ∧ (∀ a, win0_12.index t a = 0)
    ∧ (∀ a, win0_13.index t a = 0) ∧ (∀ a, win0_14.index t a = 0) :=
  (by decide +kernel : ∀ t : Fin grid0.N, _)

theorem point_lt (t : Fin cfg0.N) : t.val < 32 := lt_of_lt_of_eq t.isLt N_0

/-! ## The blocks -/

theorem blk_x (t : Fin cfg0.N) (r : Fin 512) (d : Fin 2048) :
    iblk m c 0 t (ix3 0 r d) = V m c main_arg0 (ix3 ⟨t.val / 8, by have := point_lt t; omega⟩ ⟨512 * (t.val % 8) + r.val, by omega⟩ d) := by
  obtain ⟨⟨e0, e1, e2⟩, -⟩ := index_facts t
  blk_simp [iblk]
  refine congrArg (V m c main_arg0) (funext fun a => Fin.ext ?_)
  blk_simp [iblk]
  fin_cases a
  · show win0_0.index t (0 : Fin 3) * 1 + 0 = _
    rw [e0]; simp
  · show win0_0.index t (1 : Fin 3) * 512 + r.val = 512 * (t.val % 8) + r.val
    rw [e1]; omega
  · show win0_0.index t (2 : Fin 3) * 2048 + d.val = d.val
    rw [e2]; omega

theorem blk_cos (t : Fin cfg0.N) (r : Fin 512) (l : Fin 128) :
    iblk m c 1 t (ix2 r l) = V m c main_v85 (ix2 ⟨512 * (t.val % 8) + r.val, by omega⟩ l) := by
  obtain ⟨-, ⟨e0, e1⟩, -⟩ := index_facts t
  blk_simp [iblk]
  refine congrArg (V m c main_v85) (funext fun a => Fin.ext ?_)
  blk_simp [iblk]
  fin_cases a
  · show win0_1.index t (0 : Fin 2) * 512 + r.val = 512 * (t.val % 8) + r.val
    rw [e0]; omega
  · show win0_1.index t (1 : Fin 2) * 128 + l.val = l.val
    rw [e1]; omega

theorem blk_sin (t : Fin cfg0.N) (r : Fin 512) (l : Fin 128) :
    iblk m c 2 t (ix2 r l) = V m c main_v87 (ix2 ⟨512 * (t.val % 8) + r.val, by omega⟩ l) := by
  obtain ⟨-, -, ⟨e0, e1⟩, -⟩ := index_facts t
  blk_simp [iblk]
  refine congrArg (V m c main_v87) (funext fun a => Fin.ext ?_)
  blk_simp [iblk]
  fin_cases a
  · show win0_2.index t (0 : Fin 2) * 512 + r.val = 512 * (t.val % 8) + r.val
    rw [e0]; omega
  · show win0_2.index t (1 : Fin 2) * 128 + l.val = l.val
    rw [e1]; omega

theorem blk_mk (t : Fin cfg0.N) (j : Fin 256) (l : Fin 512) :
    iblk m c 3 t (ix3 0 j l) = V m c main_v5 (ix3 ⟨t.val / 8, by have := point_lt t; omega⟩ j l) := by
  obtain ⟨-, -, -, ⟨e0, e1, e2⟩, -⟩ := index_facts t
  blk_simp [iblk]
  refine congrArg (V m c main_v5) (funext fun a => Fin.ext ?_)
  blk_simp [iblk]
  fin_cases a
  · show win0_3.index t (0 : Fin 3) * 1 + 0 = _
    rw [e0]; simp
  · show win0_3.index t (1 : Fin 3) * 256 + j.val = j.val
    rw [e1]; omega
  · show win0_3.index t (2 : Fin 3) * 512 + l.val = l.val
    rw [e2]; omega

theorem blk_mv (t : Fin cfg0.N) (j : Fin 256) (l : Fin 512) :
    iblk m c 4 t (ix3 0 j l) = V m c main_v7 (ix3 ⟨t.val / 8, by have := point_lt t; omega⟩ j l) := by
  obtain ⟨-, -, -, -, ⟨e0, e1, e2⟩⟩ := index_facts t
  blk_simp [iblk]
  refine congrArg (V m c main_v7) (funext fun a => Fin.ext ?_)
  blk_simp [iblk]
  fin_cases a
  · show win0_4.index t (0 : Fin 3) * 1 + 0 = _
    rw [e0]; simp
  · show win0_4.index t (1 : Fin 3) * 256 + j.val = j.val
    rw [e1]; omega
  · show win0_4.index t (2 : Fin 3) * 512 + l.val = l.val
    rw [e2]; omega

theorem blk_gn (t : Fin cfg0.N) (i0 : Fin 1) (i1 : Fin 2048) : iblk m c 5 t (ix2 i0 i1) = V m c main_v12 (ix2 i0 i1) := by
  obtain ⟨e, -⟩ := index_zero t
  blk_simp [iblk]
  refine congrArg (V m c main_v12) (funext fun a => Fin.ext ?_)
  blk_simp [iblk]
  rw [e a]; omega

theorem blk_w (t : Fin cfg0.N) (i0 : Fin 2048) (i1 : Fin 6656) : iblk m c 6 t (ix2 i0 i1) = V m c main_v9 (ix2 i0 i1) := by
  obtain ⟨-, e, -⟩ := index_zero t
  blk_simp [iblk]
  refine congrArg (V m c main_v9) (funext fun a => Fin.ext ?_)
  blk_simp [iblk]
  rw [e a]; omega

theorem blk_gr (t : Fin cfg0.N) (i0 : Fin 1) (i1 : Fin 1024) : iblk m c 7 t (ix2 i0 i1) = V m c main_v13 (ix2 i0 i1) := by
  obtain ⟨-, -, e, -⟩ := index_zero t
  blk_simp [iblk]
  refine congrArg (V m c main_v13) (funext fun a => Fin.ext ?_)
  blk_simp [iblk]
  rw [e a]; omega

theorem blk_gg (t : Fin cfg0.N) (i0 : Fin 1) (i1 : Fin 512) : iblk m c 8 t (ix2 i0 i1) = V m c main_v14 (ix2 i0 i1) := by
  obtain ⟨-, -, -, e, -⟩ := index_zero t
  blk_simp [iblk]
  refine congrArg (V m c main_v14) (funext fun a => Fin.ext ?_)
  blk_simp [iblk]
  rw [e a]; omega

theorem blk_ws (t : Fin cfg0.N) (i0 : Fin 4) (i1 : Fin 128) (i2 : Fin 128) : iblk m c 9 t (ix3 i0 i1 i2) = V m c main_v2 (ix3 i0 i1 i2) := by
  obtain ⟨-, -, -, -, e, -⟩ := index_zero t
  blk_simp [iblk]
  refine congrArg (V m c main_v2) (funext fun a => Fin.ext ?_)
  blk_simp [iblk]
  rw [e a]; omega

theorem blk_bs (t : Fin cfg0.N) (i0 : Fin 4) (i1 : Fin 128) : iblk m c 10 t (ix2 i0 i1) = V m c main_v3 (ix2 i0 i1) := by
  obtain ⟨-, -, -, -, -, e, -⟩ := index_zero t
  blk_simp [iblk]
  refine congrArg (V m c main_v3) (funext fun a => Fin.ext ?_)
  blk_simp [iblk]
  rw [e a]; omega

theorem blk_dm (t : Fin cfg0.N) (i0 : Fin 8) (i1 : Fin 256) (i2 : Fin 256) : iblk m c 11 t (ix3 i0 i1 i2) = V m c main_v39 (ix3 i0 i1 i2) := by
  obtain ⟨-, -, -, -, -, -, e, -⟩ := index_zero t
  blk_simp [iblk]
  refine congrArg (V m c main_v39) (funext fun a => Fin.ext ?_)
  blk_simp [iblk]
  rw [e a]; omega

theorem blk_qd (t : Fin cfg0.N) (i0 : Fin 8) (i1 : Fin 256) (i2 : Fin 128) : iblk m c 12 t (ix3 i0 i1 i2) = V m c main_v60 (ix3 i0 i1 i2) := by
  obtain ⟨-, -, -, -, -, -, -, e, -⟩ := index_zero t
  blk_simp [iblk]
  refine congrArg (V m c main_v60) (funext fun a => Fin.ext ?_)
  blk_simp [iblk]
  rw [e a]; omega

theorem blk_kd (t : Fin cfg0.N) (i0 : Fin 8) (i1 : Fin 256) (i2 : Fin 128) : iblk m c 13 t (ix3 i0 i1 i2) = V m c main_v62 (ix3 i0 i1 i2) := by
  obtain ⟨-, -, -, -, -, -, -, -, e, -⟩ := index_zero t
  blk_simp [iblk]
  refine congrArg (V m c main_v62) (funext fun a => Fin.ext ?_)
  blk_simp [iblk]
  rw [e a]; omega

theorem blk_sd (t : Fin cfg0.N) (i0 : Fin 8) (i1 : Fin 1) (i2 : Fin 128) : iblk m c 14 t (ix3 i0 i1 i2) = V m c main_v65 (ix3 i0 i1 i2) := by
  obtain ⟨-, -, -, -, -, -, -, -, -, e⟩ := index_zero t
  blk_simp [iblk]
  refine congrArg (V m c main_v65) (funext fun a => Fin.ext ?_)
  blk_simp [iblk]
  rw [e a]; omega

/-- A point's inputs: its blocks, with the state `st` and the bias tiles `b` it starts from. -/
def inAt (t : Fin cfg0.N) (st : Vec Ideal S1x8x128x128 .f32) (b : Fin 4 → Vec Ideal S1x128x128 .f32) : In Ideal :=
  inOf (iblk m c 0 t) (iblk m c 1 t) (iblk m c 2 t) (iblk m c 3 t) (iblk m c 4 t) (iblk m c 5 t) (iblk m c 6 t) (iblk m c 7 t)
    (iblk m c 8 t) (iblk m c 9 t) (iblk m c 11 t) (iblk m c 12 t) (iblk m c 13 t) (iblk m c 14 t) st b

variable (t : Fin cfg0.N) (st : Vec Ideal S1x8x128x128 .f32) (b : Fin 4 → Vec Ideal S1x128x128 .f32)

theorem in_x (r : Fin 512) (d : Fin 2048) : (inAt m c t st b).x (ix3 0 r d) = (args m c).x (t.val / 8) (512 * (t.val % 8) + r.val) d.val :=
  (blk_x m c t r d).trans (host_x m c ⟨t.val / 8, by have := point_lt t; omega⟩ ⟨512 * (t.val % 8) + r.val, by omega⟩ d)

theorem in_cos (r : Fin 512) (l : Fin 128) : (inAt m c t st b).cos (ix2 r l) = Ideal.cos (angle (512 * (t.val % 8) + r.val) (l.val % 64)) := by
  have h2 := host_cos m c ⟨512 * (t.val % 8) + r.val, by omega⟩ l
  have h1 := blk_cos m c t r l
  have h3 : (inAt m c t st b).cos (ix2 r l) = iblk m c 1 t (ix2 r l) := rfl
  rw [h3, h1]
  exact h2

theorem in_sin (r : Fin 512) (l : Fin 128) : (inAt m c t st b).sin (ix2 r l) = if l.val < 64 then -Ideal.sin (angle (512 * (t.val % 8) + r.val) l.val) else Ideal.sin (angle (512 * (t.val % 8) + r.val) (l.val - 64)) := by
  have h2 := host_sin m c ⟨512 * (t.val % 8) + r.val, by omega⟩ l
  have h1 := blk_sin m c t r l
  have h3 : (inAt m c t st b).sin (ix2 r l) = iblk m c 2 t (ix2 r l) := rfl
  rw [h3, h1]
  exact h2

theorem in_mkb (j : Fin 256) (l : Fin 512) : (inAt m c t st b).mkb (ix3 0 j l) = (args m c).mem (t.val / 8) j.val (l.val / 128) (l.val % 128) :=
  (blk_mk m c t j l).trans (host_mk m c ⟨t.val / 8, by have := point_lt t; omega⟩ j l)

theorem in_mvb (j : Fin 256) (l : Fin 512) : (inAt m c t st b).mvb (ix3 0 j l) = (args m c).val (t.val / 8) j.val (l.val / 128) (l.val % 128) :=
  (blk_mv m c t j l).trans (host_mv m c ⟨t.val / 8, by have := point_lt t; omega⟩ j l)

theorem in_gn (d : Fin 2048) : (inAt m c t st b).gn (ix2 0 d) = (args m c).gn d.val :=
  (blk_gn m c t 0 d).trans (host_gn m c _ _)

theorem in_w (d : Fin 2048) (l : Fin 6656) : (inAt m c t st b).w (ix2 d l) = (args m c).w d.val l.val :=
  (blk_w m c t d l).trans (host_w m c _ _)

theorem in_gr (l : Fin 1024) : (inAt m c t st b).gr (ix2 0 l) = (args m c).gr l.val :=
  (blk_gr m c t 0 l).trans (host_gr m c _ _)

theorem in_gg (l : Fin 512) : (inAt m c t st b).gg (ix2 0 l) = (args m c).gg l.val :=
  (blk_gg m c t 0 l).trans (host_gg m c _ _)

theorem in_ws (g : Fin 4) (r j : Fin 128) : (inAt m c t st b).ws (ix3 g r j) = (args m c).ws g.val r.val j.val :=
  (blk_ws m c t g r j).trans (host_ws m c _ _ _)

theorem in_dm (h : Fin 8) (r j : Fin 256) : (inAt m c t st b).dm (ix3 h r j) = dec h.val r.val j.val :=
  (blk_dm m c t h r j).trans (host_dm m c _ _ _)

theorem in_qd (h : Fin 8) (r : Fin 256) (l : Fin 128) : (inAt m c t st b).qd (ix3 h r l) = ((gam h.val ^ (r.val + 1) : ℝ) : EReal) :=
  (blk_qd m c t h r l).trans (host_qd m c _ _ _)

theorem in_kd (h : Fin 8) (r : Fin 256) (l : Fin 128) : (inAt m c t st b).kd (ix3 h r l) = ((gam h.val ^ (256 - 1 - r.val) : ℝ) : EReal) :=
  (blk_kd m c t h r l).trans (host_kd m c _ _ _)

theorem in_sd (h : Fin 8) (l : Fin 128) : (inAt m c t st b).sd (ix3 h 0 l) = ((gam h.val ^ 256 : ℝ) : EReal) :=
  (blk_sd m c t h 0 l).trans (host_sd m c _ _ _)

/-- They are the tile's. -/
theorem inAt_of
    (hst : ∀ (h : Fin 8) (d e : Fin 128), st (ix4 0 h d e) = ((args m c).s (t.val / 8) h.val (512 * (t.val % 8)) d.val e.val : EReal))
    (hb : ∀ (g : Fin 4) (r l : Fin 128), b g (ix3 0 r l) = (args m c).bs g.val r.val) :
    Of (args m c) (t.val / 8) (512 * (t.val % 8)) (inAt m c t st b) :=
  ⟨in_x m c t st b, in_cos m c t st b, in_sin m c t st b, in_mkb m c t st b, in_mvb m c t st b, in_gn m c t st b,
    in_w m c t st b, in_gr m c t st b, in_gg m c t st b, in_ws m c t st b, in_dm m c t st b, in_qd m c t st b, in_kd m c t st b, in_sd m c t st b, hst, hb⟩

/-- The bias tiles of the first point's fill. -/
theorem bias_first (g : Fin 4) (r l : Fin 128) :
    biasTile (F := Ideal) (iblk m c 10 t) g (ix3 0 r l) = (args m c).bs g.val r.val :=
  (biasTile_at _ g 0 r l).trans ((blk_bs m c t g r).trans (host_bs m c g r))

end Cert.KernelIdeal.Layer

end
-- ==== Proof.Math.TileOps.lean ====
/- The tile's matrix products, planes and slices read at one index, over the extended reals. -/
module

public import proofs.«01_k».proof.Proof.Layer.Bias
public import proofs.«01_k».proof.Proof.Math.Spec
public import Idealize.ShloMosaic.Lib.Pointwise

@[expose] public section

noncomputable section

namespace Cert.KernelIdeal.Layer

open Idealize.ShloMosaic Idealize.ShloMosaic.Pointwise
open Cert.KernelIdeal Cert.KernelIdeal.Gen

/-! ## Products -/

theorem mm_score (x y : FVec Ideal S256x128 .bf16) (i j : Fin 256) :
    matmul (F := Ideal) dot_S256x128_S256x128_S256x256_1_1_0_0_n_n none x y (constant S256x256 .f32 0x00000000#32) (ix2 i j)
      = ∑ k : Fin 128, x (ix2 i k) * y (ix2 j k) := by
  pointwise

theorem mm_state (x y : FVec Ideal S256x128 .bf16) (i j : Fin 128) :
    matmul (F := Ideal) dot_S256x128_S256x128_S128x128_0_0_1_1_n_n none x y (constant S128x128 .f32 0x00000000#32) (ix2 i j)
      = ∑ k : Fin 256, x (ix2 k i) * y (ix2 k j) := by
  pointwise

theorem mm_cross (x : FVec Ideal S256x128 .bf16) (y : FVec Ideal S128x128 .bf16) (i : Fin 256) (j : Fin 128) :
    matmul (F := Ideal) dot_S256x128_S128x128_S256x128_1_0_0_1_n_n none x y (constant S256x128 .f32 0x00000000#32) (ix2 i j)
      = ∑ k : Fin 128, x (ix2 i k) * y (ix2 k j) := by
  pointwise

theorem mm_out (x : FVec Ideal S256x256 .bf16) (y : FVec Ideal S256x128 .bf16) (i : Fin 256) (j : Fin 128) :
    matmul (F := Ideal) dot_S256x256_S256x128_S256x128_1_0_0_1_n_n none x y (constant S256x128 .f32 0x00000000#32) (ix2 i j)
      = ∑ k : Fin 256, x (ix2 i k) * y (ix2 k j) := by
  pointwise

theorem mm_keys (x : FVec Ideal S512x128 .bf16) (y : FVec Ideal S256x128 .bf16) (i : Fin 512) (j : Fin 256) :
    matmul (F := Ideal) dot_S512x128_S256x128_S512x256_1_1_0_0_n_n none x y (constant S512x256 .f32 0x00000000#32) (ix2 i j)
      = ∑ k : Fin 128, x (ix2 i k) * y (ix2 j k) := by
  pointwise

theorem mm_vals (x : FVec Ideal S512x256 .bf16) (y : FVec Ideal S256x128 .bf16) (i : Fin 512) (j : Fin 128) :
    matmul (F := Ideal) dot_S512x256_S256x128_S512x128_1_0_0_1_n_n none x y (constant S512x128 .f32 0x00000000#32) (ix2 i j)
      = ∑ k : Fin 256, x (ix2 i k) * y (ix2 k j) := by
  pointwise

theorem mm_mix (x y : FVec Ideal S128x128 .bf16) (i j : Fin 128) :
    matmul (F := Ideal) dot_S128x128_S128x128_S128x128_1_0_0_1_n_n none x y (constant S128x128 .f32 0x00000000#32) (ix2 i j)
      = ∑ k : Fin 128, x (ix2 i k) * y (ix2 k j) := by
  pointwise

/-! ## Unit axes -/

theorem plane_256_256 (y : S1x256x256.Idx → EReal) (h) (i j : Fin 256) : shapeCast S256x256 y h (ix2 i j) = y (ix3 0 i j) := by
  pointwise
theorem plane_256_128 (y : S1x256x128.Idx → EReal) (h) (i : Fin 256) (j : Fin 128) : shapeCast S256x128 y h (ix2 i j) = y (ix3 0 i j) := by
  pointwise
theorem plane_128_128 (y : S1x128x128.Idx → EReal) (h) (i j : Fin 128) : shapeCast S128x128 y h (ix2 i j) = y (ix3 0 i j) := by
  pointwise
theorem plane4 (y : S1x1x128x128.Idx → EReal) (h) (i j : Fin 128) : shapeCast S128x128 y h (ix2 i j) = y (ix4 0 0 i j) := by
  pointwise
theorem plane1 (y : S1x1x128.Idx → EReal) (h) (z : Fin 1) (j : Fin 128) : shapeCast S1x128 y h (ix2 z j) = y (ix3 0 0 j) := by
  pointwise
theorem same_1_128 (y : S1x128.Idx → EReal) (h) (i) : shapeCast S1x128 y h i = y i := by
  pointwise
theorem lift4 (y : S128x128.Idx → EReal) (h) (z w : Fin 1) (i j : Fin 128) : shapeCast S1x1x128x128 y h (ix4 z w i j) = y (ix2 i j) := by
  pointwise
theorem lift_256_128 (y : S256x128.Idx → EReal) (h) (z : Fin 1) (i : Fin 256) (j : Fin 128) : shapeCast S1x256x128 y h (ix3 z i j) = y (ix2 i j) := by
  pointwise
theorem lift_512_128 (y : S512x128.Idx → EReal) (h) (z : Fin 1) (i : Fin 512) (j : Fin 128) : shapeCast S1x512x128 y h (ix3 z i j) = y (ix2 i j) := by
  pointwise
theorem lift_128_128 (y : S128x128.Idx → EReal) (h) (z : Fin 1) (i : Fin 128) (j : Fin 128) : shapeCast S1x128x128 y h (ix3 z i j) = y (ix2 i j) := by
  pointwise

/-! ## Rows repeated -/

theorem rows_128 (y : S1x128.Idx → EReal) (h) (i j : Fin 128) : broadcastTo S128x128 y h (ix2 i j) = y (ix2 0 j) := by
  pointwise
theorem rows_256 (y : S1x128.Idx → EReal) (h) (i : Fin 256) (j : Fin 128) : broadcastTo S256x128 y h (ix2 i j) = y (ix2 0 j) := by
  pointwise

/-! ## Slices -/

theorem blk_at (bi : Fin 2) (u : S512x128.Idx → EReal) (r : Fin 256) (l : Fin 128) : blk bi u (ix2 r l) = u (ix2 ⟨256 * bi.val + r.val, by omega⟩ l) := by
  pointwise [blk]
theorem col4_at (hd : Fin 4) (u : FVec Ideal S512x512 .f32) (r : Fin 512) (l : Fin 128) : col4 hd u (ix2 r l) = u (ix2 r ⟨128 * hd.val + l.val, by omega⟩) := by
  pointwise [col4]
theorem tile4_at (ch g : Fin 4) (u : FVec Ideal S512x512 .f32) (r l : Fin 128) :
    tile4 ch g u (ix2 r l) = u (ix2 ⟨128 * ch.val + r.val, by omega⟩ ⟨128 * g.val + l.val, by omega⟩) := by
  pointwise [tile4]
theorem gate_at (bi hh : Fin 2) (u : S512x256.Idx → EReal) (h) (r : Fin 256) (l : Fin 128) :
    extractStridedSlice S256x128 ![256 * bi.val, 128 * hh.val] u h (ix2 r l) = u (ix2 ⟨256 * bi.val + r.val, by omega⟩ ⟨128 * hh.val + l.val, by omega⟩) := by
  pointwise

/-! ## Loads -/

theorem ld_dm (X : Vec Ideal S8x256x256 .f32) (p : Fin 4) (hh : Fin 2) (r j : Fin 256) :
    View.ld X (Rect.unit (s := S8x256x256) ![2 * p.val + hh.val, 0, 0] S1x256x256.size (inbD p hh)) (ix3 0 r j) = X (ix3 ⟨2 * p.val + hh.val, by omega⟩ r j) := by
  pointwise
theorem ld_qd (X : Vec Ideal S8x256x128 .f32) (p : Fin 4) (hh : Fin 2) (r : Fin 256) (j : Fin 128) :
    View.ld X (Rect.unit (s := S8x256x128) ![2 * p.val + hh.val, 0, 0] S1x256x128.size (inbQ p hh)) (ix3 0 r j) = X (ix3 ⟨2 * p.val + hh.val, by omega⟩ r j) := by
  pointwise
theorem ld_sd (X : Vec Ideal S8x1x128 .f32) (p : Fin 4) (hh : Fin 2) (j : Fin 128) :
    View.ld X (Rect.unit (s := S8x1x128) ![2 * p.val + hh.val, 0, 0] S1x1x128.size (inbS p hh)) (ix3 0 0 j) = X (ix3 ⟨2 * p.val + hh.val, by omega⟩ 0 j) := by
  pointwise
theorem ld_st (X : Vec Ideal S1x8x128x128 .f32) (p : Fin 4) (hh : Fin 2) (d e : Fin 128) :
    View.ld X (stRect p hh) (ix4 0 0 d e) = X (ix4 0 ⟨2 * p.val + hh.val, by omega⟩ d e) := by
  pointwise
theorem ld_gr (X : Vec Ideal S1x1024 .f32) (p : Fin 4) (hh : Fin 2) (j : Fin 128) :
    View.ld X (Rect.unit (s := S1x1024) ![0, 128 * (2 * p.val + hh.val)] S1x128.size (inbR p hh)) (ix2 0 j) = X (ix2 0 ⟨128 * (2 * p.val + hh.val) + j.val, by omega⟩) := by
  pointwise
theorem ld_mem (X : Vec Ideal S1x256x512 .bf16) (hd : Fin 4) (r : Fin 256) (l : Fin 128) :
    View.ld X (Rect.unit (s := S1x256x512) ![0, 0, 128 * hd.val] S1x256x128.size (inbM hd)) (ix3 0 r l) = X (ix3 0 r ⟨128 * hd.val + l.val, by omega⟩) := by
  pointwise
theorem ld_ws (X : Vec Ideal S4x128x128 .f32) (g : Fin 4) (r j : Fin 128) :
    View.ld X (Rect.unit (s := S4x128x128) ![g.val, 0, 0] S1x128x128.size (inbG g)) (ix3 0 r j) = X (ix3 g r j) := by
  pointwise

/-! ## Gates and norms -/

theorem silu_at {s : Shape} (u : FVec Ideal s .f32) (i : s.Idx) : silu u i = Spec.silu (u i) := by
  pointwise [silu]
  unfold Spec.silu
  rw [zero_sub]

theorem lnorm_at (o : FVec Ideal S256x128 .f32) (r : Fin 256) (U : ℕ → EReal) (h : ∀ e : Fin 128, o (ix2 r e) = U e.val) (e : Fin 128) :
    rescale (center o) (ix2 r e) = Spec.lnorm 128 Spec.c128 U e.val := by
  have hc : ∀ e : Fin 128, center o (ix2 r e) = U e.val - Spec.mean 128 Spec.c128 U := by
    intro e
    pointwise [center]
    simp only [h]
    rfl
  generalize center o = d at hc ⊢
  pointwise [rescale]
  simp only [hc]
  rfl

end Cert.KernelIdeal.Layer

end

end
-- ==== Proof.Math.TileRet.lean ====
/- A retention head of a tile: the state after a block of 256 rows, the block's output, and what it stores. -/
module

public import proofs.«01_k».proof.Proof.Math.TileProj
public import proofs.«01_k».proof.Proof.Math.TileOps

@[expose] public section

noncomputable section

namespace Cert.KernelIdeal.Layer

open Idealize.ShloMosaic Idealize.ShloMosaic.Pointwise
open Cert.KernelIdeal Cert.KernelIdeal.Gen
open Cert.Spec (Args gam)

variable {A : Args} {b i0 : ℕ} {I : In Ideal} (O : Of A b i0 I) (hA : A.Real)
  (p : Fin 4) (hh bi : Fin 2)
include O hA

/-- One block further, the state is that of the rows up to its end. -/
theorem stNext_of (s : Vec Ideal S1x1x128x128 .f32)
    (hs : ∀ d e : Fin 128, s (ix4 0 0 d e) = (A.s b (2 * p.val + hh.val) (i0 + 256 * bi.val) d.val e.val : EReal)) (d e : Fin 128) :
    I.stNext p hh bi s (ix4 0 0 d e) = (A.s b (2 * p.val + hh.val) (i0 + 256 * bi.val + 256) d.val e.val : EReal) := by
  rw [← Spec.state_step]
  unfold In.stNext
  rw [lift4, ValueIdx.addf_apply, ValueIdx.mulf_apply, plane4, rows_128, plane1, ld_sd, hs, O.sd, mm_state]
  refine congrArg₂ (fun x y : EReal => x + y) rfl (Finset.sum_congr rfl fun r _ => ?_)
  rw [ValueIdx.truncf_apply, ValueIdx.mulf_apply, blk_at, blk_at, plane_256_128, ld_qd, k_of O hA, v_of O hA, O.kd]
  simp only [Nat.add_assoc]

/-- The block's output before its normalisation. -/
theorem oBlk_of (s : Vec Ideal S1x1x128x128 .f32)
    (hs : ∀ d e : Fin 128, s (ix4 0 0 d e) = (A.s b (2 * p.val + hh.val) (i0 + 256 * bi.val) d.val e.val : EReal)) (r : Fin 256) (e : Fin 128) :
    I.oBlk p hh bi s (ix2 r e) = (A.o b (2 * p.val + hh.val) (i0 + 256 * bi.val + r.val) e.val : EReal) := by
  rw [← Spec.out_step b (2 * p.val + hh.val) (i0 + 256 * bi.val) 256 e.val r.val r.isLt]
  unfold In.oBlk
  rw [ValueIdx.addf_apply, ValueIdx.mulf_apply, mm_out, mm_cross, plane_256_128, ld_qd, O.qd]
  refine congrArg₂ (fun x y : EReal => x + y) (Finset.sum_congr rfl fun j _ => ?_)
    (congrArg (fun z : EReal => z * _) (Finset.sum_congr rfl fun d _ => ?_))
  · rw [ValueIdx.truncf_apply, ValueIdx.mulf_apply, mm_score, plane_256_256, ld_dm, O.dm, blk_at, v_of O hA]
    simp only [ValueIdx.truncf_apply, blk_at, q_of O hA, k_of O hA, Nat.add_assoc]
  · rw [ValueIdx.truncf_apply, blk_at, q_of O hA, plane4, hs]
    simp only [Nat.add_assoc]

/-- What a block stores of a head. -/
theorem retOut_of (o : FVec Ideal S256x128 .f32) (z : Fin 1) (r : Fin 256)
    (ho : ∀ e : Fin 128, o (ix2 r e) = (A.o b (2 * p.val + hh.val) (i0 + 256 * bi.val + r.val) e.val : EReal)) (e : Fin 128) :
    I.retOut p hh bi o (ix3 z r e) = A.ret b (2 * p.val + hh.val) (i0 + (256 * bi.val + r.val)) e.val := by
  unfold In.retOut
  rw [lift_256_128, ValueIdx.truncf_apply, ValueIdx.mulf_apply, ValueIdx.mulf_apply,
    lnorm_at o r (fun e => (A.o b (2 * p.val + hh.val) (i0 + 256 * bi.val + r.val) e : EReal)) ho, rows_256, same_1_128, ld_gr, O.gr, silu_at, gate_at, pr_of O hA,
    ← Nat.add_assoc]
  refine congrArg₂ (fun x y : EReal => x * y) rfl (congrArg Spec.silu ?_)
  exact congrArg (A.P b (i0 + 256 * bi.val + r.val)) (by show 1024 * 3 + 256 * p.val + (128 * hh.val + e.val) = 3072 + 128 * (2 * p.val + hh.val) + e.val; omega)

/-! ## The states a head passes through, and its two stores -/

theorem s0_of (d e : Fin 128) : I.s0 p hh (ix4 0 0 d e) = (A.s b (2 * p.val + hh.val) (i0 + 256 * (0 : Fin 2).val) d.val e.val : EReal) :=
  (ld_st I.st p hh d e).trans (O.st _ d e)

theorem s1_of (d e : Fin 128) : I.s1 p hh (ix4 0 0 d e) = (A.s b (2 * p.val + hh.val) (i0 + 256 * (1 : Fin 2).val) d.val e.val : EReal) :=
  stNext_of O hA p hh 0 _ (s0_of O hA p hh) d e

theorem s2_of (d e : Fin 128) : I.s2 p hh (ix4 0 0 d e) = (A.s b (2 * p.val + hh.val) (i0 + 512) d.val e.val : EReal) :=
  stNext_of O hA p hh 1 _ (s1_of O hA p hh) d e

theorem out0_of (z : Fin 1) (r : Fin 256) (e : Fin 128) : I.retOut p hh 0 (I.oBlk p hh 0 (I.s0 p hh)) (ix3 z r e)
    = A.ret b (2 * p.val + hh.val) (i0 + (256 * (0 : Fin 2).val + r.val)) e.val :=
  retOut_of O hA p hh 0 _ z r (oBlk_of O hA p hh 0 _ (s0_of O hA p hh) r) e

theorem out1_of (z : Fin 1) (r : Fin 256) (e : Fin 128) : I.retOut p hh 1 (I.oBlk p hh 1 (I.s1 p hh)) (ix3 z r e)
    = A.ret b (2 * p.val + hh.val) (i0 + (256 * (1 : Fin 2).val + r.val)) e.val :=
  retOut_of O hA p hh 1 _ z r (oBlk_of O hA p hh 1 _ (s1_of O hA p hh) r) e

end Cert.KernelIdeal.Layer

end

end
-- ==== Proof.Math.TileAtt.lean ====
/- A memory-attention head of a tile and what it stores. -/
module

public import proofs.«01_k».proof.Proof.Math.TileProj
public import proofs.«01_k».proof.Proof.Math.TileOps

@[expose] public section

noncomputable section

namespace Cert.KernelIdeal.Layer

open Idealize.ShloMosaic Idealize.ShloMosaic.Pointwise
open Cert.KernelIdeal Cert.KernelIdeal.Gen
open Cert.Spec (Args kscale)

variable {A : Args} {b i0 : ℕ} {I : In Ideal} (O : Of A b i0 I) (hd : Fin 4)
include O

/-- The scores. -/
theorem xs_of (r : Fin 512) (j : Fin 256) : I.xs hd (ix2 r j) = A.sc b hd.val (i0 + r.val) j.val := by
  unfold In.xs
  rw [ValueIdx.mulf_apply, mm_keys]
  refine congrArg (fun z : EReal => z * kscale) (Finset.sum_congr rfl fun l _ => ?_)
  rw [ValueIdx.truncf_apply, col4_at, pw_of O, plane_256_128, ld_mem, O.mkb]
  have hl := l.isLt
  exact congrArg₂ (fun x y : EReal => x * y) (congrArg (A.P b (i0 + r.val)) (by show 4096 + 512 * 3 + (128 * hd.val + l.val) = _; omega))
    (congrArg₂ (A.mem b j.val) (by show (128 * hd.val + l.val) / 128 = _; omega) (by show (128 * hd.val + l.val) % 128 = _; omega))

/-- Their exponentials less the row's greatest. -/
theorem xe_of (r : Fin 512) (j : Fin 256) : I.xe hd (ix2 r j) = A.ex b hd.val (i0 + r.val) j.val := by
  pointwise [In.xe]
  simp only [xs_of O]
  rw [Spec.ninf_eq]
  rfl

/-- The head's output before its gate. -/
theorem xo_of (r : Fin 512) (l : Fin 128) : I.xo hd (ix2 r l)
    = Ideal.div (∑ j : Fin 256, A.ex b hd.val (i0 + r.val) j.val * A.val b j.val hd.val l.val) (∑ j : Fin 256, A.ex b hd.val (i0 + r.val) j.val) := by
  have hl := l.isLt
  unfold In.xo
  rw [ValueIdx.divf_apply, mm_vals]
  refine congrArg₂ Ideal.div (Finset.sum_congr rfl fun j _ => ?_) ?_
  · rw [ValueIdx.truncf_apply, xe_of O, plane_256_128, ld_mem, O.mvb]
    exact congrArg (fun z : EReal => _ * z) (congrArg₂ (A.val b j.val) (by show (128 * hd.val + l.val) / 128 = _; omega) (by show (128 * hd.val + l.val) % 128 = _; omega))
  · have h := xe_of O hd r
    generalize I.xe hd = u at h
    pointwise
    simp only [h]

/-- What the head stores. -/
theorem xOut_of (z : Fin 1) (r : Fin 512) (l : Fin 128) : I.xOut hd (ix3 z r l) = A.att b hd.val (i0 + r.val) l.val := by
  unfold In.xOut
  rw [lift_512_128, ValueIdx.truncf_apply, ValueIdx.mulf_apply, xo_of O, silu_at, col4_at, pw_of O]
  refine congrArg₂ (fun x y : EReal => x * y) rfl (congrArg Spec.silu ?_)
  exact congrArg (A.P b (i0 + r.val)) (by show 4096 + 512 * 4 + (128 * hd.val + l.val) = 6144 + 128 * hd.val + l.val; omega)

end Cert.KernelIdeal.Layer

end

end
-- ==== Proof.Math.TileGate.lean ====
/- A gating chunk of a tile and what it stores. -/
module

public import proofs.«01_k».proof.Proof.Math.TileProj
public import proofs.«01_k».proof.Proof.Math.TileOps
public import proofs.«01_k».proof.Proof.Math.Masks

@[expose] public section

noncomputable section

namespace Cert.KernelIdeal.Layer

open Idealize.ShloMosaic Idealize.ShloMosaic.Pointwise
open Cert.KernelIdeal Cert.KernelIdeal.Gen
open Cert.Spec (Args)

variable {A : Args} {b i0 : ℕ} {I : In Ideal} (O : Of A b i0 I) (g ch : Fin 4)
include O

theorem gc_of (r c : Fin 512) : I.gc (ix2 r c) = A.P b (i0 + r.val) (4608 + c.val) - Spec.mean 512 Spec.c512 (fun k => A.P b (i0 + r.val) (4608 + k)) := by
  have h := pw_of O 1 r
  unfold In.gc
  generalize I.pw 1 = u at h ⊢
  pointwise
  simp only [h]
  rfl

/-- The gated values, normalised and weighted. -/
theorem gv_of (r c : Fin 512) : I.gv (ix2 r c) = A.gv b (i0 + r.val) c.val := by
  have h := gc_of O r
  have hg := O.gg
  unfold In.gv
  generalize I.gc = u at h ⊢
  pointwise
  simp only [h]
  rw [hg]
  rfl

/-- The mixing matrix with its upper triangle cleared. -/
theorem wm_of (r j : Fin 128) : I.wm g (ix2 r j) = A.tri g.val r.val j.val := by
  unfold In.wm
  have h : ∀ r j : Fin 128, (shapeCast S128x128 (View.ld I.ws (Rect.unit (s := S4x128x128) ![g.val, 0, 0] S1x128x128.size (inbG g))) shapeCasts_S1x128x128_S128x128 : FVec Ideal S128x128 .f32) (ix2 r j)
      = A.ws g.val r.val j.val := fun r j => (plane_128_128 _ _ r j).trans ((ld_ws I.ws g r j).trans (O.ws g r j))
  generalize (shapeCast S128x128 (View.ld I.ws (Rect.unit (s := S4x128x128) ![g.val, 0, 0] S1x128x128.size (inbG g))) shapeCasts_S1x128x128_S128x128 : FVec Ideal S128x128 .f32) = w at h ⊢
  pointwise
  rw [h]
  have e := Spec.select_sge r.val j.val r.isLt j.isLt (A.ws g.val r.val j.val) 0
  rw [show IntOp.addi (BitVec.ofNat 32 r.val) 0#32 = BitVec.ofNat 32 r.val from BitVec.add_zero _] at e
  exact e

/-- What a chunk stores of a group. -/
theorem gOut_of (z : Fin 1) (r l : Fin 128) (n : ℕ) (hn : i0 + 128 * ch.val = 128 * n) :
    I.gOut g ch (ix3 z r l) = A.gate b n r.val g.val l.val := by
  unfold In.gOut
  rw [lift_128_128, ValueIdx.truncf_apply, ValueIdx.mulf_apply, ValueIdx.mulf_apply, ValueIdx.addf_apply, mm_mix, plane_128_128, O.bias,
    silu_at, tile4_at, tile4_at, pw_of O, pw_of O]
  have e : ∀ k : ℕ, i0 + (128 * ch.val + k) = 128 * n + k := fun k => by omega
  simp only [ValueIdx.truncf_apply, tile4_at, wm_of O, gv_of O, e]
  refine congrArg₂ (fun x y : EReal => x * y) (congrArg (A.P b (128 * n + r.val)) ?_)
    (congrArg (fun z : EReal => _ * Spec.silu z) (congrArg (A.P b (128 * n + r.val)) ?_))
  · show 4096 + 512 * 0 + (128 * g.val + l.val) = 4096 + 128 * g.val + l.val
    omega
  · show 4096 + 512 * 2 + (128 * g.val + l.val) = 5120 + 128 * g.val + l.val
    omega

end Cert.KernelIdeal.Layer

end

end
-- ==== Proof.Math.TileMix.lean ====
/- A tile's two outputs read at an index: the mixed rows, and the state after the tile. -/
module

public import proofs.«01_k».proof.Proof.Math.TileRet
public import proofs.«01_k».proof.Proof.Math.TileAtt
public import proofs.«01_k».proof.Proof.Math.TileGate
public import Idealize.ShloMosaic.Lib.Pipeline.Value
public import Idealize.ShloMosaic.Lib.Pipeline.ValueKit.Geometry

@[expose] public section

noncomputable section

namespace Cert.KernelIdeal.Layer

open Idealize.ShloMosaic Idealize.ShloMosaic.Pointwise
open Cert.KernelIdeal Cert.KernelIdeal.Gen
open Cert.Spec (Args)

/-- The mixed rows of the tile that begins at row `i0`. -/
def mixOf (A : Args) (b i0 : ℕ) : S1x512x2048.Idx → EReal := fun y => A.mix b (i0 + (y 1).val) (y 2).val

variable {A : Args} {b i0 : ℕ} {I : In Ideal}

/-- An index inside a store's rectangle, by its coordinates. -/
theorem mixOf_emb (o1 o2 n1 n2 : ℕ) (inb) (z : Fin 1) (r : Fin n1) (l : Fin n2) :
    mixOf A b i0 ((Rect.unit (s := S1x512x2048) ![0, o1, o2] ![1, n1, n2] inb).emb (ix3 z r l)) = A.mix b (i0 + (o1 + r.val)) (o2 + l.val) := by
  unfold mixOf
  rw [ValueKit.rect_emb_unit_val, ValueKit.rect_emb_unit_val]
  rfl

section
variable (O : Of A b i0 I) (hA : A.Real)
include O hA

theorem ret0_piece (p : Fin 4) (hh : Fin 2) (x : S1x256x128.Idx) : (I.ret0 p hh).2 x = mixOf A b i0 ((I.ret0 p hh).1.emb x) := by
  obtain ⟨z, r, l, rfl⟩ : ∃ z r l, x = ix3 z r l := ⟨x 0, x 1, x 2, eq_ix3 x⟩
  refine (out0_of O hA p hh z r l).trans (Eq.trans ?_ (mixOf_emb (256 * (0 : Fin 2).val) (128 * (2 * p.val + hh.val)) 256 128 (inbO p hh 0) z r l).symm)
  have hl := l.isLt
  rw [Args.mix, if_pos (by omega), show (128 * (2 * p.val + hh.val) + l.val) / 128 = 2 * p.val + hh.val by omega,
    show (128 * (2 * p.val + hh.val) + l.val) % 128 = l.val by omega]

theorem ret1_piece (p : Fin 4) (hh : Fin 2) (x : S1x256x128.Idx) : (I.ret1 p hh).2 x = mixOf A b i0 ((I.ret1 p hh).1.emb x) := by
  obtain ⟨z, r, l, rfl⟩ : ∃ z r l, x = ix3 z r l := ⟨x 0, x 1, x 2, eq_ix3 x⟩
  refine (out1_of O hA p hh z r l).trans (Eq.trans ?_ (mixOf_emb (256 * (1 : Fin 2).val) (128 * (2 * p.val + hh.val)) 256 128 (inbO p hh 1) z r l).symm)
  have hl := l.isLt
  rw [Args.mix, if_pos (by omega), show (128 * (2 * p.val + hh.val) + l.val) / 128 = 2 * p.val + hh.val by omega,
    show (128 * (2 * p.val + hh.val) + l.val) % 128 = l.val by omega]
end

section
variable (O : Of A b i0 I)
include O

theorem xp_piece (hd : Fin 4) (x : S1x512x128.Idx) : (I.xp hd).2 x = mixOf A b i0 ((I.xp hd).1.emb x) := by
  obtain ⟨z, r, l, rfl⟩ : ∃ z r l, x = ix3 z r l := ⟨x 0, x 1, x 2, eq_ix3 x⟩
  refine (xOut_of O hd z r l).trans (Eq.trans ?_ (mixOf_emb 0 (1536 + 128 * hd.val) 512 128 (inbX hd) z r l).symm)
  have hl := l.isLt
  rw [Args.mix, if_neg (by omega), if_neg (by omega), Nat.zero_add, show (1536 + 128 * hd.val + l.val - 1536) / 128 = hd.val by omega,
    show (1536 + 128 * hd.val + l.val - 1536) % 128 = l.val by omega]

theorem gp_piece (n : ℕ) (hn : i0 = 128 * n) (g ch : Fin 4) (x : S1x128x128.Idx) : (I.gp g ch).2 x = mixOf A b i0 ((I.gp g ch).1.emb x) := by
  obtain ⟨z, r, l, rfl⟩ : ∃ z r l, x = ix3 z r l := ⟨x 0, x 1, x 2, eq_ix3 x⟩
  refine (gOut_of O g ch z r l (n + ch.val) (by omega)).trans (Eq.trans ?_ (mixOf_emb (128 * ch.val) (1024 + 128 * g.val) 128 128 (inbGo g ch) z r l).symm)
  have hl := l.isLt
  have hr := r.isLt
  rw [Args.mix, if_neg (by omega), if_pos (by omega), show (1024 + 128 * g.val + l.val - 1024) / 128 = g.val by omega,
    show (1024 + 128 * g.val + l.val - 1024) % 128 = l.val by omega, show (i0 + (128 * ch.val + r.val)) / 128 = n + ch.val by omega,
    show (i0 + (128 * ch.val + r.val)) % 128 = r.val by omega]
end

/-! ## Every store is in the list, and the stores fill the tile -/

theorem ret0_mem (p : Fin 4) (hh : Fin 2) : I.ret0 p hh ∈ I.mixPieces := by
  unfold In.mixPieces
  match p, hh with
  | 0, 0 | 0, 1 | 1, 0 | 1, 1 | 2, 0 | 2, 1 | 3, 0 | 3, 1 => simp only [List.mem_cons, true_or, or_true]
theorem ret1_mem (p : Fin 4) (hh : Fin 2) : I.ret1 p hh ∈ I.mixPieces := by
  unfold In.mixPieces
  match p, hh with
  | 0, 0 | 0, 1 | 1, 0 | 1, 1 | 2, 0 | 2, 1 | 3, 0 | 3, 1 => simp only [List.mem_cons, true_or, or_true]
theorem xp_mem (hd : Fin 4) : I.xp hd ∈ I.mixPieces := by
  unfold In.mixPieces
  match hd with
  | 0 | 1 | 2 | 3 => simp only [List.mem_cons, true_or, or_true]
theorem gp_mem (g ch : Fin 4) : I.gp g ch ∈ I.mixPieces := by
  unfold In.mixPieces
  match g, ch with
  | 0, 0 | 0, 1 | 0, 2 | 0, 3 | 1, 0 | 1, 1 | 1, 2 | 1, 3 | 2, 0 | 2, 1 | 2, 2 | 2, 3 | 3, 0 | 3, 1 | 3, 2 | 3, 3 => simp only [List.mem_cons, true_or, or_true]

theorem mem_store (o1 o2 n1 n2 : ℕ) (inb) (y : S1x512x2048.Idx) (h1 : o1 ≤ (y 1).val ∧ (y 1).val < o1 + n1) (h2 : o2 ≤ (y 2).val ∧ (y 2).val < o2 + n2) :
    y ∈ (Rect.unit (s := S1x512x2048) ![0, o1, o2] ![1, n1, n2] inb).set := by
  rw [Rect.mem_set_unit]
  intro a
  match a with
  | 0 => exact ⟨Nat.zero_le _, (y 0).isLt⟩
  | 1 => exact h1
  | 2 => exact h2

theorem mix_cover (y : S1x512x2048.Idx) : ∃ p ∈ I.mixPieces, y ∈ p.1.set := by
  have h1 : (y 1).val < 512 := (y 1).isLt
  have h2 : (y 2).val < 2048 := (y 2).isLt
  by_cases c1 : (y 2).val < 1024
  · let p : Fin 4 := ⟨(y 2).val / 256, by omega⟩
    let hh : Fin 2 := ⟨(y 2).val / 128 % 2, by omega⟩
    have e : 2 * p.val + hh.val = (y 2).val / 128 := by show 2 * ((y 2).val / 256) + (y 2).val / 128 % 2 = _; omega
    by_cases c2 : (y 1).val < 256
    · exact ⟨_, ret0_mem p hh, mem_store (256 * (0 : Fin 2).val) (128 * (2 * p.val + hh.val)) 256 128 (inbO p hh 0) y (by show 256 * 0 ≤ _ ∧ _ < 256 * 0 + 256; omega) (by rw [e]; omega)⟩
    · exact ⟨_, ret1_mem p hh, mem_store (256 * (1 : Fin 2).val) (128 * (2 * p.val + hh.val)) 256 128 (inbO p hh 1) y (by show 256 * 1 ≤ _ ∧ _ < 256 * 1 + 256; omega) (by rw [e]; omega)⟩
  · by_cases c3 : (y 2).val < 1536
    · let g : Fin 4 := ⟨((y 2).val - 1024) / 128, by omega⟩
      let ch : Fin 4 := ⟨(y 1).val / 128, by omega⟩
      exact ⟨_, gp_mem g ch, mem_store (128 * ch.val) (1024 + 128 * g.val) 128 128 (inbGo g ch) y
        (by show 128 * ((y 1).val / 128) ≤ _ ∧ _ < 128 * ((y 1).val / 128) + 128; omega)
        (by show 1024 + 128 * (((y 2).val - 1024) / 128) ≤ _ ∧ _ < 1024 + 128 * (((y 2).val - 1024) / 128) + 128; omega)⟩
    · let hd : Fin 4 := ⟨((y 2).val - 1536) / 128, by omega⟩
      exact ⟨_, xp_mem hd, mem_store 0 (1536 + 128 * hd.val) 512 128 (inbX hd) y (by omega)
        (by show 1536 + 128 * (((y 2).val - 1536) / 128) ≤ _ ∧ _ < 1536 + 128 * (((y 2).val - 1536) / 128) + 128; omega)⟩

/-- The mixed tile. -/
theorem mix_of (O : Of A b i0 I) (hA : A.Real) (n : ℕ) (hn : i0 = 128 * n) (y : S1x512x2048.Idx) : View.canon I.mixPieces y = mixOf A b i0 y := by
  refine View.canon_apply_of_pieces (mixOf A b i0) I.mixPieces ?_ y (mix_cover y)
  unfold In.mixPieces
  refine List.forall_mem_cons.2 ⟨gp_piece O n hn 3 3, ?_⟩
  refine List.forall_mem_cons.2 ⟨gp_piece O n hn 3 2, ?_⟩
  refine List.forall_mem_cons.2 ⟨gp_piece O n hn 3 1, ?_⟩
  refine List.forall_mem_cons.2 ⟨gp_piece O n hn 3 0, ?_⟩
  refine List.forall_mem_cons.2 ⟨gp_piece O n hn 2 3, ?_⟩
  refine List.forall_mem_cons.2 ⟨gp_piece O n hn 2 2, ?_⟩
  refine List.forall_mem_cons.2 ⟨gp_piece O n hn 2 1, ?_⟩
  refine List.forall_mem_cons.2 ⟨gp_piece O n hn 2 0, ?_⟩
  refine List.forall_mem_cons.2 ⟨gp_piece O n hn 1 3, ?_⟩
  refine List.forall_mem_cons.2 ⟨gp_piece O n hn 1 2, ?_⟩
  refine List.forall_mem_cons.2 ⟨gp_piece O n hn 1 1, ?_⟩
  refine List.forall_mem_cons.2 ⟨gp_piece O n hn 1 0, ?_⟩
  refine List.forall_mem_cons.2 ⟨gp_piece O n hn 0 3, ?_⟩
  refine List.forall_mem_cons.2 ⟨gp_piece O n hn 0 2, ?_⟩
  refine List.forall_mem_cons.2 ⟨gp_piece O n hn 0 1, ?_⟩
  refine List.forall_mem_cons.2 ⟨gp_piece O n hn 0 0, ?_⟩
  refine List.forall_mem_cons.2 ⟨xp_piece O 3, ?_⟩
  refine List.forall_mem_cons.2 ⟨xp_piece O 2, ?_⟩
  refine List.forall_mem_cons.2 ⟨xp_piece O 1, ?_⟩
  refine List.forall_mem_cons.2 ⟨xp_piece O 0, ?_⟩
  refine List.forall_mem_cons.2 ⟨ret1_piece O hA 3 1, ?_⟩
  refine List.forall_mem_cons.2 ⟨ret1_piece O hA 3 0, ?_⟩
  refine List.forall_mem_cons.2 ⟨ret0_piece O hA 3 1, ?_⟩
  refine List.forall_mem_cons.2 ⟨ret0_piece O hA 3 0, ?_⟩
  refine List.forall_mem_cons.2 ⟨ret1_piece O hA 2 1, ?_⟩
  refine List.forall_mem_cons.2 ⟨ret1_piece O hA 2 0, ?_⟩
  refine List.forall_mem_cons.2 ⟨ret0_piece O hA 2 1, ?_⟩
  refine List.forall_mem_cons.2 ⟨ret0_piece O hA 2 0, ?_⟩
  refine List.forall_mem_cons.2 ⟨ret1_piece O hA 1 1, ?_⟩
  refine List.forall_mem_cons.2 ⟨ret1_piece O hA 1 0, ?_⟩
  refine List.forall_mem_cons.2 ⟨ret0_piece O hA 1 1, ?_⟩
  refine List.forall_mem_cons.2 ⟨ret0_piece O hA 1 0, ?_⟩
  refine List.forall_mem_cons.2 ⟨ret1_piece O hA 0 1, ?_⟩
  refine List.forall_mem_cons.2 ⟨ret1_piece O hA 0 0, ?_⟩
  refine List.forall_mem_cons.2 ⟨ret0_piece O hA 0 1, ?_⟩
  refine List.forall_mem_cons.2 ⟨ret0_piece O hA 0 0, ?_⟩
  exact fun q hq => absurd hq List.not_mem_nil

/-! ## The state -/

variable {L : List (View.Piece (Elt Ideal) S1x8x128x128 .f32)} (p : Fin 4) (hh : Fin 2)

theorem st_off (h : Fin 8) (d e : Fin 128) (hne : 2 * p.val + hh.val ≠ h.val) : (ix4 0 h d e : S1x8x128x128.Idx) ∉ (stRect p hh).set := by
  rw [Rect.mem_set_unit]
  intro hm
  have h1 : 2 * p.val + hh.val ≤ h.val ∧ h.val < 2 * p.val + hh.val + 1 := hm 1
  omega

theorem st2_skip (h : Fin 8) (d e : Fin 128) (hne : 2 * p.val + hh.val ≠ h.val) : View.canon (I.st2 p hh :: L) (ix4 0 h d e) = View.canon L (ix4 0 h d e) :=
  View.canon_cons_of_not_mem _ _ (st_off p hh h d e hne)

theorem st1_skip (h : Fin 8) (d e : Fin 128) (hne : 2 * p.val + hh.val ≠ h.val) : View.canon (I.st1 p hh :: L) (ix4 0 h d e) = View.canon L (ix4 0 h d e) :=
  View.canon_cons_of_not_mem _ _ (st_off p hh h d e hne)

theorem st2_hit (O : Of A b i0 I) (hA : A.Real) (h : Fin 8) (d e : Fin 128) (hh' : 2 * p.val + hh.val = h.val) :
    View.canon (I.st2 p hh :: L) (ix4 0 h d e) = (A.s b h.val (i0 + 512) d.val e.val : EReal) := by
  have he : (ix4 0 h d e : S1x8x128x128.Idx) = (stRect p hh).emb (ix4 0 0 d e) := by
    funext a
    apply Fin.ext
    rw [ValueKit.rect_emb_unit_val]
    match a with
    | 0 => rfl
    | 1 => exact hh'.symm
    | 2 => exact (Nat.zero_add _).symm
    | 3 => exact (Nat.zero_add _).symm
  rw [he]
  refine (View.canon_cons_emb (stRect p hh) (I.s2 p hh) L (ix4 0 0 d e)).trans ?_
  rw [s2_of O hA, hh']

/-- The state after the tile, whatever was stored before. -/
theorem st_of (O : Of A b i0 I) (hA : A.Real) (h : Fin 8) (d e : Fin 128) :
    View.canon (I.stPieces ++ L) (ix4 0 h d e) = (A.s b h.val (i0 + 512) d.val e.val : EReal) := by
  unfold In.stPieces
  simp only [List.cons_append, List.nil_append]
  match h with
  | 7 => exact st2_hit 3 1 O hA 7 d e rfl
  | 6 => exact (st2_skip 3 1 6 d e (by decide)).trans (st2_hit 3 0 O hA 6 d e rfl)
  | 5 =>
    rw [st2_skip 3 1 _ d e (by decide), st2_skip 3 0 _ d e (by decide), st1_skip 3 1 _ d e (by decide), st1_skip 3 0 _ d e (by decide)]
    exact st2_hit 2 1 O hA 5 d e rfl
  | 4 =>
    rw [st2_skip 3 1 _ d e (by decide), st2_skip 3 0 _ d e (by decide), st1_skip 3 1 _ d e (by decide), st1_skip 3 0 _ d e (by decide), st2_skip 2 1 _ d e (by decide)]
    exact st2_hit 2 0 O hA 4 d e rfl
  | 3 =>
    rw [st2_skip 3 1 _ d e (by decide), st2_skip 3 0 _ d e (by decide), st1_skip 3 1 _ d e (by decide), st1_skip 3 0 _ d e (by decide),
      st2_skip 2 1 _ d e (by decide), st2_skip 2 0 _ d e (by decide), st1_skip 2 1 _ d e (by decide), st1_skip 2 0 _ d e (by decide)]
    exact st2_hit 1 1 O hA 3 d e rfl
  | 2 =>
    rw [st2_skip 3 1 _ d e (by decide), st2_skip 3 0 _ d e (by decide), st1_skip 3 1 _ d e (by decide), st1_skip 3 0 _ d e (by decide),
      st2_skip 2 1 _ d e (by decide), st2_skip 2 0 _ d e (by decide), st1_skip 2 1 _ d e (by decide), st1_skip 2 0 _ d e (by decide), st2_skip 1 1 _ d e (by decide)]
    exact st2_hit 1 0 O hA 2 d e rfl
  | 1 =>
    rw [st2_skip 3 1 _ d e (by decide), st2_skip 3 0 _ d e (by decide), st1_skip 3 1 _ d e (by decide), st1_skip 3 0 _ d e (by decide),
      st2_skip 2 1 _ d e (by decide), st2_skip 2 0 _ d e (by decide), st1_skip 2 1 _ d e (by decide), st1_skip 2 0 _ d e (by decide),
      st2_skip 1 1 _ d e (by decide), st2_skip 1 0 _ d e (by decide), st1_skip 1 1 _ d e (by decide), st1_skip 1 0 _ d e (by decide)]
    exact st2_hit 0 1 O hA 1 d e rfl
  | 0 =>
    rw [st2_skip 3 1 _ d e (by decide), st2_skip 3 0 _ d e (by decide), st1_skip 3 1 _ d e (by decide), st1_skip 3 0 _ d e (by decide),
      st2_skip 2 1 _ d e (by decide), st2_skip 2 0 _ d e (by decide), st1_skip 2 1 _ d e (by decide), st1_skip 2 0 _ d e (by decide),
      st2_skip 1 1 _ d e (by decide), st2_skip 1 0 _ d e (by decide), st1_skip 1 1 _ d e (by decide), st1_skip 1 0 _ d e (by decide), st2_skip 0 1 _ d e (by decide)]
    exact st2_hit 0 0 O hA 0 d e rfl

end Cert.KernelIdeal.Layer

end

end
-- ==== Proof.Layer.CaseA.lean ====
/- Case A of the prompt kernel's body: its two outputs are the stores `Tile.lean` lists. -/
module

public import proofs.«01_k».proof.Proof.Layer.Frame
public import proofs.«01_k».proof.Proof.Layer.Bias
public import Idealize.ShloMosaic.Lib.Pipeline.ReadBack

@[expose] public section

set_option maxRecDepth 16384
set_option maxHeartbeats 8000000

noncomputable section

namespace Cert.KernelIdeal.Layer

open Idealize.ShloMosaic Idealize.ShloMosaic.Tactic
open Cert.KernelIdeal Cert.KernelIdeal.Gen

variable {F : FTy → Type} [FloatOps F]

variable (c : Dev nD) (i : grid0.Coords)
  (arg2 : Memref sig .tc .vmem S1x512x2048 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S1x256x512 .bf16) (harg5 : arg5.IsWhole)
  (arg6 : Memref sig .tc .vmem S1x256x512 .bf16) (harg6 : arg6.IsWhole)
  (arg7 : Memref sig .tc .vmem S1x2048 .f32) (harg7 : arg7.IsWhole)
  (arg8 : Memref sig .tc .vmem S2048x6656 .bf16) (harg8 : arg8.IsWhole)
  (arg9 : Memref sig .tc .vmem S1x1024 .f32) (harg9 : arg9.IsWhole)
  (arg10 : Memref sig .tc .vmem S1x512 .f32) (harg10 : arg10.IsWhole)
  (arg11 : Memref sig .tc .vmem S4x128x128 .f32) (harg11 : arg11.IsWhole)
  (arg12 : Memref sig .tc .vmem S4x128 .f32) (harg12 : arg12.IsWhole)
  (arg13 : Memref sig .tc .vmem S8x256x256 .f32) (harg13 : arg13.IsWhole)
  (arg14 : Memref sig .tc .vmem S8x256x128 .f32) (harg14 : arg14.IsWhole)
  (arg15 : Memref sig .tc .vmem S8x256x128 .f32) (harg15 : arg15.IsWhole)
  (arg16 : Memref sig .tc .vmem S8x1x128 .f32) (harg16 : arg16.IsWhole)
  (arg17 : Memref sig .tc .vmem S2048x128 .f32) (harg17 : arg17.IsWhole)
  (arg18 : Memref sig .tc .vmem S1x512x2048 .bf16) (harg18 : arg18.IsWhole)
  (arg19 : Memref sig .tc .vmem S1x8x128x128 .f32) (harg19 : arg19.IsWhole)
  (arg20 : Memref sig .tc .vmem S2048x128 .bf16) (harg20 : arg20.IsWhole)
  (arg21 : Memref sig .tc .vmem S512x2048 .bf16) (harg21 : arg21.IsWhole)
  (arg22 : Memref sig .tc .vmem S4x128x128 .f32) (harg22 : arg22.IsWhole)

theorem out16_A (hc0 : cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 =
      View.canon (In.mixPieces (inOf x0 x1 x2 x3 x4 x5 x6 x7 x8 x9 x11 x12 x13 x14 k0_pay9 (biasTile x10))) := by
  unfold out0_A_16
  rw [View.read_writes_junk_eq_canon]
  unfold kernelRun0_A
  dsimp only
  sl_unfold_words
  simp (disch := decide) only [View.readAt_eq_ld, Memref.IsWhole.read_unread, View.readCov_cons_toLoadRect, View.readCov_skip, View.readCov_fill]
  rfl

theorem out17_A (hc0 : cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 =
      View.canon (In.stPieces (inOf x0 x1 x2 x3 x4 x5 x6 x7 x8 x9 x11 x12 x13 x14 k0_pay9 (biasTile x10)) ++ fillPieces) := by
  unfold out0_A_17
  rw [View.read_writes_junk_eq_canon]
  unfold kernelRun0_A
  dsimp only
  sl_unfold_words
  simp (disch := decide) only [View.readAt_eq_ld, Memref.IsWhole.read_unread, View.readCov_cons_toLoadRect, View.readCov_skip, View.readCov_fill]
  rfl

theorem bias_A (hc0 : cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 = View.canon (biasPieces x10) := by
  unfold sout0_A_1
  rw [View.read_writes_junk_eq_canon]
  unfold kernelRun0_A
  dsimp only
  sl_unfold_words
  simp only [View.readAt_eq_ld, Memref.IsWhole.read_unread]
  rfl

end Cert.KernelIdeal.Layer

end

end
-- ==== Proof.Layer.CaseB.lean ====
/- Case B of the prompt kernel's body: its two outputs are the stores `Tile.lean` lists. -/
module

public import proofs.«01_k».proof.Proof.Layer.Frame
public import proofs.«01_k».proof.Proof.Layer.Bias
public import Idealize.ShloMosaic.Lib.Pipeline.ReadBack

@[expose] public section

set_option maxRecDepth 16384
set_option maxHeartbeats 8000000

noncomputable section

namespace Cert.KernelIdeal.Layer

open Idealize.ShloMosaic Idealize.ShloMosaic.Tactic
open Cert.KernelIdeal Cert.KernelIdeal.Gen

variable {F : FTy → Type} [FloatOps F]

variable (c : Dev nD) (i : grid0.Coords)
  (arg2 : Memref sig .tc .vmem S1x512x2048 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S1x256x512 .bf16) (harg5 : arg5.IsWhole)
  (arg6 : Memref sig .tc .vmem S1x256x512 .bf16) (harg6 : arg6.IsWhole)
  (arg7 : Memref sig .tc .vmem S1x2048 .f32) (harg7 : arg7.IsWhole)
  (arg8 : Memref sig .tc .vmem S2048x6656 .bf16) (harg8 : arg8.IsWhole)
  (arg9 : Memref sig .tc .vmem S1x1024 .f32) (harg9 : arg9.IsWhole)
  (arg10 : Memref sig .tc .vmem S1x512 .f32) (harg10 : arg10.IsWhole)
  (arg11 : Memref sig .tc .vmem S4x128x128 .f32) (harg11 : arg11.IsWhole)
  (arg12 : Memref sig .tc .vmem S4x128 .f32) (harg12 : arg12.IsWhole)
  (arg13 : Memref sig .tc .vmem S8x256x256 .f32) (harg13 : arg13.IsWhole)
  (arg14 : Memref sig .tc .vmem S8x256x128 .f32) (harg14 : arg14.IsWhole)
  (arg15 : Memref sig .tc .vmem S8x256x128 .f32) (harg15 : arg15.IsWhole)
  (arg16 : Memref sig .tc .vmem S8x1x128 .f32) (harg16 : arg16.IsWhole)
  (arg17 : Memref sig .tc .vmem S2048x128 .f32) (harg17 : arg17.IsWhole)
  (arg18 : Memref sig .tc .vmem S1x512x2048 .bf16) (harg18 : arg18.IsWhole)
  (arg19 : Memref sig .tc .vmem S1x8x128x128 .f32) (harg19 : arg19.IsWhole)
  (arg20 : Memref sig .tc .vmem S2048x128 .bf16) (harg20 : arg20.IsWhole)
  (arg21 : Memref sig .tc .vmem S512x2048 .bf16) (harg21 : arg21.IsWhole)
  (arg22 : Memref sig .tc .vmem S4x128x128 .f32) (harg22 : arg22.IsWhole)

theorem out16_B (hc0 : ¬cond0_0 i) (hc1 : cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1 =
      View.canon (In.mixPieces (inOf x0 x1 x2 x3 x4 x5 x6 x7 x8 x9 x11 x12 x13 x14 xo17 (fun g => View.ld xs1 (Rect.unit (s := S4x128x128) ![g.val, 0, 0] S1x128x128.size (inbG g))))) := by
  unfold out0_B_16
  rw [View.read_writes_junk_eq_canon]
  unfold kernelRun0_B
  dsimp only
  sl_unfold_words
  simp (disch := decide) only [View.readAt_eq_ld, Memref.IsWhole.read_unread, View.readCov_cons_toLoadRect, View.readCov_skip, View.readCov_fill]
  rfl

theorem out17_B (hc0 : ¬cond0_0 i) (hc1 : cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1 =
      View.canon (In.stPieces (inOf x0 x1 x2 x3 x4 x5 x6 x7 x8 x9 x11 x12 x13 x14 xo17 (fun g => View.ld xs1 (Rect.unit (s := S4x128x128) ![g.val, 0, 0] S1x128x128.size (inbG g))))) := by
  unfold out0_B_17
  rw [View.read_writes_junk_eq_canon]
  unfold kernelRun0_B
  dsimp only
  sl_unfold_words
  simp (disch := decide) only [View.readAt_eq_ld, Memref.IsWhole.read_unread, View.readCov_cons_toLoadRect, View.readCov_skip, View.readCov_fill]
  rfl

end Cert.KernelIdeal.Layer

end

end
-- ==== Proof.Layer.CaseC.lean ====
/- Case C of the prompt kernel's body: its two outputs are the stores `Tile.lean` lists. -/
module

public import proofs.«01_k».proof.Proof.Layer.Frame
public import proofs.«01_k».proof.Proof.Layer.Bias
public import Idealize.ShloMosaic.Lib.Pipeline.ReadBack

@[expose] public section

set_option maxRecDepth 16384
set_option maxHeartbeats 8000000

noncomputable section

namespace Cert.KernelIdeal.Layer

open Idealize.ShloMosaic Idealize.ShloMosaic.Tactic
open Cert.KernelIdeal Cert.KernelIdeal.Gen

variable {F : FTy → Type} [FloatOps F]

variable (c : Dev nD) (i : grid0.Coords)
  (arg2 : Memref sig .tc .vmem S1x512x2048 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S1x256x512 .bf16) (harg5 : arg5.IsWhole)
  (arg6 : Memref sig .tc .vmem S1x256x512 .bf16) (harg6 : arg6.IsWhole)
  (arg7 : Memref sig .tc .vmem S1x2048 .f32) (harg7 : arg7.IsWhole)
  (arg8 : Memref sig .tc .vmem S2048x6656 .bf16) (harg8 : arg8.IsWhole)
  (arg9 : Memref sig .tc .vmem S1x1024 .f32) (harg9 : arg9.IsWhole)
  (arg10 : Memref sig .tc .vmem S1x512 .f32) (harg10 : arg10.IsWhole)
  (arg11 : Memref sig .tc .vmem S4x128x128 .f32) (harg11 : arg11.IsWhole)
  (arg12 : Memref sig .tc .vmem S4x128 .f32) (harg12 : arg12.IsWhole)
  (arg13 : Memref sig .tc .vmem S8x256x256 .f32) (harg13 : arg13.IsWhole)
  (arg14 : Memref sig .tc .vmem S8x256x128 .f32) (harg14 : arg14.IsWhole)
  (arg15 : Memref sig .tc .vmem S8x256x128 .f32) (harg15 : arg15.IsWhole)
  (arg16 : Memref sig .tc .vmem S8x1x128 .f32) (harg16 : arg16.IsWhole)
  (arg17 : Memref sig .tc .vmem S2048x128 .f32) (harg17 : arg17.IsWhole)
  (arg18 : Memref sig .tc .vmem S1x512x2048 .bf16) (harg18 : arg18.IsWhole)
  (arg19 : Memref sig .tc .vmem S1x8x128x128 .f32) (harg19 : arg19.IsWhole)
  (arg20 : Memref sig .tc .vmem S2048x128 .bf16) (harg20 : arg20.IsWhole)
  (arg21 : Memref sig .tc .vmem S512x2048 .bf16) (harg21 : arg21.IsWhole)
  (arg22 : Memref sig .tc .vmem S4x128x128 .f32) (harg22 : arg22.IsWhole)

theorem out16_C (hc0 : ¬cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) :
    out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1 =
      View.canon (In.mixPieces (inOf x0 x1 x2 x3 x4 x5 x6 x7 x8 x9 x11 x12 x13 x14 k0_pay9 (fun g => View.ld xs1 (Rect.unit (s := S4x128x128) ![g.val, 0, 0] S1x128x128.size (inbG g))))) := by
  unfold out0_C_16
  rw [View.read_writes_junk_eq_canon]
  unfold kernelRun0_C
  dsimp only
  sl_unfold_words
  simp (disch := decide) only [View.readAt_eq_ld, Memref.IsWhole.read_unread, View.readCov_cons_toLoadRect, View.readCov_skip, View.readCov_fill]
  rfl

theorem out17_C (hc0 : ¬cond0_0 i) (hc1 : cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1 =
      View.canon (In.stPieces (inOf x0 x1 x2 x3 x4 x5 x6 x7 x8 x9 x11 x12 x13 x14 k0_pay9 (fun g => View.ld xs1 (Rect.unit (s := S4x128x128) ![g.val, 0, 0] S1x128x128.size (inbG g)))) ++ fillPieces) := by
  unfold out0_C_17
  rw [View.read_writes_junk_eq_canon]
  unfold kernelRun0_C
  dsimp only
  sl_unfold_words
  simp (disch := decide) only [View.readAt_eq_ld, Memref.IsWhole.read_unread, View.readCov_cons_toLoadRect, View.readCov_skip, View.readCov_fill]
  rfl

end Cert.KernelIdeal.Layer

end

end
-- ==== Proof.Layer.CaseD.lean ====
/- Case D of the prompt kernel's body: its two outputs are the stores `Tile.lean` lists. -/
module

public import proofs.«01_k».proof.Proof.Layer.Frame
public import proofs.«01_k».proof.Proof.Layer.Bias
public import Idealize.ShloMosaic.Lib.Pipeline.ReadBack

@[expose] public section

set_option maxRecDepth 16384
set_option maxHeartbeats 8000000

noncomputable section

namespace Cert.KernelIdeal.Layer

open Idealize.ShloMosaic Idealize.ShloMosaic.Tactic
open Cert.KernelIdeal Cert.KernelIdeal.Gen

variable {F : FTy → Type} [FloatOps F]

variable (c : Dev nD) (i : grid0.Coords)
  (arg2 : Memref sig .tc .vmem S1x512x2048 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S1x256x512 .bf16) (harg5 : arg5.IsWhole)
  (arg6 : Memref sig .tc .vmem S1x256x512 .bf16) (harg6 : arg6.IsWhole)
  (arg7 : Memref sig .tc .vmem S1x2048 .f32) (harg7 : arg7.IsWhole)
  (arg8 : Memref sig .tc .vmem S2048x6656 .bf16) (harg8 : arg8.IsWhole)
  (arg9 : Memref sig .tc .vmem S1x1024 .f32) (harg9 : arg9.IsWhole)
  (arg10 : Memref sig .tc .vmem S1x512 .f32) (harg10 : arg10.IsWhole)
  (arg11 : Memref sig .tc .vmem S4x128x128 .f32) (harg11 : arg11.IsWhole)
  (arg12 : Memref sig .tc .vmem S4x128 .f32) (harg12 : arg12.IsWhole)
  (arg13 : Memref sig .tc .vmem S8x256x256 .f32) (harg13 : arg13.IsWhole)
  (arg14 : Memref sig .tc .vmem S8x256x128 .f32) (harg14 : arg14.IsWhole)
  (arg15 : Memref sig .tc .vmem S8x256x128 .f32) (harg15 : arg15.IsWhole)
  (arg16 : Memref sig .tc .vmem S8x1x128 .f32) (harg16 : arg16.IsWhole)
  (arg17 : Memref sig .tc .vmem S2048x128 .f32) (harg17 : arg17.IsWhole)
  (arg18 : Memref sig .tc .vmem S1x512x2048 .bf16) (harg18 : arg18.IsWhole)
  (arg19 : Memref sig .tc .vmem S1x8x128x128 .f32) (harg19 : arg19.IsWhole)
  (arg20 : Memref sig .tc .vmem S2048x128 .bf16) (harg20 : arg20.IsWhole)
  (arg21 : Memref sig .tc .vmem S512x2048 .bf16) (harg21 : arg21.IsWhole)
  (arg22 : Memref sig .tc .vmem S4x128x128 .f32) (harg22 : arg22.IsWhole)

theorem out16_D (hc0 : ¬cond0_0 i) (hc1 : ¬cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) :
    out0_D_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1 =
      View.canon (In.mixPieces (inOf x0 x1 x2 x3 x4 x5 x6 x7 x8 x9 x11 x12 x13 x14 k0_pay9 (fun g => View.ld xs1 (Rect.unit (s := S4x128x128) ![g.val, 0, 0] S1x128x128.size (inbG g))))) := by
  unfold out0_D_16
  rw [View.read_writes_junk_eq_canon]
  unfold kernelRun0_D
  dsimp only
  sl_unfold_words
  simp (disch := decide) only [View.readAt_eq_ld, Memref.IsWhole.read_unread, View.readCov_cons_toLoadRect, View.readCov_skip, View.readCov_fill]
  rfl

theorem out17_D (hc0 : ¬cond0_0 i) (hc1 : ¬cond0_1 i) (hc2 : cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xs1 : Vec F S4x128x128 .f32) :
    out0_D_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs1 =
      View.canon (In.stPieces (inOf x0 x1 x2 x3 x4 x5 x6 x7 x8 x9 x11 x12 x13 x14 k0_pay9 (fun g => View.ld xs1 (Rect.unit (s := S4x128x128) ![g.val, 0, 0] S1x128x128.size (inbG g)))) ++ fillPieces) := by
  unfold out0_D_17
  rw [View.read_writes_junk_eq_canon]
  unfold kernelRun0_D
  dsimp only
  sl_unfold_words
  simp (disch := decide) only [View.readAt_eq_ld, Memref.IsWhole.read_unread, View.readCov_cons_toLoadRect, View.readCov_skip, View.readCov_fill]
  rfl

end Cert.KernelIdeal.Layer

end

end
-- ==== Proof.Layer.CaseE.lean ====
/- Case E of the prompt kernel's body: its two outputs are the stores `Tile.lean` lists. -/
module

public import proofs.«01_k».proof.Proof.Layer.Frame
public import proofs.«01_k».proof.Proof.Layer.Bias
public import Idealize.ShloMosaic.Lib.Pipeline.ReadBack

@[expose] public section

set_option maxRecDepth 16384
set_option maxHeartbeats 8000000

noncomputable section

namespace Cert.KernelIdeal.Layer

open Idealize.ShloMosaic Idealize.ShloMosaic.Tactic
open Cert.KernelIdeal Cert.KernelIdeal.Gen

variable {F : FTy → Type} [FloatOps F]

variable (c : Dev nD) (i : grid0.Coords)
  (arg2 : Memref sig .tc .vmem S1x512x2048 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S1x256x512 .bf16) (harg5 : arg5.IsWhole)
  (arg6 : Memref sig .tc .vmem S1x256x512 .bf16) (harg6 : arg6.IsWhole)
  (arg7 : Memref sig .tc .vmem S1x2048 .f32) (harg7 : arg7.IsWhole)
  (arg8 : Memref sig .tc .vmem S2048x6656 .bf16) (harg8 : arg8.IsWhole)
  (arg9 : Memref sig .tc .vmem S1x1024 .f32) (harg9 : arg9.IsWhole)
  (arg10 : Memref sig .tc .vmem S1x512 .f32) (harg10 : arg10.IsWhole)
  (arg11 : Memref sig .tc .vmem S4x128x128 .f32) (harg11 : arg11.IsWhole)
  (arg12 : Memref sig .tc .vmem S4x128 .f32) (harg12 : arg12.IsWhole)
  (arg13 : Memref sig .tc .vmem S8x256x256 .f32) (harg13 : arg13.IsWhole)
  (arg14 : Memref sig .tc .vmem S8x256x128 .f32) (harg14 : arg14.IsWhole)
  (arg15 : Memref sig .tc .vmem S8x256x128 .f32) (harg15 : arg15.IsWhole)
  (arg16 : Memref sig .tc .vmem S8x1x128 .f32) (harg16 : arg16.IsWhole)
  (arg17 : Memref sig .tc .vmem S2048x128 .f32) (harg17 : arg17.IsWhole)
  (arg18 : Memref sig .tc .vmem S1x512x2048 .bf16) (harg18 : arg18.IsWhole)
  (arg19 : Memref sig .tc .vmem S1x8x128x128 .f32) (harg19 : arg19.IsWhole)
  (arg20 : Memref sig .tc .vmem S2048x128 .bf16) (harg20 : arg20.IsWhole)
  (arg21 : Memref sig .tc .vmem S512x2048 .bf16) (harg21 : arg21.IsWhole)
  (arg22 : Memref sig .tc .vmem S4x128x128 .f32) (harg22 : arg22.IsWhole)

theorem out16_E (hc0 : ¬cond0_0 i) (hc1 : ¬cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) :
    out0_E_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1 =
      View.canon (In.mixPieces (inOf x0 x1 x2 x3 x4 x5 x6 x7 x8 x9 x11 x12 x13 x14 xo17 (fun g => View.ld xs1 (Rect.unit (s := S4x128x128) ![g.val, 0, 0] S1x128x128.size (inbG g))))) := by
  unfold out0_E_16
  rw [View.read_writes_junk_eq_canon]
  unfold kernelRun0_E
  dsimp only
  sl_unfold_words
  simp (disch := decide) only [View.readAt_eq_ld, Memref.IsWhole.read_unread, View.readCov_cons_toLoadRect, View.readCov_skip, View.readCov_fill]
  rfl

theorem out17_E (hc0 : ¬cond0_0 i) (hc1 : ¬cond0_1 i) (hc2 : ¬cond0_2 i)
    (x0 : Vec F S1x512x2048 .f32) (x1 : Vec F S512x128 .f32) (x2 : Vec F S512x128 .f32) (x3 : Vec F S1x256x512 .bf16) (x4 : Vec F S1x256x512 .bf16) (x5 : Vec F S1x2048 .f32) (x6 : Vec F S2048x6656 .bf16) (x7 : Vec F S1x1024 .f32) (x8 : Vec F S1x512 .f32) (x9 : Vec F S4x128x128 .f32) (x10 : Vec F S4x128 .f32) (x11 : Vec F S8x256x256 .f32) (x12 : Vec F S8x256x128 .f32) (x13 : Vec F S8x256x128 .f32) (x14 : Vec F S8x1x128 .f32) (x15 : Vec F S2048x128 .f32) (xo17 : Vec F S1x8x128x128 .f32) (xs1 : Vec F S4x128x128 .f32) :
    out0_E_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xo17 xs1 =
      View.canon (In.stPieces (inOf x0 x1 x2 x3 x4 x5 x6 x7 x8 x9 x11 x12 x13 x14 xo17 (fun g => View.ld xs1 (Rect.unit (s := S4x128x128) ![g.val, 0, 0] S1x128x128.size (inbG g))))) := by
  unfold out0_E_17
  rw [View.read_writes_junk_eq_canon]
  unfold kernelRun0_E
  dsimp only
  sl_unfold_words
  simp (disch := decide) only [View.readAt_eq_ld, Memref.IsWhole.read_unread, View.readCov_cons_toLoadRect, View.readCov_skip, View.readCov_fill]
  rfl

end Cert.KernelIdeal.Layer

end

end
-- ==== Proof.Math.Points.lean ====
/- The contents the grid points leave, in the order they run: each tile's rows of the output, the state after its last row,
   and the bias tiles the first point filled. -/
module

public import proofs.«01_k».proof.Proof.Math.Blocks
public import proofs.«01_k».proof.Proof.Math.TileMix
public import proofs.«01_k».proof.Proof.Layer.CaseA
public import proofs.«01_k».proof.Proof.Layer.CaseB
public import proofs.«01_k».proof.Proof.Layer.CaseC
public import proofs.«01_k».proof.Proof.Layer.CaseD
public import proofs.«01_k».proof.Proof.Layer.CaseE
public import proofs.«01_k».proof.Proof.Layer.Value

@[expose] public section

noncomputable section

namespace Cert.KernelIdeal.Layer

open Idealize.ShloMosaic Idealize.ShloMosaic.Pointwise Idealize.ShloMosaic.TcCoe
open Cert.KernelIdeal Cert.KernelIdeal.Gen

variable (m : (ℓ : Loc nD τ sig) → Buf (Elt Ideal) ℓ) (c : Dev nD)

/-- The four bias tiles of a scratch, one at a time. -/
def tiles (xs : Vec Ideal S4x128x128 .f32) (g : Fin 4) : Vec Ideal S1x128x128 .f32 :=
  View.ld xs (Rect.unit (s := S4x128x128) ![g.val, 0, 0] S1x128x128.size (inbG g))

theorem tiles_at (xs : S4x128x128.Idx → EReal) (g : Fin 4) (r l : Fin 128) : tiles xs g (ix3 0 r l) = xs (ix3 g r l) := by
  refine congrArg xs (funext fun a => Fin.ext ?_)
  refine (ValueKit.rect_emb_unit_val _ _ _ _ _).trans ?_
  fin_cases a
  · show g.val + 0 = g.val
    omega
  · show 0 + r.val = r.val
    omega
  · show 0 + l.val = l.val
    omega

/-- What the filled scratch holds. -/
def biasOf (bs : S4x128.Idx → EReal) : S4x128x128.Idx → EReal := fun y => bs (ix2 (n0 := 4) (n1 := 128) (y 0) (y 1))

theorem bias_piece (bs : S4x128.Idx → EReal) (g : Fin 4) (x : S1x128x128.Idx) : biasTile (F := Ideal) bs g x
    = biasOf bs ((Rect.unit (s := S4x128x128) ![g.val, 0, 0] S1x128x128.size (inbG g)).emb x) := by
  obtain ⟨z, r, l, rfl⟩ : ∃ z r l, x = ix3 z r l := ⟨x 0, x 1, x 2, eq_ix3 x⟩
  refine (biasTile_at bs g z r l).trans (congrArg bs ?_)
  have e0 := ValueKit.rect_emb_unit_val (s := S4x128x128) ![g.val, 0, 0] S1x128x128.size (inbG g) (ix3 z r l) 0
  have e1 := ValueKit.rect_emb_unit_val (s := S4x128x128) ![g.val, 0, 0] S1x128x128.size (inbG g) (ix3 z r l) 1
  funext a
  apply Fin.ext
  fin_cases a
  · refine Eq.trans ?_ e0.symm
    show g.val = g.val + z.val
    omega
  · refine Eq.trans ?_ e1.symm
    show r.val = 0 + r.val
    omega

theorem bias_mem (y : S4x128x128.Idx) (g : Fin 4) (h : (y 0).val = g.val) :
    y ∈ (Rect.unit (s := S4x128x128) ![g.val, 0, 0] S1x128x128.size (inbG g)).set := by
  rw [Rect.mem_set_unit]
  intro a
  match a with
  | 0 => exact ⟨h.symm.le, by show (y 0).val < g.val + 1; omega⟩
  | 1 => exact ⟨Nat.zero_le _, lt_of_lt_of_eq (y 1).isLt (Nat.zero_add _).symm⟩
  | 2 => exact ⟨Nat.zero_le _, lt_of_lt_of_eq (y 2).isLt (Nat.zero_add _).symm⟩

/-- The scratch after the four bias tiles have been stored. -/
theorem bias_canon (bs : S4x128.Idx → EReal) (g : Fin 4) (r l : Fin 128) :
    View.canon (biasPieces (F := Ideal) bs) (ix3 g r l) = bs (ix2 g r) := by
  refine View.canon_apply_of_pieces (biasOf bs) (biasPieces (F := Ideal) bs) ?_ (ix3 g r l)
    ⟨⟨Rect.unit (s := S4x128x128) ![g.val, 0, 0] S1x128x128.size (inbG g), biasTile bs g⟩, ?_, bias_mem _ g rfl⟩
  · unfold biasPieces
    refine List.forall_mem_cons.2 ⟨bias_piece bs 3, ?_⟩
    refine List.forall_mem_cons.2 ⟨bias_piece bs 2, ?_⟩
    refine List.forall_mem_cons.2 ⟨bias_piece bs 1, ?_⟩
    refine List.forall_mem_cons.2 ⟨bias_piece bs 0, ?_⟩
    exact fun _ h => absurd h List.not_mem_nil
  · unfold biasPieces
    match g with
    | 0 | 1 | 2 | 3 => simp only [List.mem_cons, true_or, or_true]

/-! ## The cases, each over what the point before left -/

theorem point_A (t : Fin cfg0.N) (h0 : t.val % 32 = 0) (h1 : t.val < 16) (h2 : t.val % 8 = 0) :
    outsAt0 m c t.val t.isLt = ((View.canon (In.mixPieces (inAt m c t (k0_pay9 (F := Ideal)) (biasTile (F := Ideal) (iblk m c 10 t)))) : Vec Ideal S1x512x2048 .bf16),
      (View.canon (In.stPieces (inAt m c t (k0_pay9 (F := Ideal)) (biasTile (F := Ideal) (iblk m c 10 t))) ++ fillPieces) : Vec Ideal S1x8x128x128 .f32), (View.canon (biasPieces (F := Ideal) (iblk m c 10 t)) : Vec Ideal S4x128x128 .f32)) := by
  rw [outsAt0_A m c t h0 h1 h2, out16_A, out17_A, bias_A]
  rfl

theorem point_B (t : Fin cfg0.N) (h0 : ¬t.val % 32 = 0) (h1 : t.val < 16) (h2 : ¬t.val % 8 = 0) :
    outsAt0 m c t.val t.isLt = ((View.canon (In.mixPieces (inAt m c t (outsAt0 m c (t.val - 1) (Nat.lt_of_le_of_lt (Nat.sub_le _ _) t.isLt)).2.1 (tiles (outsAt0 m c (t.val - 1) (Nat.lt_of_le_of_lt (Nat.sub_le _ _) t.isLt)).2.2))) : Vec Ideal S1x512x2048 .bf16),
      (View.canon (In.stPieces (inAt m c t (outsAt0 m c (t.val - 1) (Nat.lt_of_le_of_lt (Nat.sub_le _ _) t.isLt)).2.1 (tiles (outsAt0 m c (t.val - 1) (Nat.lt_of_le_of_lt (Nat.sub_le _ _) t.isLt)).2.2))) : Vec Ideal S1x8x128x128 .f32), (outsAt0 m c (t.val - 1) (Nat.lt_of_le_of_lt (Nat.sub_le _ _) t.isLt)).2.2) := by
  rw [outsAt0_B m c t h0 h1 h2, out16_B, out17_B]
  rfl

theorem point_C (t : Fin cfg0.N) (h0 : ¬t.val % 32 = 0) (h1 : t.val < 16) (h2 : t.val % 8 = 0) :
    outsAt0 m c t.val t.isLt = ((View.canon (In.mixPieces (inAt m c t (k0_pay9 (F := Ideal)) (tiles (outsAt0 m c (t.val - 1) (Nat.lt_of_le_of_lt (Nat.sub_le _ _) t.isLt)).2.2))) : Vec Ideal S1x512x2048 .bf16),
      (View.canon (In.stPieces (inAt m c t (k0_pay9 (F := Ideal)) (tiles (outsAt0 m c (t.val - 1) (Nat.lt_of_le_of_lt (Nat.sub_le _ _) t.isLt)).2.2)) ++ fillPieces) : Vec Ideal S1x8x128x128 .f32), (outsAt0 m c (t.val - 1) (Nat.lt_of_le_of_lt (Nat.sub_le _ _) t.isLt)).2.2) := by
  rw [outsAt0_C m c t h0 h1 h2, out16_C, out17_C]
  rfl

theorem point_D (t : Fin cfg0.N) (h0 : ¬t.val % 32 = 0) (h1 : ¬t.val < 16) (h2 : t.val % 8 = 0) :
    outsAt0 m c t.val t.isLt = ((View.canon (In.mixPieces (inAt m c t (k0_pay9 (F := Ideal)) (tiles (outsAt0 m c (t.val - 1) (Nat.lt_of_le_of_lt (Nat.sub_le _ _) t.isLt)).2.2))) : Vec Ideal S1x512x2048 .bf16),
      (View.canon (In.stPieces (inAt m c t (k0_pay9 (F := Ideal)) (tiles (outsAt0 m c (t.val - 1) (Nat.lt_of_le_of_lt (Nat.sub_le _ _) t.isLt)).2.2)) ++ fillPieces) : Vec Ideal S1x8x128x128 .f32), (outsAt0 m c (t.val - 1) (Nat.lt_of_le_of_lt (Nat.sub_le _ _) t.isLt)).2.2) := by
  rw [outsAt0_D m c t h0 h1 h2, out16_D, out17_D]
  rfl

theorem point_E (t : Fin cfg0.N) (h0 : ¬t.val % 32 = 0) (h1 : ¬t.val < 16) (h2 : ¬t.val % 8 = 0) :
    outsAt0 m c t.val t.isLt = ((View.canon (In.mixPieces (inAt m c t (outsAt0 m c (t.val - 1) (Nat.lt_of_le_of_lt (Nat.sub_le _ _) t.isLt)).2.1 (tiles (outsAt0 m c (t.val - 1) (Nat.lt_of_le_of_lt (Nat.sub_le _ _) t.isLt)).2.2))) : Vec Ideal S1x512x2048 .bf16),
      (View.canon (In.stPieces (inAt m c t (outsAt0 m c (t.val - 1) (Nat.lt_of_le_of_lt (Nat.sub_le _ _) t.isLt)).2.1 (tiles (outsAt0 m c (t.val - 1) (Nat.lt_of_le_of_lt (Nat.sub_le _ _) t.isLt)).2.2))) : Vec Ideal S1x8x128x128 .f32), (outsAt0 m c (t.val - 1) (Nat.lt_of_le_of_lt (Nat.sub_le _ _) t.isLt)).2.2) := by
  rw [outsAt0_E m c t h0 h1 h2, out16_E, out17_E]
  rfl

/-! ## All points -/

/-- What a point leaves. -/
structure Good (n : ℕ) (hn : n < cfg0.N) : Prop where
  mix : ∀ y, (outsAt0 m c n hn).1 y = mixOf (args m c) (n / 8) (512 * (n % 8)) y
  st : ∀ (h : Fin 8) (d e : Fin 128),
    (outsAt0 m c n hn).2.1 (ix4 0 h d e) = ((args m c).s (n / 8) h.val (512 * (n % 8) + 512) d.val e.val : EReal)
  bias : ∀ (g : Fin 4) (r l : Fin 128), (outsAt0 m c n hn).2.2 (ix3 g r l) = (args m c).bs g.val r.val

/-- The state a point at the head of a stream starts from. -/
theorem st_first (t : Fin cfg0.N) (h2 : t.val % 8 = 0) (h : Fin 8) (d e : Fin 128) :
    (k0_pay9 (F := Ideal)) (ix4 0 h d e) = ((args m c).s (t.val / 8) h.val (512 * (t.val % 8)) d.val e.val : EReal) := by
  rw [fill_at, h2, Nat.mul_zero, Cert.Spec.s_zero]
  rfl

/-- The state any other point starts from. -/
theorem st_next (t : Fin cfg0.N) (h2 : ¬t.val % 8 = 0) {hn} (G : Good m c (t.val - 1) hn) (h : Fin 8) (d e : Fin 128) :
    (outsAt0 m c (t.val - 1) hn).2.1 (ix4 0 h d e) = ((args m c).s (t.val / 8) h.val (512 * (t.val % 8)) d.val e.val : EReal) := by
  rw [G.st, show (t.val - 1) / 8 = t.val / 8 by omega, show 512 * ((t.val - 1) % 8) + 512 = 512 * (t.val % 8) by omega]

theorem bias_next (t : Fin cfg0.N) {hn} (G : Good m c (t.val - 1) hn) (g : Fin 4) (r l : Fin 128) :
    tiles (outsAt0 m c (t.val - 1) hn).2.2 g (ix3 0 r l) = (args m c).bs g.val r.val :=
  (tiles_at _ g r l).trans (G.bias g r l)

section
variable (hA : (args m c).Real) (t : Fin cfg0.N) {I : In Ideal} (O : Of (args m c) (t.val / 8) (512 * (t.val % 8)) I)
    {L : List (View.Piece (Elt Ideal) S1x8x128x128 .f32)} {xs : Vec Ideal S4x128x128 .f32}
    (o : Vec Ideal S1x512x2048 .bf16 × Vec Ideal S1x8x128x128 .f32 × Vec Ideal S4x128x128 .f32)
    (e : o = ((View.canon I.mixPieces : Vec Ideal S1x512x2048 .bf16), (View.canon (I.stPieces ++ L) : Vec Ideal S1x8x128x128 .f32), xs))
include hA O e

theorem stored_mix (y : S1x512x2048.Idx) : o.1 y = mixOf (args m c) (t.val / 8) (512 * (t.val % 8)) y := by
  subst e
  exact mix_of O hA (4 * (t.val % 8)) (by omega) y

omit e in
theorem canon_st (h : Fin 8) (d e' : Fin 128) :
    View.canon (I.stPieces ++ L) (ix4 0 h d e') = ((args m c).s (t.val / 8) h.val (512 * (t.val % 8) + 512) d.val e'.val : EReal) := by
  have := st_of (L := L) O hA h d e'
  rw [this]

theorem stored_st (h : Fin 8) (d e' : Fin 128) :
    o.2.1 (ix4 0 h d e') = ((args m c).s (t.val / 8) h.val (512 * (t.val % 8) + 512) d.val e'.val : EReal) := by
  rw [e]
  have := canon_st m c hA t O (L := L) h d e'
  rw [← this]
end

/-- A point whose contents are the stores of a tile's inputs. -/
theorem good_of (hA : (args m c).Real) (t : Fin cfg0.N) {I : In Ideal} (O : Of (args m c) (t.val / 8) (512 * (t.val % 8)) I)
    {L : List (View.Piece (Elt Ideal) S1x8x128x128 .f32)} {xs : Vec Ideal S4x128x128 .f32}
    (hx : ∀ (g : Fin 4) (r l : Fin 128), xs (ix3 g r l) = (args m c).bs g.val r.val)
    (e : outsAt0 m c t.val t.isLt = ((View.canon I.mixPieces : Vec Ideal S1x512x2048 .bf16),
      (View.canon (I.stPieces ++ L) : Vec Ideal S1x8x128x128 .f32), xs)) : Good m c t.val t.isLt :=
  ⟨stored_mix m c hA t O _ e, stored_st m c hA t O _ e, fun g r l => by rw [e]; exact hx g r l⟩

theorem good (hA : (args m c).Real) : ∀ (n : ℕ) (hn : n < cfg0.N), Good m c n hn
  | n, hn => by
    have ht : n < 32 := lt_of_lt_of_eq hn N_0
    let t : Fin cfg0.N := ⟨n, hn⟩
    by_cases h0 : n % 32 = 0
    · exact good_of m c hA t (inAt_of m c t _ _ (st_first m c t (by show n % 8 = 0; omega)) (bias_first m c t))
        (fun g r l => (bias_canon _ g r l).trans ((blk_bs m c t g r).trans (host_bs m c g r)))
        (point_A m c t h0 (by show n < 16; omega) (by show n % 8 = 0; omega))
    · have G := good hA (n - 1) (Nat.lt_of_le_of_lt (Nat.sub_le _ _) hn)
      by_cases h2 : n % 8 = 0
      · have O := inAt_of m c t _ _ (st_first m c t h2) (bias_next m c t G)
        by_cases h1 : n < 16
        · exact good_of m c hA t O G.bias (point_C m c t h0 h1 h2)
        · exact good_of m c hA t O G.bias (point_D m c t h0 h1 h2)
      · have O := inAt_of m c t _ _ (st_next m c t h2 G) (bias_next m c t G)
        by_cases h1 : n < 16
        · exact good_of m c hA t (L := []) O G.bias ((point_B m c t h0 h1 h2).trans (by rw [List.append_nil]))
        · exact good_of m c hA t (L := []) O G.bias ((point_E m c t h0 h1 h2).trans (by rw [List.append_nil]))
  termination_by n => n
  decreasing_by omega

end Cert.KernelIdeal.Layer

end
-- ==== Proof.Math.Whole.lean ====
/- The two arrays the kernel leaves, entry by entry: each is the mathematics of the arguments. -/
module

public import proofs.«01_k».proof.Proof.Math.Points

@[expose] public section

noncomputable section

namespace Cert.KernelIdeal.Layer

open Idealize.ShloMosaic Idealize.ShloMosaic.Pointwise Idealize.ShloMosaic.TcCoe
open Cert.KernelIdeal Cert.KernelIdeal.Gen

theorem mixOf_at (A : Cert.Spec.Args) (b i0 : ℕ) (y : S1x512x2048.Idx) {b' i e : ℕ} (hb : b = b') (hi : i0 + (y 1).val = i)
    (he : (y 2).val = e) : mixOf A b i0 y = A.mix b' i e := by
  subst hb hi he; rfl

variable (m : (ℓ : Loc nD τ sig) → Buf (Elt Ideal) ℓ) (c : Dev nD) (hA : (args m c).Real)
include hA

/-- The mixed rows. -/
theorem whole_mix (i : S4x4096x2048.Idx) : (G16 m c i : EReal) = (args m c).mix (i 0).val (i 1).val (i 2).val := by
  have h0 : (i 0).val < 4 := (i 0).isLt
  have h1 : (i 1).val < 4096 := (i 1).isLt
  have h2 : (i 2).val < 2048 := (i 2).isLt
  have hp : pt16Of i < cfg0.N := lt_of_lt_of_eq (b := 32) (by show 8 * _ + _ + _ < 32; omega) N_0.symm
  have e : G16 m c i = (outsAt0 m c (pt16Of i) hp).1 (loc16Of i) := dif_pos hp
  rw [e, (good m c hA (pt16Of i) hp).mix]
  refine mixOf_at (args m c) _ _ _ ?_ ?_ ?_
  · show (8 * ((i 0).val / 1 - 0) + 1 * ((i 1).val / 512 - 0) + 1 * ((i 2).val / 2048 - 0)) / 8 = (i 0).val
    omega
  · show 512 * ((8 * ((i 0).val / 1 - 0) + 1 * ((i 1).val / 512 - 0) + 1 * ((i 2).val / 2048 - 0)) % 8) + (i 1).val % 512 = (i 1).val
    omega
  · show (i 2).val % 2048 = (i 2).val
    omega

/-- The state after the prompt. -/
theorem whole_state (i : S4x8x128x128.Idx) :
    (G17 m c i : EReal) = ((args m c).s (i 0).val (i 1).val 4096 (i 2).val (i 3).val : EReal) := by
  have h0 : (i 0).val < 4 := (i 0).isLt
  have h1 : (i 1).val < 8 := (i 1).isLt
  have h2 : (i 2).val < 128 := (i 2).isLt
  have h3 : (i 3).val < 128 := (i 3).isLt
  have hp : pt17Of i < cfg0.N := lt_of_lt_of_eq (b := 32) (by show 8 * (_ + _ + _ + _) + 7 < 32; omega) N_0.symm
  have e : G17 m c i = (outsAt0 m c (pt17Of i) hp).2.1 (loc17Of i) := dif_pos hp
  have el : loc17Of i = ix4 (n0 := 1) (n1 := 8) (n2 := 128) (n3 := 128) 0 (i 1) (i 2) (i 3) := by
    funext a
    apply Fin.ext
    fin_cases a
    · show (i 0).val % 1 = 0
      omega
    · show (i 1).val % 8 = (i 1).val
      omega
    · show (i 2).val % 128 = (i 2).val
      omega
    · show (i 3).val % 128 = (i 3).val
      omega
  have hs := (good m c hA (pt17Of i) hp).st (i 1) (i 2) (i 3)
  have eb : pt17Of i / 8 = (i 0).val := by
    show (8 * (1 * ((i 0).val / 1 - 0) + 1 * ((i 1).val / 8 - 0) + 1 * ((i 2).val / 128 - 0) + 1 * ((i 3).val / 128 - 0)) + 7) / 8 = _
    omega
  have er : 512 * (pt17Of i % 8) + 512 = 4096 := by
    show 512 * ((8 * (1 * ((i 0).val / 1 - 0) + 1 * ((i 1).val / 8 - 0) + 1 * ((i 2).val / 128 - 0) + 1 * ((i 3).val / 128 - 0)) + 7) % 8) + 512 = _
    omega
  rw [eb, er] at hs
  exact e.trans ((congrArg (outsAt0 m c (pt17Of i) hp).2.1 el).trans hs)

end Cert.KernelIdeal.Layer

end
-- ==== Proof.Math.Pre.lean ====
/- What the precondition says of the arguments: an entry whose absolute value is below infinity is a real number. -/
module

public import proofs.«01_k».proof.Defs
public import proofs.«01_k».proof.Proof.Math.Host
public import Idealize.ShloMosaic.Lib.Pointwise

@[expose] public section

noncomputable section

namespace Cert.KernelIdeal.Layer

open Idealize.ShloMosaic Idealize.ShloMosaic.Pointwise Idealize.ShloMosaic.TcCoe
open Cert.KernelIdeal Cert.KernelIdeal.Gen

/-- The precondition's side conditions: a scalar broadcasts to any shape. -/
theorem preFacts : Cert.Pre_finite.Facts := ⟨by decide, by decide, by decide⟩

theorem inf_eq : Ideal.ofBits .f32 0x7F800000#32 = (⊤ : EReal) := by
  simp [Ideal.ofBits, Ideal.ieee]

/-- An entry whose absolute value is below infinity. -/
theorem real_of_lt {s : Shape} (x z : FVec Ideal s .f32) (hz : ∀ i, (z i : EReal) = Ideal.ofBits .f32 0x7F800000#32)
    (h : cmpf .olt (Host.absf x) z = fun _ => 1#1) (i : s.Idx) : ∃ r : ℝ, (x i : EReal) = (r : EReal) := by
  have h1 := congrFun h i
  have h2 : Ideal.cmp .olt (max (x i : EReal) (-(x i : EReal))) (z i : EReal) = 1#1 := h1
  rw [hz, inf_eq] at h2
  generalize (x i : EReal) = a at h2 ⊢
  induction a using EReal.rec with
  | bot => exfalso; revert h2; simp [Ideal.cmp]
  | top => exfalso; revert h2; simp [Ideal.cmp]
  | coe r => exact ⟨r, rfl⟩

theorem args_real (m : (ℓ : Loc nD τ sig) → Buf (Elt Ideal) ℓ) (c : Dev nD)
    (h : Cert.Pre_KernelIdeal_finite (hPre_finite := preFacts) m) : (args m c).Real := by
  letI := preFacts
  obtain ⟨h0, h1, h2⟩ := h c
  exact ⟨fun d => real_of_lt (m ((c : Thread nD τ).loc main_arg3)) _ (fun _ => rfl) h1 _,
    fun d e => real_of_lt (m ((c : Thread nD τ).loc main_arg4)) _ (fun _ => rfl) h2 _,
    fun b j k l => real_of_lt (m ((c : Thread nD τ).loc main_arg1)) _ (fun _ => rfl) h0 _⟩

end Cert.KernelIdeal.Layer

end
-- ==== Proof.Math.Softmax.lean ====
/- The memory attention's weights: dividing the weighted sum by the sum of the exponentials is weighting by the divided
   exponentials, since that sum is a positive real. And the two spellings of the gate. -/
module

public import proofs.«01_k».proof.Proof.Math.Finite

@[expose] public section

noncomputable section

namespace Cert.Spec

open Idealize.ShloMosaic

/-- The gate with its product spelt out: `x` times the logistic of `x`. -/
theorem silu_eq (x : EReal) : silu x = x * Ideal.div 1 (1 + Ideal.exp (-x)) := by
  have h0 : (0 : EReal) ≤ Ideal.exp (-x) := by
    generalize -x = y
    induction y with
    | bot => exact le_refl _
    | top => exact le_top
    | coe r => exact EReal.coe_nonneg.mpr (Real.exp_pos r).le
  have h : (1 + Ideal.exp (-x)) ≠ 0 := by
    have : (0 : EReal) < 1 + Ideal.exp (-x) := lt_of_lt_of_le zero_lt_one (le_add_of_nonneg_right h0)
    exact this.ne'
  unfold silu Ideal.div
  rw [if_neg h, if_neg h, one_mul]

/-- A factor that is a nonnegative real goes into a sum. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem fold_max_real {n : ℕ} (f : Fin (n + 1) → ℝ) : ∃ r : ℝ, (Finset.univ : Finset (Fin (n + 1))).fold max ⊥ (fun m => (f m : EReal)) = (r : EReal) := by
  have key : ∀ s : Finset (Fin (n + 1)), s.fold max (⊥ : EReal) (fun m => (f m : EReal)) = ⊥ ∧ s = ∅
      ∨ ∃ r : ℝ, s.fold max (⊥ : EReal) (fun m => (f m : EReal)) = (r : EReal) := by
    classical
    intro s
    induction s using Finset.induction_on with
    | empty => exact .inl ⟨rfl, rfl⟩
    | insert a s ha ih =>
      refine .inr ?_
      rw [Finset.fold_insert ha]
      rcases ih with ⟨h, _⟩ | ⟨r, h⟩
      · exact ⟨f a, by rw [h]; exact max_eq_left bot_le⟩
      · exact ⟨max (f a) r, by rw [h]; exact (EReal.coe_strictMono.monotone.map_max).symm⟩
  rcases key Finset.univ with ⟨_, h⟩ | h
  · exact absurd h (Finset.univ_nonempty.ne_empty)
  · exact h

variable {A : Args}

theorem sc_real (hA : A.Real) (b hd i m : ℕ) : ∃ r : ℝ, A.sc b hd i m = (r : EReal) :=
  real_mul (real_sum _ _ fun _ => real_mul (P_real hA _ _ _) (hA.mem _ _ _ _)) kscale_real

/-- The sum of a row's exponentials is a positive real. -/
theorem ex_sum (hA : A.Real) (b hd i : ℕ) : ∃ r : ℝ, 0 < r ∧ ∑ m : Fin 256, A.ex b hd i m.val = (r : EReal) := by
  choose f hf using fun m : ℕ => sc_real hA b hd i m
  obtain ⟨t, ht⟩ := fold_max_real (n := 255) (fun m => f m.val)
  refine ⟨∑ m : Fin 256, Real.exp (f m.val - t), Finset.sum_pos (fun m _ => Real.exp_pos _) Finset.univ_nonempty, ?_⟩
  rw [coe_sum]
  refine Finset.sum_congr rfl fun m _ => ?_
  unfold Args.ex
  rw [show (fun m : Fin 256 => A.sc b hd i m.val) = fun m : Fin 256 => (f m.val : EReal) from funext fun m => hf m.val, ht, hf, ← EReal.coe_sub]
  rfl

/-- Weighting by the divided exponentials is dividing the weighted sum. -/
theorem att_weights (hA : A.Real) (b hd i l : ℕ) :
    (∑ m : Fin 256, A.val b m.val hd l * Ideal.div (A.ex b hd i m.val) (∑ m : Fin 256, A.ex b hd i m.val))
      = Ideal.div (∑ m : Fin 256, A.ex b hd i m.val * A.val b m.val hd l) (∑ m : Fin 256, A.ex b hd i m.val) := by
  obtain ⟨r, hr, h⟩ := ex_sum hA b hd i
  rw [h, div_coe _ hr.ne', sum_mul_coe _ _ (inv_nonneg.mpr hr.le)]
  refine Finset.sum_congr rfl fun m _ => ?_
  rw [div_coe _ hr.ne', ← mul_assoc, mul_comm (A.val b m.val hd l)]

end Cert.Spec

end
-- ==== Proof.Math.RefProj.lean ====
/- The reference's projected rows, its rotary queries and keys, and its decay rates, read off the printed program one index at
   a time. -/
module

public import proofs.«01_k».proof.Proof.Math.Arrays
public import proofs.«01_k».proof.Proof.Math.Softmax
public import proofs.«01_k».proof.Proof.Gen.ReferenceIdeal.Read

@[expose] public section

noncomputable section

namespace Cert.ReferenceIdeal.Layer

open Cert.ReferenceIdeal Cert.ReferenceIdeal.Read Cert.Spec
open Idealize.ShloMosaic Idealize.ShloMosaic.ValueIdx

attribute [local instance] Cert.ReferenceIdeal.Gen.facts

/-- A counted row or lane, made a number. -/
theorem sitofp_nat (n : ℕ) (h : n < 4096) : (FloatOps.sitofp .f32 (BitVec.ofNat 32 n) : Ideal .f32) = ((n : ℝ) : EReal) := by
  show ((((BitVec.ofNat 32 n).toInt : ℝ)) : EReal) = _
  have e : (BitVec.ofNat 32 n).toNat = n := by rw [BitVec.toNat_ofNat]; omega
  rw [BitVec.toInt_eq_toNat_of_lt (by rw [e]; omega), e]
  rfl

/-! ## The angles and the rates, which no argument enters -/

theorem freq_ref (i : S64.Idx) : val_main_v41 (F := Ideal) i = freq (i 0).val := by
  have h : (i 0).val < 64 := (i 0).isLt
  simp only [val_main_v41_apply, val_main_v40_apply, val_main_v39_apply, val_main_v38_apply, val_main_v37_apply,
    val_main_v36_apply, val_main_v35_apply, val_main_v34_apply, val_main_v33_apply, val_main_cst_3_apply, val_main_cst_4_apply,
    val_main_cst_5_apply, val_main_cst_6_apply]
  rw [show val_main_v32 (F := Ideal) i = (((i 0).val : ℝ) : EReal) from sitofp_nat _ (by omega)]
  rfl

theorem angle_ref (i : S4096x64.Idx) : val_main_v47 (F := Ideal) i = angle (i 0).val (i 1).val := by
  rw [val_main_v47_apply, val_main_v46_apply, val_main_v45_apply, val_main_v44_apply, val_main_v43_apply, val_main_v42_apply,
    val_main_v6_apply, freq_ref, sitofp_nat _ (i 0).isLt]
  rfl

/-- The keys' table of angles is the queries'. -/
theorem angle_ref' (i : S4096x64.Idx) : val_main_v81 (F := Ideal) i = angle (i 0).val (i 1).val := angle_ref i

theorem lg_ref (i : S8.Idx) : val_main_v109 (F := Ideal) i = lg (i 0).val := by
  have h : (i 0).val < 8 := (i 0).isLt
  simp only [val_main_v109_apply, val_main_v108_apply, val_main_v107_apply, val_main_v106_apply, val_main_v105_apply,
    val_main_v104_apply, val_main_v103_apply, val_main_cst_12_apply, val_main_cst_13_apply, val_main_cst_14_apply]
  rw [show val_main_v102 (F := Ideal) i = (((i 0).val : ℝ) : EReal) from sitofp_nat _ (by omega)]
  rfl

theorem row_ref (i : S4096.Idx) : val_main_v110 (F := Ideal) i = (((i 0).val : ℝ) : EReal) := sitofp_nat _ (i 0).isLt

variable {A : Args} {x0 : (⟨S4x4096x2048, .f32⟩ : BufTy).Contents (Elt Ideal)}
  {x1 x2 : (⟨S4x256x4x128, .f32⟩ : BufTy).Contents (Elt Ideal)} {x3 : (⟨S1x2048, .f32⟩ : BufTy).Contents (Elt Ideal)}
  {x4 : (⟨S1x2048x6656, .f32⟩ : BufTy).Contents (Elt Ideal)} {x5 : (⟨S1x1024, .f32⟩ : BufTy).Contents (Elt Ideal)}
  {x6 : (⟨S1x512, .f32⟩ : BufTy).Contents (Elt Ideal)} {x7 : (⟨S1x4x128x128, .f32⟩ : BufTy).Contents (Elt Ideal)}
  {x8 : (⟨S1x4x128, .f32⟩ : BufTy).Contents (Elt Ideal)}
  (R : Reads A x0 x1 x2 x3 x4 x5 x6 x7 x8)
include R

/-- The projection's weights. -/
theorem w_ref (i : S2048x6656.Idx) : val_main_v1 (F := Ideal) x4 i = A.w (i 0).val (i 1).val := by
  have h0 : (i 0).val < 2048 := (i 0).isLt
  have h1 : (i 1).val < 6656 := (i 1).isLt
  rw [val_main_v1_apply]
  exact R.w _ (by show ((i 0).val * 6656 + (i 1).val) / 6656 % 2048 = _; omega) (by show ((i 0).val * 6656 + (i 1).val) % 6656 = _; omega)

/-- The normalised rows. -/
theorem h_ref (i : S4x4096x2048.Idx) : val_main_v20 (F := Ideal) x0 x3 i = A.h (i 0).val (i 1).val (i 2).val := by
  simp only [val_main_v20_apply, val_main_v17_apply, val_main_v16_apply, val_main_v15_apply, val_main_v14_apply,
    val_main_v13_apply, val_main_v12_apply, val_main_v11_apply, val_main_v10_apply, val_main_v9_apply, val_main_v8_apply,
    val_main_v19_apply, val_main_v18_apply, val_main_v0_apply, val_main_cst_2_apply, val_main_cst_1_apply,
    val_main_cst_0_apply, Ideal.ofBits_def, Ideal.ofBits_zero_f32, zero_add]
  simp only [R.x _ rfl rfl rfl]
  rw [R.gn _ (show _ % 2048 = (i 2).val from Nat.mod_eq_of_lt (i 2).isLt)]
  rfl

/-- The projected rows. -/
theorem P_ref (i : S4x4096x6656.Idx) : val_main_v21 (F := Ideal) x0 x3 x4 i = A.P (i 0).val (i 1).val (i 2).val := by
  rw [val_main_v21_apply]
  simp only [h_ref R, w_ref R]
  rfl

omit R in
theorem P_congr {b b' i i' c c' : ℕ} (hb : b = b') (hi : i = i') (hc : c = c') : A.P b i c = A.P b' i' c' := by
  subst hb hi hc; rfl

/-! ## The pieces of a projected row -/

theorem q0_ref (i : S4x4096x8x128.Idx) :
    val_main_v31 (F := Ideal) x0 x3 x4 i = A.P (i 0).val (i 1).val (128 * (i 2).val + (i 3).val) := by
  have h0 : (i 0).val < 4 := (i 0).isLt
  have h1 : (i 1).val < 4096 := (i 1).isLt
  have h2 : (i 2).val < 8 := (i 2).isLt
  have h3 : (i 3).val < 128 := (i 3).isLt
  rw [val_main_v31_apply, val_main_v22_apply, P_ref R]
  exact P_congr (by show ((((i 0).val * 4096 + (i 1).val) * 8 + (i 2).val) * 128 + (i 3).val) / 4194304 = _; omega)
    (by show ((((i 0).val * 4096 + (i 1).val) * 8 + (i 2).val) * 128 + (i 3).val) / 1024 % 4096 = _; omega)
    (by show ((((i 0).val * 4096 + (i 1).val) * 8 + (i 2).val) * 128 + (i 3).val) % 1024 = _; omega)

theorem k0_ref (i : S4x4096x8x128.Idx) :
    val_main_v65 (F := Ideal) x0 x3 x4 i = A.P (i 0).val (i 1).val (1024 + 128 * (i 2).val + (i 3).val) := by
  have h0 : (i 0).val < 4 := (i 0).isLt
  have h1 : (i 1).val < 4096 := (i 1).isLt
  have h2 : (i 2).val < 8 := (i 2).isLt
  have h3 : (i 3).val < 128 := (i 3).isLt
  rw [val_main_v65_apply, val_main_v23_apply, P_ref R]
  exact P_congr (by show ((((i 0).val * 4096 + (i 1).val) * 8 + (i 2).val) * 128 + (i 3).val) / 4194304 = _; omega)
    (by show ((((i 0).val * 4096 + (i 1).val) * 8 + (i 2).val) * 128 + (i 3).val) / 1024 % 4096 = _; omega)
    (by show 1024 + ((((i 0).val * 4096 + (i 1).val) * 8 + (i 2).val) * 128 + (i 3).val) % 1024 = _; omega)

theorem V_ref (i : S4x4096x8x128.Idx) :
    val_main_v101 (F := Ideal) x0 x3 x4 i = A.V (i 0).val (i 2).val (i 1).val (i 3).val := by
  have h0 : (i 0).val < 4 := (i 0).isLt
  have h1 : (i 1).val < 4096 := (i 1).isLt
  have h2 : (i 2).val < 8 := (i 2).isLt
  have h3 : (i 3).val < 128 := (i 3).isLt
  rw [val_main_v101_apply, val_main_v24_apply, P_ref R]
  exact P_congr (by show ((((i 0).val * 4096 + (i 1).val) * 8 + (i 2).val) * 128 + (i 3).val) / 4194304 = _; omega)
    (by show ((((i 0).val * 4096 + (i 1).val) * 8 + (i 2).val) * 128 + (i 3).val) / 1024 % 4096 = _; omega)
    (by show 2048 + ((((i 0).val * 4096 + (i 1).val) * 8 + (i 2).val) * 128 + (i 3).val) % 1024 = _; omega)

/-! ## The rotary queries and keys -/

/-- The queries' lower lanes, turned. -/
theorem q_lo (i : S4x4096x8x64.Idx) : val_main_v58 (F := Ideal) x0 x3 x4 i
    = rope (fun l => A.P (i 0).val (i 1).val (128 * (i 2).val + l)) (i 1).val (i 3).val := by
  rw [rope, if_pos (show (i 3).val < 64 from (i 3).isLt)]
  simp only [val_main_v58_apply, val_main_v55_apply, val_main_v57_apply, val_main_v52_apply, val_main_v53_apply, val_main_v54_apply, val_main_v56_apply, val_main_v49_apply, val_main_v51_apply, val_main_v48_apply, val_main_v50_apply, angle_ref, q0_ref R]
  rw [Nat.add_comm (i 3).val 64]
  rfl

/-- The queries' upper lanes, turned. -/
theorem q_hi (i : S4x4096x8x64.Idx) : val_main_v63 (F := Ideal) x0 x3 x4 i
    = rope (fun l => A.P (i 0).val (i 1).val (128 * (i 2).val + l)) (i 1).val (64 + (i 3).val) := by
  rw [rope, if_neg (show ¬ 64 + (i 3).val < 64 by omega), Nat.add_sub_cancel_left]
  simp only [val_main_v63_apply, val_main_v60_apply, val_main_v62_apply, val_main_v52_apply, val_main_v53_apply, val_main_v61_apply, val_main_v59_apply, val_main_v49_apply, val_main_v51_apply, val_main_v48_apply, val_main_v50_apply, angle_ref, q0_ref R]
  rfl

theorem q_rope (i : S4x4096x8x128.Idx) : val_main_v64 (F := Ideal) x0 x3 x4 i
    = rope (fun l => A.P (i 0).val (i 1).val (128 * (i 2).val + l)) (i 1).val (i 3).val := by
  unfold val_main_v64
  rcases lt_or_ge (i 3).val 64 with h | h
  · rw [concatenate_pair_apply_left (s₁ := S4x4096x8x64) (s₂ := S4x4096x8x64) 3 _ _ _ i rfl (show S4x4096x8x64.Idx from ix4 (n0 := 4) (n1 := 4096) (n2 := 8) (n3 := 64) (i 0) (i 1) (i 2) ⟨(i 3).val, h⟩)
      (fun b => match b with | ⟨0, _⟩ => rfl | ⟨1, _⟩ => rfl | ⟨2, _⟩ => rfl | ⟨3, _⟩ => rfl)]
    exact q_lo R _
  · have h3 : (i 3).val < 128 := (i 3).isLt
    have e : 64 + ((i 3).val - 64) = (i 3).val := by omega
    rw [concatenate_pair_apply_right (s₁ := S4x4096x8x64) (s₂ := S4x4096x8x64) 3 _ _ _ i rfl rfl (show S4x4096x8x64.Idx from ix4 (n0 := 4) (n1 := 4096) (n2 := 8) (n3 := 64) (i 0) (i 1) (i 2) ⟨(i 3).val - 64, by omega⟩)
      (fun b hb => match b, hb with
        | ⟨0, _⟩, _ => rfl | ⟨1, _⟩, _ => rfl | ⟨2, _⟩, _ => rfl | ⟨3, _⟩, hb => absurd rfl hb) (by show (i 3).val - 64 + 64 = (i 3).val; omega)]
    refine (q_hi R _).trans ?_
    show rope _ _ (64 + ((i 3).val - 64)) = _
    rw [e]

/-- The keys' lower lanes, turned. -/
theorem k_lo (i : S4x4096x8x64.Idx) : val_main_v92 (F := Ideal) x0 x3 x4 i
    = rope (fun l => A.P (i 0).val (i 1).val (1024 + 128 * (i 2).val + l)) (i 1).val (i 3).val := by
  rw [rope, if_pos (show (i 3).val < 64 from (i 3).isLt)]
  simp only [val_main_v92_apply, val_main_v89_apply, val_main_v91_apply, val_main_v86_apply, val_main_v87_apply, val_main_v88_apply, val_main_v90_apply, val_main_v83_apply, val_main_v85_apply, val_main_v82_apply, val_main_v84_apply, angle_ref', k0_ref R]
  rw [Nat.add_comm (i 3).val 64]
  rfl

/-- The keys' upper lanes, turned. -/
theorem k_hi (i : S4x4096x8x64.Idx) : val_main_v97 (F := Ideal) x0 x3 x4 i
    = rope (fun l => A.P (i 0).val (i 1).val (1024 + 128 * (i 2).val + l)) (i 1).val (64 + (i 3).val) := by
  rw [rope, if_neg (show ¬ 64 + (i 3).val < 64 by omega), Nat.add_sub_cancel_left]
  simp only [val_main_v97_apply, val_main_v94_apply, val_main_v96_apply, val_main_v86_apply, val_main_v87_apply, val_main_v95_apply, val_main_v93_apply, val_main_v83_apply, val_main_v85_apply, val_main_v82_apply, val_main_v84_apply, angle_ref', k0_ref R]
  rfl

theorem k_rope (i : S4x4096x8x128.Idx) : val_main_v98 (F := Ideal) x0 x3 x4 i
    = rope (fun l => A.P (i 0).val (i 1).val (1024 + 128 * (i 2).val + l)) (i 1).val (i 3).val := by
  unfold val_main_v98
  rcases lt_or_ge (i 3).val 64 with h | h
  · rw [concatenate_pair_apply_left (s₁ := S4x4096x8x64) (s₂ := S4x4096x8x64) 3 _ _ _ i rfl (show S4x4096x8x64.Idx from ix4 (n0 := 4) (n1 := 4096) (n2 := 8) (n3 := 64) (i 0) (i 1) (i 2) ⟨(i 3).val, h⟩)
      (fun b => match b with | ⟨0, _⟩ => rfl | ⟨1, _⟩ => rfl | ⟨2, _⟩ => rfl | ⟨3, _⟩ => rfl)]
    exact k_lo R _
  · have h3 : (i 3).val < 128 := (i 3).isLt
    have e : 64 + ((i 3).val - 64) = (i 3).val := by omega
    rw [concatenate_pair_apply_right (s₁ := S4x4096x8x64) (s₂ := S4x4096x8x64) 3 _ _ _ i rfl rfl (show S4x4096x8x64.Idx from ix4 (n0 := 4) (n1 := 4096) (n2 := 8) (n3 := 64) (i 0) (i 1) (i 2) ⟨(i 3).val - 64, by omega⟩)
      (fun b hb => match b, hb with
        | ⟨0, _⟩, _ => rfl | ⟨1, _⟩, _ => rfl | ⟨2, _⟩, _ => rfl | ⟨3, _⟩, hb => absurd rfl hb) (by show (i 3).val - 64 + 64 = (i 3).val; omega)]
    refine (k_hi R _).trans ?_
    show rope _ _ (64 + ((i 3).val - 64)) = _
    rw [e]

theorem Q_ref (i : S4x4096x8x128.Idx) : val_main_v64 (F := Ideal) x0 x3 x4 i = A.Q (i 0).val (i 2).val (i 1).val (i 3).val :=
  q_rope R i

theorem K_ref (i : S4x4096x8x128.Idx) : val_main_v100 (F := Ideal) x0 x3 x4 i = A.K (i 0).val (i 2).val (i 1).val (i 3).val := by
  rw [val_main_v100_apply, val_main_v99_apply, val_main_cst_11_apply, k_rope R]
  rfl

end Cert.ReferenceIdeal.Layer

end
-- ==== Proof.Math.RefRet.lean ====
/- The reference's retention: its decay table, its scores and state over the whole prompt, and a head's normalised, gated output. -/
module

public import proofs.«01_k».proof.Proof.Math.RefProj
public import proofs.«01_k».proof.Proof.Math.Masks

@[expose] public section

noncomputable section

namespace Cert.ReferenceIdeal.Layer

open Cert.ReferenceIdeal Cert.ReferenceIdeal.Read Cert.Spec
open Idealize.ShloMosaic Idealize.ShloMosaic.ValueIdx

attribute [local instance] Cert.ReferenceIdeal.Gen.facts

/-- The decay between two rows. -/
theorem dec_ref (i : S8x4096x4096.Idx) : val_main_v126 (F := Ideal) i = dec (i 0).val (i 1).val (i 2).val := by
  simp only [val_main_v126_apply, val_main_v125_apply, val_main_v124_apply, val_main_v123_apply, val_main_v122_apply, val_main_v121_apply, val_main_v120_apply, val_main_v119_apply, val_main_v118_apply, val_main_v117_apply, val_main_v116_apply, val_main_v115_apply, val_main_v114_apply, val_main_v113_apply, val_main_v112_apply, val_main_v111_apply,
    val_main_call0_v0_apply, val_main_call0_v1_apply, val_main_call1_v0_apply, val_main_call1_v1_apply, val_main_call1_v2_apply, val_main_cst_15_apply, val_main_cst_16_apply, val_main_cst_17_apply,
    lg_ref, row_ref, Ideal.ofBits_def, Ideal.ofBits_zero_f32]
  exact masked_exp _ _ _

variable {A : Args} {x0 : (⟨S4x4096x2048, .f32⟩ : BufTy).Contents (Elt Ideal)}
  {x1 x2 : (⟨S4x256x4x128, .f32⟩ : BufTy).Contents (Elt Ideal)} {x3 : (⟨S1x2048, .f32⟩ : BufTy).Contents (Elt Ideal)}
  {x4 : (⟨S1x2048x6656, .f32⟩ : BufTy).Contents (Elt Ideal)} {x5 : (⟨S1x1024, .f32⟩ : BufTy).Contents (Elt Ideal)}
  {x6 : (⟨S1x512, .f32⟩ : BufTy).Contents (Elt Ideal)} {x7 : (⟨S1x4x128x128, .f32⟩ : BufTy).Contents (Elt Ideal)}
  {x8 : (⟨S1x4x128, .f32⟩ : BufTy).Contents (Elt Ideal)}
  (R : Reads A x0 x1 x2 x3 x4 x5 x6 x7 x8)
include R

variable (hA : A.Real)
include hA

/-- A row's retention. -/
theorem o_ref (i : S4x4096x8x128.Idx) :
    val_main_v165 (F := Ideal) x0 x3 x4 i = (A.o (i 0).val (i 2).val (i 1).val (i 3).val : EReal) := by
  have h := out_step (A := A) (i 0).val (i 2).val 0 4096 (i 3).val (i 1).val (i 1).isLt
  simp only [zero_add, s_zero, EReal.coe_zero, mul_zero, zero_mul, Finset.sum_const_zero, add_zero] at h
  rw [← h]
  simp only [val_main_v165_apply, val_main_v132_apply, val_main_v131_apply, val_main_v130_apply, val_main_v129_apply, val_main_v128_apply, val_main_v127_apply, val_main_v145_apply, val_main_v142_apply, val_main_v141_apply, val_main_v7_apply, val_main_cst_apply, dec_ref, V_ref R, Q_ref R, K_ref R,
    Ideal.ofBits_def, Ideal.ofBits_zero_f32, zero_mul, Finset.sum_const_zero, Q_eq hA, K_eq hA, V_eq hA]
  show (_ : EReal) + 0 * _ = _
  rw [zero_mul, add_zero]
  exact Finset.sum_congr rfl fun _ _ => mul_comm _ _

/-- The state after the whole prompt. -/
theorem s_ref (i : S4x8x128x128.Idx) :
    val_main_v164 (F := Ideal) x0 x3 x4 i = (A.s (i 0).val (i 1).val 4096 (i 2).val (i 3).val : EReal) := by
  have h := state_step (A := A) (i 0).val (i 1).val 0 4096 (i 2).val (i 3).val
  simp only [zero_add, s_zero, EReal.coe_zero, zero_mul] at h
  rw [← h]
  simp only [val_main_v164_apply, val_main_v159_apply, val_main_v163_apply, val_main_v162_apply, val_main_v161_apply, val_main_v160_apply, val_main_v153_apply, val_main_v152_apply, val_main_v151_apply, val_main_v150_apply, val_main_v149_apply, val_main_v148_apply, val_main_v147_apply, val_main_v146_apply, val_main_v7_apply, val_main_cst_apply, val_main_cst_19_apply, lg_ref, row_ref, V_ref R, K_ref R,
    Ideal.ofBits_def, Ideal.ofBits_zero_f32, n4095_eq, K_eq hA, V_eq hA]
  show (_ : EReal) * 0 + _ = _
  rw [mul_zero, zero_add]
  refine Finset.sum_congr rfl fun k _ => congrArg (· * _) (congrArg (_ * ·) ?_)
  have hk : k.val ≤ 4095 := by have := k.isLt; omega
  show Ideal.exp (lg _ * (((4095 : ℝ) : EReal) - ((k.val : ℝ) : EReal))) = _
  rw [show ((4095 : ℝ) : EReal) = (((4095 : ℕ) : ℝ) : EReal) by norm_num, sub_nat _ _ hk, exp_lg]

/-- A head's retained row, centred and divided by the root of its mean square. -/
theorem norm_ref (i : S4x4096x8x128.Idx) : val_main_v183 (F := Ideal) x0 x3 x4 i
    = lnorm 128 c128 (fun e => (A.o (i 0).val (i 2).val (i 1).val e : EReal)) (i 3).val := by
  simp only [val_main_v183_apply, val_main_v182_apply, val_main_v181_apply, val_main_v180_apply, val_main_v179_apply, val_main_v178_apply, val_main_v177_apply, val_main_v176_apply, val_main_v175_apply, val_main_v174_apply, val_main_v173_apply, val_main_v172_apply, val_main_v171_apply, val_main_v170_apply, val_main_v169_apply, val_main_v168_apply, val_main_v167_apply, val_main_v166_apply,
    val_main_cst_21_apply, val_main_cst_22_apply, val_main_cst_23_apply, val_main_cst_24_apply, val_main_cst_25_apply, o_ref R hA, Ideal.ofBits_def, Ideal.ofBits_zero_f32, zero_add]
  rfl

omit hA in
/-- The retention's gate. -/
theorem silu_ref (i : S4x4096x1024.Idx) :
    val_main_v188 (F := Ideal) x0 x3 x4 i = silu (A.P (i 0).val (i 1).val (3072 + (i 2).val)) := by
  simp only [val_main_v188_apply, val_main_v25_apply, val_main_call2_v0_apply, val_main_call2_v1_apply, val_main_call2_v2_apply, val_main_call2_v3_apply, val_main_call2_v4_apply, val_main_call2_v5_apply, val_main_call2_cst_apply, val_main_call2_cst_0_apply, P_ref R,
    Ideal.ofBits_def, Ideal.ofBits_one_f32]
  rw [silu_eq]
  rfl

/-- A retention lane of the output row. -/
theorem ret_ref (i : S4x4096x1024.Idx) :
    val_main_v189 (F := Ideal) x0 x3 x4 x5 i = A.ret (i 0).val ((i 2).val / 128) (i 1).val ((i 2).val % 128) := by
  have h0 : (i 0).val < 4 := (i 0).isLt
  have h1 : (i 1).val < 4096 := (i 1).isLt
  have h2 : (i 2).val < 1024 := (i 2).isLt
  have e0 : (((i 0).val * 4096 + (i 1).val) * 1024 + (i 2).val) / 4194304 = (i 0).val := by omega
  have e1 : (((i 0).val * 4096 + (i 1).val) * 1024 + (i 2).val) / 1024 % 4096 = (i 1).val := by omega
  have e2 : (((i 0).val * 4096 + (i 1).val) * 1024 + (i 2).val) / 128 % 8 = (i 2).val / 128 := by omega
  have e3 : (((i 0).val * 4096 + (i 1).val) * 1024 + (i 2).val) % 128 = (i 2).val % 128 := by omega
  have e4 : 128 * ((i 2).val / 128) + (i 2).val % 128 = (i 2).val := by omega
  have en : val_main_v183 (F := Ideal) x0 x3 x4 (idx_main_v184 i)
      = lnorm 128 c128 (fun e => (A.o (i 0).val ((i 2).val / 128) (i 1).val e : EReal)) ((i 2).val % 128) := by
    refine (norm_ref R hA _).trans ?_
    show lnorm 128 c128 (fun e => (A.o ((((i 0).val * 4096 + (i 1).val) * 1024 + (i 2).val) / 4194304) ((((i 0).val * 4096 + (i 1).val) * 1024 + (i 2).val) / 128 % 8)
      ((((i 0).val * 4096 + (i 1).val) * 1024 + (i 2).val) / 1024 % 4096) e : EReal)) ((((i 0).val * 4096 + (i 1).val) * 1024 + (i 2).val) % 128) = _
    rw [e0, e1, e2, e3]
  have eg : val_main_v2 (F := Ideal) x5 (idx_main_v185 (idx_main_v186 i)) = A.gr (128 * ((i 2).val / 128) + (i 2).val % 128) := by
    rw [val_main_v2_apply, e4]
    exact R.gr _ (Nat.mod_eq_of_lt h2)
  rw [val_main_v189_apply, val_main_v187_apply, val_main_v186_apply, val_main_v185_apply, val_main_v184_apply, en, eg, silu_ref R, Args.ret, Args.G, Nat.add_assoc 3072, e4]
  rfl

end Cert.ReferenceIdeal.Layer

end
-- ==== Proof.Math.RefGate.lean ====
/- The reference's gating: the normalised values, the chunk-wise mixing by the lower triangle, and the two gates. -/
module

public import proofs.«01_k».proof.Proof.Math.RefProj
public import proofs.«01_k».proof.Proof.Math.Masks

@[expose] public section

noncomputable section

namespace Cert.ReferenceIdeal.Layer

open Cert.ReferenceIdeal Cert.ReferenceIdeal.Read Cert.Spec
open Idealize.ShloMosaic Idealize.ShloMosaic.ValueIdx

attribute [local instance] Cert.ReferenceIdeal.Gen.facts

variable {A : Args} {x0 : (⟨S4x4096x2048, .f32⟩ : BufTy).Contents (Elt Ideal)}
  {x1 x2 : (⟨S4x256x4x128, .f32⟩ : BufTy).Contents (Elt Ideal)} {x3 : (⟨S1x2048, .f32⟩ : BufTy).Contents (Elt Ideal)}
  {x4 : (⟨S1x2048x6656, .f32⟩ : BufTy).Contents (Elt Ideal)} {x5 : (⟨S1x1024, .f32⟩ : BufTy).Contents (Elt Ideal)}
  {x6 : (⟨S1x512, .f32⟩ : BufTy).Contents (Elt Ideal)} {x7 : (⟨S1x4x128x128, .f32⟩ : BufTy).Contents (Elt Ideal)}
  {x8 : (⟨S1x4x128, .f32⟩ : BufTy).Contents (Elt Ideal)}
  (R : Reads A x0 x1 x2 x3 x4 x5 x6 x7 x8)
include R

/-- The gated values, normalised and weighted. -/
theorem gv_ref (i : S4x4096x512.Idx) : val_main_v210 (F := Ideal) x0 x3 x4 x6 i = A.gv (i 0).val (i 1).val (i 2).val := by
  simp only [val_main_v210_apply, val_main_v209_apply, val_main_v208_apply, val_main_v207_apply, val_main_v206_apply, val_main_v205_apply, val_main_v204_apply, val_main_v203_apply, val_main_v202_apply, val_main_v201_apply, val_main_v200_apply, val_main_v199_apply, val_main_v198_apply, val_main_v197_apply, val_main_v196_apply, val_main_v195_apply, val_main_v194_apply, val_main_v193_apply, val_main_v192_apply, val_main_v191_apply, val_main_v190_apply, val_main_v27_apply, val_main_v3_apply,
    val_main_cst_26_apply, val_main_cst_27_apply, val_main_cst_28_apply, val_main_cst_29_apply, val_main_cst_30_apply, P_ref R, Ideal.ofBits_def, Ideal.ofBits_zero_f32, zero_add]
  rw [R.gg _ (show _ % 512 = (i 2).val from Nat.mod_eq_of_lt (i 2).isLt)]
  rfl

/-- The mixing matrix below its diagonal. -/
theorem tri_ref (i : S4x128x128.Idx) : val_main_v212 (F := Ideal) x7 i = A.tri (i 0).val (i 1).val (i 2).val := by
  have h0 : (i 0).val < 4 := (i 0).isLt
  have h1 : (i 1).val < 128 := (i 1).isLt
  have h2 : (i 2).val < 128 := (i 2).isLt
  have e : val_main_v4 (F := Ideal) x7 i = A.ws (i 0).val (i 1).val (i 2).val := by
    rw [val_main_v4_apply]
    exact R.ws _ (by show (((i 0).val * 128 + (i 1).val) * 128 + (i 2).val) / 16384 % 4 = _; omega)
      (by show (((i 0).val * 128 + (i 1).val) * 128 + (i 2).val) / 128 % 128 = _; omega)
      (by show (((i 0).val * 128 + (i 1).val) * 128 + (i 2).val) % 128 = _; omega)
  simp only [val_main_v212_apply, val_main_call3_v0_apply, val_main_call3_v1_apply, val_main_call3_v2_apply, val_main_call3_v3_apply, val_main_call3_v4_apply, val_main_call3_v5_apply, val_main_call3_v6_apply, val_main_call3_c_apply, val_main_call3_cst_apply, e, Ideal.ofBits_def, Ideal.ofBits_zero_f32]
  exact select_sge _ _ h1 h2 _ _

/-- The chunk's rows mixed, with the bias. -/
theorem mixed_ref (i : S4x32x128x4x128.Idx) : val_main_v218 (F := Ideal) x0 x3 x4 x6 x7 x8 i
    = (∑ j : Fin 128, A.tri (i 3).val (i 2).val j.val * A.gv (i 0).val (128 * (i 1).val + j.val) (128 * (i 3).val + (i 4).val))
      + A.bs (i 3).val (i 2).val := by
  have h0 : (i 0).val < 4 := (i 0).isLt
  have h1 : (i 1).val < 32 := (i 1).isLt
  have h2 : (i 2).val < 128 := (i 2).isLt
  have h3 : (i 3).val < 4 := (i 3).isLt
  have h4 : (i 4).val < 128 := (i 4).isLt
  rw [val_main_v218_apply, val_main_v214_apply, val_main_v213_apply, val_main_v217_apply, val_main_v216_apply, val_main_v215_apply, val_main_v5_apply]
  refine congrArg₂ (fun a b : EReal => a + b) (Finset.sum_congr rfl fun j _ => ?_) ?_
  · have hj : j.val < 128 := j.isLt
    rw [val_main_v211_apply, gv_ref R, tri_ref R, mul_comm]
    refine congrArg₂ (fun a b : EReal => a * b) rfl ?_
    show A.gv ((((((i 0).val * 32 + (i 1).val) * 128 + j.val) * 4 + (i 3).val) * 128 + (i 4).val) / 2097152)
      ((((((i 0).val * 32 + (i 1).val) * 128 + j.val) * 4 + (i 3).val) * 128 + (i 4).val) / 512 % 4096)
      ((((((i 0).val * 32 + (i 1).val) * 128 + j.val) * 4 + (i 3).val) * 128 + (i 4).val) % 512) = _
    congr 1 <;> omega
  · exact R.bs _ (by show ((i 3).val * 128 + (i 2).val) / 128 % 4 = _; omega) (by show ((i 3).val * 128 + (i 2).val) % 128 = _; omega)

theorem silu_ref' (i : S4x4096x512.Idx) :
    val_main_v221 (F := Ideal) x0 x3 x4 i = silu (A.P (i 0).val (i 1).val (5120 + (i 2).val)) := by
  simp only [val_main_v221_apply, val_main_v28_apply, val_main_call4_v0_apply, val_main_call4_v1_apply, val_main_call4_v2_apply, val_main_call4_v3_apply, val_main_call4_v4_apply, val_main_call4_v5_apply, val_main_call4_cst_apply, val_main_call4_cst_0_apply, P_ref R,
    Ideal.ofBits_def, Ideal.ofBits_one_f32]
  rw [silu_eq]
  rfl

/-- A gated lane of the output row. -/
theorem gate_ref (i : S4x4096x512.Idx) : val_main_v222 (F := Ideal) x0 x3 x4 x6 x7 x8 i
    = A.gate (i 0).val ((i 1).val / 128) ((i 1).val % 128) ((i 2).val / 128) ((i 2).val % 128) := by
  have h0 : (i 0).val < 4 := (i 0).isLt
  have h1 : (i 1).val < 4096 := (i 1).isLt
  have h2 : (i 2).val < 512 := (i 2).isLt
  have e0 : (((i 0).val * 4096 + (i 1).val) * 512 + (i 2).val) / 2097152 = (i 0).val := by omega
  have e1 : (((i 0).val * 4096 + (i 1).val) * 512 + (i 2).val) / 65536 % 32 = (i 1).val / 128 := by omega
  have e2 : (((i 0).val * 4096 + (i 1).val) * 512 + (i 2).val) / 512 % 128 = (i 1).val % 128 := by omega
  have e3 : (((i 0).val * 4096 + (i 1).val) * 512 + (i 2).val) / 128 % 4 = (i 2).val / 128 := by omega
  have e4 : (((i 0).val * 4096 + (i 1).val) * 512 + (i 2).val) % 128 = (i 2).val % 128 := by omega
  have e5 : 128 * ((i 2).val / 128) + (i 2).val % 128 = (i 2).val := by omega
  have e6 : 128 * ((i 1).val / 128) + (i 1).val % 128 = (i 1).val := by omega
  have em : val_main_v218 (F := Ideal) x0 x3 x4 x6 x7 x8 (idx_main_v219 i)
      = (∑ j : Fin 128, A.tri ((i 2).val / 128) ((i 1).val % 128) j.val
          * A.gv (i 0).val (128 * ((i 1).val / 128) + j.val) (128 * ((i 2).val / 128) + (i 2).val % 128)) + A.bs ((i 2).val / 128) ((i 1).val % 128) := by
    refine (mixed_ref R _).trans ?_
    show (∑ j : Fin 128, A.tri ((((i 0).val * 4096 + (i 1).val) * 512 + (i 2).val) / 128 % 4) ((((i 0).val * 4096 + (i 1).val) * 512 + (i 2).val) / 512 % 128) j.val
        * A.gv ((((i 0).val * 4096 + (i 1).val) * 512 + (i 2).val) / 2097152) (128 * ((((i 0).val * 4096 + (i 1).val) * 512 + (i 2).val) / 65536 % 32) + j.val)
          (128 * ((((i 0).val * 4096 + (i 1).val) * 512 + (i 2).val) / 128 % 4) + (((i 0).val * 4096 + (i 1).val) * 512 + (i 2).val) % 128))
      + A.bs ((((i 0).val * 4096 + (i 1).val) * 512 + (i 2).val) / 128 % 4) ((((i 0).val * 4096 + (i 1).val) * 512 + (i 2).val) / 512 % 128) = _
    rw [e0, e1, e2, e3, e4]
  rw [val_main_v222_apply, val_main_v220_apply, val_main_v219_apply, em, silu_ref' R, val_main_v26_apply, P_ref R, Args.gate, Nat.add_assoc 4096, Nat.add_assoc 5120, e5, e6]
  exact mul_assoc _ _ _

end Cert.ReferenceIdeal.Layer

end
-- ==== Proof.Math.RefAtt.lean ====
/- The reference's memory attention and its whole output row. -/
module

public import proofs.«01_k».proof.Proof.Math.RefProj
public import proofs.«01_k».proof.Proof.Math.Masks
public import Idealize.ShloMosaic.Lib.KernelVsHost

@[expose] public section

noncomputable section

namespace Cert.ReferenceIdeal.Layer

open Cert.ReferenceIdeal Cert.ReferenceIdeal.Read Cert.Spec
open Idealize.ShloMosaic Idealize.ShloMosaic.ValueIdx

attribute [local instance] Cert.ReferenceIdeal.Gen.facts

/-- The greatest score of a row. -/
def rowMax (A : Args) (b hd i : ℕ) : EReal := (Finset.univ : Finset (Fin 256)).fold max ⊥ (fun m => A.sc b hd i m.val)

theorem ex_eq (A : Args) (b hd i m : ℕ) : A.ex b hd i m = Ideal.exp (A.sc b hd i m - rowMax A b hd i) := rfl

/-- A row of 256 scores' greatest, as a reduction from minus infinity computes it. -/
theorem max_row (x : FVec Ideal S4x4x4096x256 .f32) (h : S4x4x4096x256.ReducesTo [3] S4x4x4096) (hu : 0 < S_.numel) (i : S4x4x4096.Idx) :
    Host.reduce (FloatOps.maximumf (F := Ideal) (φ := .f32)) x (constant S_ .f32 0xFF800000#32) h hu i
      = (Finset.univ : Finset (Fin 256)).fold max ⊥ (fun k => x (ix4 (i 0) (i 1) (i 2) k)) := by
  have h' : S4x4x4096x256.Reduces [3] S4x4x4096 := by decide
  refine (congrFun (hostReduce_maximumf_eq_multiReduction (F := Ideal) x 0xFF800000#32 h hu h' (.inl rfl) rfl) i).trans ?_
  refine (Ideal.multiReduction_maximumf_single (φ := .f32) x 0xFF800000#32 h' (.inl rfl) rfl i).trans ?_
  rw [Ideal.ofBits_def, ninf_eq]
  refine congrArg (Finset.fold max (⊥ : EReal) · _) ?_
  funext k
  refine congrArg x ?_
  funext a
  match a with
  | 0 => rfl
  | 1 => rfl
  | 2 => rfl
  | 3 => rfl

variable {A : Args} {x0 : (⟨S4x4096x2048, .f32⟩ : BufTy).Contents (Elt Ideal)}
  {x1 x2 : (⟨S4x256x4x128, .f32⟩ : BufTy).Contents (Elt Ideal)} {x3 : (⟨S1x2048, .f32⟩ : BufTy).Contents (Elt Ideal)}
  {x4 : (⟨S1x2048x6656, .f32⟩ : BufTy).Contents (Elt Ideal)} {x5 : (⟨S1x1024, .f32⟩ : BufTy).Contents (Elt Ideal)}
  {x6 : (⟨S1x512, .f32⟩ : BufTy).Contents (Elt Ideal)} {x7 : (⟨S1x4x128x128, .f32⟩ : BufTy).Contents (Elt Ideal)}
  {x8 : (⟨S1x4x128, .f32⟩ : BufTy).Contents (Elt Ideal)}
  (R : Reads A x0 x1 x2 x3 x4 x5 x6 x7 x8)
include R

/-- The memory queries. -/
theorem mq_ref (i : S4x4096x4x128.Idx) :
    val_main_v223 (F := Ideal) x0 x3 x4 i = A.P (i 0).val (i 1).val (5632 + 128 * (i 2).val + (i 3).val) := by
  have h0 : (i 0).val < 4 := (i 0).isLt
  have h1 : (i 1).val < 4096 := (i 1).isLt
  have h2 : (i 2).val < 4 := (i 2).isLt
  have h3 : (i 3).val < 128 := (i 3).isLt
  rw [val_main_v223_apply, val_main_v29_apply, P_ref R]
  exact P_congr (by show ((((i 0).val * 4096 + (i 1).val) * 4 + (i 2).val) * 128 + (i 3).val) / 2097152 = _; omega)
    (by show ((((i 0).val * 4096 + (i 1).val) * 4 + (i 2).val) * 128 + (i 3).val) / 512 % 4096 = _; omega)
    (by show 5632 + ((((i 0).val * 4096 + (i 1).val) * 4 + (i 2).val) * 128 + (i 3).val) % 512 = _; omega)

/-- The scores. -/
theorem sc_ref (i : S4x4x4096x256.Idx) :
    val_main_v226 (F := Ideal) x0 x1 x3 x4 i = A.sc (i 0).val (i 1).val (i 2).val (i 3).val := by
  simp only [val_main_v226_apply, val_main_v225_apply, val_main_v224_apply, val_main_cst_31_apply, mq_ref R, R.mem _ rfl rfl rfl rfl]
  rfl

/-- The greatest of a row. -/
theorem max_ref (i : S4x4x4096.Idx) : val_main_v227 (F := Ideal) x0 x1 x3 x4 i
    = rowMax A (i 0).val (i 1).val (i 2).val := by
  refine (max_row (val_main_v226 (F := Ideal) x0 x1 x3 x4) _ _ i).trans ?_
  refine congrArg (Finset.fold max (⊥ : EReal) · _) ?_
  funext k
  exact sc_ref R _

/-- The greatest, once more against minus infinity. -/
theorem top_ref (i : S4x4x4096.Idx) : val_main_v229 (F := Ideal) x0 x1 x3 x4 i = rowMax A (i 0).val (i 1).val (i 2).val := by
  rw [val_main_v229_apply, val_main_v228_apply, val_main_cst_33_apply, max_ref R, Ideal.ofBits_def, ninf_eq]
  exact max_eq_right bot_le

/-- Their exponentials. -/
theorem ex_ref (i : S4x4x4096x256.Idx) :
    val_main_v233 (F := Ideal) x0 x1 x3 x4 i = A.ex (i 0).val (i 1).val (i 2).val (i 3).val := by
  rw [ex_eq, val_main_v233_apply, val_main_v232_apply, sc_ref R, val_main_v231_apply, val_main_v230_apply, top_ref R]
  rfl

theorem silu_ref'' (i : S4x4096x512.Idx) :
    val_main_v241 (F := Ideal) x0 x3 x4 i = silu (A.P (i 0).val (i 1).val (6144 + (i 2).val)) := by
  simp only [val_main_v241_apply, val_main_v30_apply, val_main_call5_v0_apply, val_main_call5_v1_apply, val_main_call5_v2_apply, val_main_call5_v3_apply, val_main_call5_v4_apply, val_main_call5_v5_apply, val_main_call5_cst_apply, val_main_call5_cst_0_apply, P_ref R,
    Ideal.ofBits_def, Ideal.ofBits_one_f32]
  rw [silu_eq]
  rfl

variable (hA : A.Real)
include hA

/-- The weighted values. -/
theorem av_ref (i : S4x4096x4x128.Idx) : val_main_v239 (F := Ideal) x0 x1 x2 x3 x4 i
    = Ideal.div (∑ m : Fin 256, A.ex (i 0).val (i 2).val (i 1).val m.val * A.val (i 0).val m.val (i 2).val (i 3).val)
        (∑ m : Fin 256, A.ex (i 0).val (i 2).val (i 1).val m.val) := by
  rw [← att_weights hA]
  simp only [val_main_v239_apply, val_main_v238_apply, val_main_v237_apply, val_main_v236_apply, val_main_v235_apply, val_main_v234_apply, val_main_cst_34_apply, ex_ref R, R.val _ rfl rfl rfl rfl, Ideal.ofBits_def, Ideal.ofBits_zero_f32, zero_add]
  rfl

/-- An attention lane of the output row. -/
theorem att_ref (i : S4x4096x512.Idx) :
    val_main_v242 (F := Ideal) x0 x1 x2 x3 x4 i = A.att (i 0).val ((i 2).val / 128) (i 1).val ((i 2).val % 128) := by
  have h0 : (i 0).val < 4 := (i 0).isLt
  have h1 : (i 1).val < 4096 := (i 1).isLt
  have h2 : (i 2).val < 512 := (i 2).isLt
  have e0 : (((i 0).val * 4096 + (i 1).val) * 512 + (i 2).val) / 2097152 = (i 0).val := by omega
  have e1 : (((i 0).val * 4096 + (i 1).val) * 512 + (i 2).val) / 512 % 4096 = (i 1).val := by omega
  have e2 : (((i 0).val * 4096 + (i 1).val) * 512 + (i 2).val) / 128 % 4 = (i 2).val / 128 := by omega
  have e3 : (((i 0).val * 4096 + (i 1).val) * 512 + (i 2).val) % 128 = (i 2).val % 128 := by omega
  have e4 : 128 * ((i 2).val / 128) + (i 2).val % 128 = (i 2).val := by omega
  have ev : val_main_v239 (F := Ideal) x0 x1 x2 x3 x4 (idx_main_v240 i)
      = Ideal.div (∑ m : Fin 256, A.ex (i 0).val ((i 2).val / 128) (i 1).val m.val * A.val (i 0).val m.val ((i 2).val / 128) ((i 2).val % 128))
          (∑ m : Fin 256, A.ex (i 0).val ((i 2).val / 128) (i 1).val m.val) := by
    refine (av_ref R hA _).trans ?_
    show Ideal.div (∑ m : Fin 256, A.ex ((((i 0).val * 4096 + (i 1).val) * 512 + (i 2).val) / 2097152) ((((i 0).val * 4096 + (i 1).val) * 512 + (i 2).val) / 128 % 4)
          ((((i 0).val * 4096 + (i 1).val) * 512 + (i 2).val) / 512 % 4096) m.val
        * A.val ((((i 0).val * 4096 + (i 1).val) * 512 + (i 2).val) / 2097152) m.val ((((i 0).val * 4096 + (i 1).val) * 512 + (i 2).val) / 128 % 4)
          ((((i 0).val * 4096 + (i 1).val) * 512 + (i 2).val) % 128))
      (∑ m : Fin 256, A.ex ((((i 0).val * 4096 + (i 1).val) * 512 + (i 2).val) / 2097152) ((((i 0).val * 4096 + (i 1).val) * 512 + (i 2).val) / 128 % 4)
          ((((i 0).val * 4096 + (i 1).val) * 512 + (i 2).val) / 512 % 4096) m.val) = _
    rw [e0, e1, e2, e3]
  rw [val_main_v242_apply, val_main_v240_apply, ev, silu_ref'' R, Args.att, Nat.add_assoc 6144, e4]
  rfl

end Cert.ReferenceIdeal.Layer

end
-- ==== Proof.Math.RefMix.lean ====
/- The reference's two results: the mixed rows and the state after the prompt. -/
module

public import proofs.«01_k».proof.Proof.Math.RefRet
public import proofs.«01_k».proof.Proof.Math.RefGate
public import proofs.«01_k».proof.Proof.Math.RefAtt
public import Idealize.ShloMosaic.Lib.Pipeline.Value

@[expose] public section

noncomputable section

namespace Cert.ReferenceIdeal.Layer

open Cert.ReferenceIdeal Cert.ReferenceIdeal.Read Cert.Spec
open Idealize.ShloMosaic Idealize.ShloMosaic.ValueIdx

attribute [local instance] Cert.ReferenceIdeal.Gen.facts

/-- Three arrays side by side along the last axis, read at an index. -/
theorem beside (X : S4x4096x1024.Idx → EReal) (Y Z : S4x4096x512.Idx → EReal)
    (h : Shape.Concatenates [S4x4096x1024, S4x4096x512, S4x4096x512] S4x4096x2048 2) (i : S4x4096x2048.Idx)
    {f : ℕ → ℕ → ℕ → EReal} (hX : ∀ j : S4x4096x1024.Idx, X j = f (j 0).val (j 1).val (j 2).val)
    (hY : ∀ j : S4x4096x512.Idx, Y j = f (j 0).val (j 1).val (1024 + (j 2).val))
    (hZ : ∀ j : S4x4096x512.Idx, Z j = f (j 0).val (j 1).val (1536 + (j 2).val)) :
    concatenate S4x4096x2048 2 [⟨S4x4096x1024, X⟩, ⟨S4x4096x512, Y⟩, ⟨S4x4096x512, Z⟩] h i = f (i 0).val (i 1).val (i 2).val := by
  have h2 : (i 2).val < 2048 := (i 2).isLt
  let L : List ((s : Shape) × (s.Idx → EReal)) := [⟨S4x4096x1024, X⟩, ⟨S4x4096x512, Y⟩, ⟨S4x4096x512, Z⟩]
  have h' : Shape.Concatenates (L.map (·.1)) S4x4096x2048 2 := h
  by_cases c1 : (i 2).val < 1024
  · refine (concatenate_apply_piece 2 L h' i 0 (by show 0 < 3; omega) S4x4096x1024 X rfl rfl 0 rfl (ix3 (i 0) (i 1) ⟨(i 2).val, c1⟩)
      (fun a ha => by match a with | 0 => rfl | 1 => rfl | 2 => exact absurd rfl ha) (Nat.zero_add _)).trans ?_
    rw [hX]
  · by_cases c2 : (i 2).val < 1536
    · refine (concatenate_apply_piece 2 L h' i 1 (by show 1 < 3; omega) S4x4096x512 Y rfl rfl 1024 rfl (ix3 (i 0) (i 1) ⟨(i 2).val - 1024, by omega⟩)
        (fun a ha => by match a with | 0 => rfl | 1 => rfl | 2 => exact absurd rfl ha) (by show 1024 + ((i 2).val - 1024) = _; omega)).trans ?_
      rw [hY]
      exact congrArg (f (i 0).val (i 1).val) (by show 1024 + ((i 2).val - 1024) = _; omega)
    · refine (concatenate_apply_piece 2 L h' i 2 (by show 2 < 3; omega) S4x4096x512 Z rfl rfl 1536 rfl (ix3 (i 0) (i 1) ⟨(i 2).val - 1536, by omega⟩)
        (fun a ha => by match a with | 0 => rfl | 1 => rfl | 2 => exact absurd rfl ha) (by show 1536 + ((i 2).val - 1536) = _; omega)).trans ?_
      rw [hZ]
      exact congrArg (f (i 0).val (i 1).val) (by show 1536 + ((i 2).val - 1536) = _; omega)

variable {A : Args} {x0 : (⟨S4x4096x2048, .f32⟩ : BufTy).Contents (Elt Ideal)}
  {x1 x2 : (⟨S4x256x4x128, .f32⟩ : BufTy).Contents (Elt Ideal)} {x3 : (⟨S1x2048, .f32⟩ : BufTy).Contents (Elt Ideal)}
  {x4 : (⟨S1x2048x6656, .f32⟩ : BufTy).Contents (Elt Ideal)} {x5 : (⟨S1x1024, .f32⟩ : BufTy).Contents (Elt Ideal)}
  {x6 : (⟨S1x512, .f32⟩ : BufTy).Contents (Elt Ideal)} {x7 : (⟨S1x4x128x128, .f32⟩ : BufTy).Contents (Elt Ideal)}
  {x8 : (⟨S1x4x128, .f32⟩ : BufTy).Contents (Elt Ideal)}
  (R : Reads A x0 x1 x2 x3 x4 x5 x6 x7 x8) (hA : A.Real)
include R hA

/-- The mixed rows. -/
theorem mix_ref (i : S4x4096x2048.Idx) :
    val_main_v244 (F := Ideal) x0 x1 x2 x3 x4 x5 x6 x7 x8 i = A.mix (i 0).val (i 1).val (i 2).val := by
  refine (beside (val_main_v189 (F := Ideal) x0 x3 x4 x5) (val_main_v222 (F := Ideal) x0 x3 x4 x6 x7 x8)
    (val_main_v242 (F := Ideal) x0 x1 x2 x3 x4) Gen.concatenates_S4x4096x1024_S4x4096x512_S4x4096x512_S4x4096x2048_d2 i (f := A.mix) (fun j => ?_) (fun j => ?_) fun j => ?_)
  · have h2 : (j 2).val < 1024 := (j 2).isLt
    rw [ret_ref R hA, Args.mix, if_pos h2]
  · have h2 : (j 2).val < 512 := (j 2).isLt
    rw [gate_ref R, Args.mix, if_neg (by omega), if_pos (by omega), Nat.add_sub_cancel_left]
  · have h2 : (j 2).val < 512 := (j 2).isLt
    rw [att_ref R hA, Args.mix, if_neg (by omega), if_neg (by omega), Nat.add_sub_cancel_left]

end Cert.ReferenceIdeal.Layer

end
-- ==== Proof.Memory.Tile.lean ====
/- The memory call's body: the two arrays of keys and values a grid point stores are the stores listed here, in both cases. -/
module

public import proofs.«01_k».proof.Proof.Gen.MemoryIdeal.Frame
public import Idealize.ShloMosaic.Lib.Pipeline.ReadBack

@[expose] public section

set_option maxRecDepth 16384
set_option maxHeartbeats 8000000

noncomputable section

namespace Cert.MemoryIdeal.Layer

open Idealize.ShloMosaic Idealize.ShloMosaic.Tactic
open Cert.MemoryIdeal Cert.MemoryIdeal.Gen

variable {F : FTy → Type} [FloatOps F]

theorem inbP : ∀ (bb : Fin 2) (hd : Fin 4) (a : Fin 4), (![bb.val, 0, hd.val, 0] : Fin 4 → ℕ) a + S1x256x1x128.size a ≤ S2x256x4x128.size a := by decide
theorem slicesR : ∀ bb sec : Fin 2, S512x1024.Slices ![256 * bb.val, 512 * sec.val] S256x512 := by decide
theorem slicesH : ∀ hd : Fin 4, S256x512.Slices ![0, 128 * hd.val] S256x128 := by decide

/-- A point's projection: its rows normalised, times the weights held in the scratch. -/
def proj (x : Vec F S2x256x2048 .f32) (g : Vec F S1x2048 .f32) (w : Vec F S2048x1024 .bf16) : FVec F S512x1024 .f32 :=
  k0_pay7 (View.ld x (Rect.unit (s := S2x256x2048) ![0, 0, 0] S2x256x2048.size inb_S2x256x2048_S2x256x2048_0_0_0))
    (View.ld g (Rect.unit (s := S1x2048) ![0, 0] S1x2048.size inb_S1x2048_S1x2048_0_0)) w

/-- The store of head `hd` of batch row `bb`, of the keys (`sec = 0`) or the values (`sec = 1`). -/
def piece (u : FVec F S512x1024 .f32) (sec bb : Fin 2) (hd : Fin 4) : View.Piece (Elt F) S2x256x4x128 .f32 :=
  ⟨Rect.unit (s := S2x256x4x128) ![bb.val, 0, hd.val, 0] S1x256x1x128.size (inbP bb hd),
    shapeCast S1x256x1x128 (extractStridedSlice S256x128 ![0, 128 * hd.val]
      (extractStridedSlice S256x512 ![256 * bb.val, 512 * sec.val] u (slicesR bb sec)) (slicesH hd)) shapeCasts_S256x128_S1x256x1x128⟩

/-- A point's stores into one of the two arrays. -/
def pieces (u : FVec F S512x1024 .f32) (sec : Fin 2) : List (View.Piece (Elt F) S2x256x4x128 .f32) :=
  [piece u sec 1 3, piece u sec 1 2, piece u sec 1 1, piece u sec 1 0, piece u sec 0 3, piece u sec 0 2, piece u sec 0 1, piece u sec 0 0]

/-- The weights the first point puts into the scratch. -/
def fillW (w : Vec F S2048x1024 .f32) : FVec F S2048x1024 .bf16 :=
  k0_pay6 (View.ld w (Rect.unit (s := S2048x1024) ![0, 0] S2048x1024.size inb_S2048x1024_S2048x1024_0_0))

variable (c : Dev nD) (i : grid0.Coords)
  (arg1 : Memref sig .tc .vmem S2x256x2048 .f32) (harg1 : arg1.IsWhole)
  (arg2 : Memref sig .tc .vmem S1x2048 .f32) (harg2 : arg2.IsWhole)
  (arg3 : Memref sig .tc .vmem S2048x1024 .f32) (harg3 : arg3.IsWhole)
  (arg4 : Memref sig .tc .vmem S2x256x4x128 .f32) (harg4 : arg4.IsWhole)
  (arg5 : Memref sig .tc .vmem S2x256x4x128 .f32) (harg5 : arg5.IsWhole)
  (arg6 : Memref sig .tc .vmem S2x256x512 .bf16) (harg6 : arg6.IsWhole)
  (arg7 : Memref sig .tc .vmem S2x256x512 .bf16) (harg7 : arg7.IsWhole)
  (arg8 : Memref sig .tc .vmem S2048x1024 .bf16) (harg8 : arg8.IsWhole)
  (x0 : Vec F S2x256x2048 .f32) (x1 : Vec F S1x2048 .f32) (x2 : Vec F S2048x1024 .f32) (xs0 : Vec F S2048x1024 .bf16)

theorem out3_B (hc0 : ¬cond0_0 i) :
    out0_B_3 c i arg1 harg1 arg2 harg2 arg3 harg3 arg4 harg4 arg5 harg5 arg6 harg6 arg7 harg7 arg8 harg8 hc0 x0 x1 x2 xs0
      = View.canon (pieces (proj x0 x1 (View.ld xs0 (Rect.unit (s := S2048x1024) ![0, 0] S2048x1024.size inb_S2048x1024_S2048x1024_0_0))) 0) := by
  unfold out0_B_3
  rw [View.read_writes_junk_eq_canon]
  unfold kernelRun0_B
  dsimp only
  sl_unfold_words
  simp (disch := decide) only [View.readAt_eq_ld, Memref.IsWhole.read_unread, View.readCov_cons_toLoadRect, View.readCov_skip, View.readCov_fill]
  rfl

theorem out4_B (hc0 : ¬cond0_0 i) :
    out0_B_4 c i arg1 harg1 arg2 harg2 arg3 harg3 arg4 harg4 arg5 harg5 arg6 harg6 arg7 harg7 arg8 harg8 hc0 x0 x1 x2 xs0
      = View.canon (pieces (proj x0 x1 (View.ld xs0 (Rect.unit (s := S2048x1024) ![0, 0] S2048x1024.size inb_S2048x1024_S2048x1024_0_0))) 1) := by
  unfold out0_B_4
  rw [View.read_writes_junk_eq_canon]
  unfold kernelRun0_B
  dsimp only
  sl_unfold_words
  simp (disch := decide) only [View.readAt_eq_ld, Memref.IsWhole.read_unread, View.readCov_cons_toLoadRect, View.readCov_skip, View.readCov_fill]
  rfl

theorem out3_A (hc0 : cond0_0 i) :
    out0_A_3 c i arg1 harg1 arg2 harg2 arg3 harg3 arg4 harg4 arg5 harg5 arg6 harg6 arg7 harg7 arg8 harg8 hc0 x0 x1 x2
      = View.canon (pieces (proj x0 x1 (fillW x2)) 0) := by
  unfold out0_A_3
  rw [View.read_writes_junk_eq_canon]
  unfold kernelRun0_A
  dsimp only
  sl_unfold_words
  simp (disch := decide) only [View.readAt_eq_ld, Memref.IsWhole.read_unread, View.readCov_cons_toLoadRect, View.readCov_skip, View.readCov_fill]
  rfl

theorem out4_A (hc0 : cond0_0 i) :
    out0_A_4 c i arg1 harg1 arg2 harg2 arg3 harg3 arg4 harg4 arg5 harg5 arg6 harg6 arg7 harg7 arg8 harg8 hc0 x0 x1 x2
      = View.canon (pieces (proj x0 x1 (fillW x2)) 1) := by
  unfold out0_A_4
  rw [View.read_writes_junk_eq_canon]
  unfold kernelRun0_A
  dsimp only
  sl_unfold_words
  simp (disch := decide) only [View.readAt_eq_ld, Memref.IsWhole.read_unread, View.readCov_cons_toLoadRect, View.readCov_skip, View.readCov_fill]
  rfl

theorem scratch_A (hc0 : cond0_0 i) :
    sout0_A_0 c i arg1 harg1 arg2 harg2 arg3 harg3 arg4 harg4 arg5 harg5 arg6 harg6 arg7 harg7 arg8 harg8 hc0 x0 x1 x2
      = View.canon [⟨Rect.unit (s := S2048x1024) ![0, 0] S2048x1024.size inb_S2048x1024_S2048x1024_0_0, fillW x2⟩] := by
  unfold sout0_A_0
  rw [View.read_writes_junk_eq_canon]
  unfold kernelRun0_A
  dsimp only
  sl_unfold_words
  simp (disch := decide) only [View.readAt_eq_ld, Memref.IsWhole.read_unread, View.readCov_cons_toLoadRect, View.readCov_skip, View.readCov_fill]
  rfl

end Cert.MemoryIdeal.Layer

end
-- ==== Proof.Memory.Math.lean ====
/- The memory call's stores read at an index over the extended reals: a key or value is a row, normalised and weighted, times a column
   of the weights. -/
module

public import proofs.«01_k».proof.Proof.Memory.Tile
public import Idealize.ShloMosaic.Lib.Pointwise
public import Idealize.ShloMosaic.Lib.Pipeline.Value
public import Idealize.ShloMosaic.Lib.Pipeline.ValueKit.Geometry

@[expose] public section

noncomputable section

namespace Cert.MemoryIdeal.Layer

open Idealize.ShloMosaic Idealize.ShloMosaic.Pointwise
open Cert.MemoryIdeal Cert.MemoryIdeal.Gen

/-- A row `x` over the root of its mean square plus the small constant, weighted by `g`, times a column `w`. -/
def entry (x g w : Fin 2048 → EReal) : EReal :=
  ∑ d : Fin 2048, (x d * Ideal.rsqrt (Ideal.div (∑ e : Fin 2048, x e * x e) (Ideal.ofBits .f32 0x45000000#32) + Ideal.ofBits .f32 0x358637BD#32) * g d) * w d

theorem rows_at (x : S2x256x2048.Idx → EReal) (h) (bb : Fin 2) (r : Fin 256) (d : Fin 2048) :
    shapeCast S512x2048 x h (ix2 ⟨256 * bb.val + r.val, by omega⟩ d) = x (ix3 bb r d) := by
  pointwise

theorem proj_at (x : Vec Ideal S2x256x2048 .f32) (g : Vec Ideal S1x2048 .f32) (w : Vec Ideal S2048x1024 .bf16) (bb : Fin 2) (r : Fin 256) (n : Fin 1024) :
    (proj x g w (ix2 ⟨256 * bb.val + r.val, by omega⟩ n) : EReal)
      = entry (fun d => x (ix3 bb r d)) (fun d => g (ix2 0 d)) (fun d => w (ix2 d n)) := by
  pointwise [proj, k0_pay7]
  rfl

theorem fillW_at (w : Vec Ideal S2048x1024 .f32) (d : Fin 2048) (n : Fin 1024) : (fillW w (ix2 d n) : EReal) = w (ix2 d n) := by
  pointwise [fillW, k0_pay6]

theorem piece_at (u : FVec Ideal S512x1024 .f32) (sec bb : Fin 2) (hd : Fin 4) (z z' : Fin 1) (r : Fin 256) (l : Fin 128) :
    ((piece u sec bb hd).2 (ix4 z r z' l) : EReal) = u (ix2 ⟨256 * bb.val + r.val, by omega⟩ ⟨512 * sec.val + (128 * hd.val + l.val), by omega⟩) := by
  pointwise [piece]

end Cert.MemoryIdeal.Layer

end
-- ==== Proof.Memory.Whole.lean ====
/- The two arrays the memory call leaves, entry by entry: each entry is the row of the memory, normalised and weighted, times the head's
   column of the weights. -/
module

public import proofs.«01_k».proof.Proof.Memory.Math
public import proofs.«01_k».proof.Proof.Gen.MemoryIdeal.Value
public import Idealize.ShloMosaic.Lib.StableHlo.ReadAt
public import Idealize.ShloMosaic.Lib.Pipeline.ValueKit

@[expose] public section

noncomputable section

namespace Cert.MemoryIdeal.Layer

open Idealize.ShloMosaic Idealize.ShloMosaic.Pointwise Idealize.ShloMosaic.TcCoe
open Cert.MemoryIdeal Cert.MemoryIdeal.Gen Cert.MemoryIdeal.Value

/-! ## One point -/

theorem piece_mem (u : FVec Ideal S512x1024 .f32) (sec bb : Fin 2) (hd : Fin 4) : piece u sec bb hd ∈ pieces u sec := by
  unfold pieces
  match bb, hd with
  | 0, 0 | 0, 1 | 0, 2 | 0, 3 | 1, 0 | 1, 1 | 1, 2 | 1, 3 => simp only [List.mem_cons, true_or, or_true]

/-- What the stores leave, as one function of the projection. -/
def stored (u : FVec Ideal S512x1024 .f32) (sec : Fin 2) : S2x256x4x128.Idx → EReal := fun y =>
  u (ix2 ⟨256 * (y 0).val + (y 1).val, by have h0 : (y 0).val < 2 := (y 0).isLt; have h1 : (y 1).val < 256 := (y 1).isLt; omega⟩
    ⟨512 * sec.val + (128 * (y 2).val + (y 3).val), by have h0 : (y 2).val < 4 := (y 2).isLt; have h1 : (y 3).val < 128 := (y 3).isLt; omega⟩)

theorem piece_ok (u : FVec Ideal S512x1024 .f32) (sec bb : Fin 2) (hd : Fin 4) (x : S1x256x1x128.Idx) :
    (piece u sec bb hd).2 x = stored u sec ((piece u sec bb hd).1.emb x) := by
  obtain ⟨z, r, z', l, rfl⟩ : ∃ z r z' l, x = ix4 z r z' l := ⟨x 0, x 1, x 2, x 3, eq_ix4 x⟩
  have hz := z.isLt
  have hz' := z'.isLt
  refine (piece_at u sec bb hd z z' r l).trans (congrArg u ?_)
  funext a
  apply Fin.ext
  match a with
  | 0 =>
    show 256 * bb.val + r.val = 256 * ((Rect.unit (s := S2x256x4x128) ![bb.val, 0, hd.val, 0] S1x256x1x128.size (inbP bb hd)).emb (ix4 z r z' l) 0).val
      + ((Rect.unit (s := S2x256x4x128) ![bb.val, 0, hd.val, 0] S1x256x1x128.size (inbP bb hd)).emb (ix4 z r z' l) 1).val
    rw [ValueKit.rect_emb_unit_val, ValueKit.rect_emb_unit_val]
    show 256 * bb.val + r.val = 256 * (bb.val + z.val) + (0 + r.val)
    omega
  | 1 =>
    show 512 * sec.val + (128 * hd.val + l.val) = 512 * sec.val + (128 * ((Rect.unit (s := S2x256x4x128) ![bb.val, 0, hd.val, 0] S1x256x1x128.size (inbP bb hd)).emb (ix4 z r z' l) 2).val
      + ((Rect.unit (s := S2x256x4x128) ![bb.val, 0, hd.val, 0] S1x256x1x128.size (inbP bb hd)).emb (ix4 z r z' l) 3).val)
    rw [ValueKit.rect_emb_unit_val, ValueKit.rect_emb_unit_val]
    show 512 * sec.val + (128 * hd.val + l.val) = 512 * sec.val + (128 * (hd.val + z'.val) + (0 + l.val))
    omega

theorem pieces_cover (u : FVec Ideal S512x1024 .f32) (sec : Fin 2) (y : S2x256x4x128.Idx) : ∃ p ∈ pieces u sec, y ∈ p.1.set := by
  refine ⟨_, piece_mem u sec (y 0) (y 2), ?_⟩
  show y ∈ (Rect.unit (s := S2x256x4x128) ![(y 0).val, 0, (y 2).val, 0] S1x256x1x128.size (inbP (y 0) (y 2))).set
  rw [Rect.mem_set_unit]
  intro a
  match a with
  | 0 => exact ⟨le_refl _, Nat.lt_succ_self _⟩
  | 1 => exact ⟨Nat.zero_le _, (y 1).isLt⟩
  | 2 => exact ⟨le_refl _, Nat.lt_succ_self _⟩
  | 3 => exact ⟨Nat.zero_le _, (y 3).isLt⟩

theorem canon_pieces (u : FVec Ideal S512x1024 .f32) (sec : Fin 2) (y : S2x256x4x128.Idx) : View.canon (pieces u sec) y = stored u sec y := by
  refine View.canon_apply_of_pieces (stored u sec) (pieces u sec) ?_ y (pieces_cover u sec y)
  unfold pieces
  refine List.forall_mem_cons.2 ⟨piece_ok u sec 1 3, ?_⟩
  refine List.forall_mem_cons.2 ⟨piece_ok u sec 1 2, ?_⟩
  refine List.forall_mem_cons.2 ⟨piece_ok u sec 1 1, ?_⟩
  refine List.forall_mem_cons.2 ⟨piece_ok u sec 1 0, ?_⟩
  refine List.forall_mem_cons.2 ⟨piece_ok u sec 0 3, ?_⟩
  refine List.forall_mem_cons.2 ⟨piece_ok u sec 0 2, ?_⟩
  refine List.forall_mem_cons.2 ⟨piece_ok u sec 0 1, ?_⟩
  refine List.forall_mem_cons.2 ⟨piece_ok u sec 0 0, ?_⟩
  exact List.forall_mem_nil _

/-- An entry of a point's array, from its block, the norm's weights and what the scratch holds. -/
theorem canon_at (x : Vec Ideal S2x256x2048 .f32) (g : Vec Ideal S1x2048 .f32) (w : Vec Ideal S2048x1024 .bf16) (sec bb : Fin 2) (r : Fin 256) (hd : Fin 4) (l : Fin 128) :
    View.canon (pieces (proj x g w) sec) (ix4 bb r hd l)
      = entry (fun d => x (ix3 bb r d)) (fun d => g (ix2 0 d)) (fun d => w (ix2 d ⟨512 * sec.val + (128 * hd.val + l.val), by omega⟩)) :=
  (canon_pieces _ _ _).trans (proj_at x g w bb r _)

/-- The scratch after it is filled. -/
theorem canon_fill (w : Vec Ideal S2048x1024 .f32) (d : Fin 2048) (n : Fin 1024) :
    View.canon (Val := Elt Ideal) [(⟨Rect.unit (s := S2048x1024) ![0, 0] S2048x1024.size inb_S2048x1024_S2048x1024_0_0, fillW w⟩ : View.Piece (Elt Ideal) S2048x1024 .bf16)] (ix2 d n) = w (ix2 d n) := by
  have he : (Rect.unit (s := S2048x1024) ![0, 0] S2048x1024.size inb_S2048x1024_S2048x1024_0_0).emb (ix2 d n) = (ix2 d n : S2048x1024.Idx) := by
    funext a
    apply Fin.ext
    rw [ValueKit.rect_emb_unit_val]
    match a with
    | 0 => exact Nat.zero_add _
    | 1 => exact Nat.zero_add _
  have key := View.canon_cons_emb (Val := Elt Ideal) (e := .bf16) (Rect.unit (s := S2048x1024) ![0, 0] S2048x1024.size inb_S2048x1024_S2048x1024_0_0) (fillW w) [] (ix2 d n)
  rw [he] at key
  exact key.trans (fillW_at w d n)

theorem ld_scratch (w : Vec Ideal S2048x1024 .bf16) (d : Fin 2048) (n : Fin 1024) :
    View.ld w (Rect.unit (s := S2048x1024) ![0, 0] S2048x1024.size inb_S2048x1024_S2048x1024_0_0) (ix2 d n) = w (ix2 d n) := by
  pointwise

/-! ## The windows' blocks -/

variable (m : (ℓ : Loc nD τ sig) → Buf (Elt Ideal) ℓ) (c : Dev nD)

theorem point_lt (t : Fin cfg0.N) : t.val < 2 := lt_of_lt_of_eq t.isLt N_0

theorem index_facts : ∀ t : Fin cfg0.N,
    (win0_0.index t (0 : Fin 3) = t.val ∧ win0_0.index t (1 : Fin 3) = 0 ∧ win0_0.index t (2 : Fin 3) = 0)
    ∧ (∀ a, win0_1.index t a = 0) ∧ (∀ a, win0_2.index t a = 0) :=
  (by decide +kernel : ∀ t : Fin grid0.N, _)

theorem blk_mem (t : Fin cfg0.N) (bb : Fin 2) (r : Fin 256) (d : Fin 2048) :
    iblk m c 0 t (ix3 bb r d) = m ((c : Thread nD τ).loc main_arg0) (ix3 ⟨2 * t.val + bb.val, by have := point_lt t; omega⟩ r d) := by
  obtain ⟨⟨e0, e1, e2⟩, -⟩ := index_facts t
  rw [← V_main_arg0 m c]
  blk_simp [iblk]
  refine congrArg (V m c main_arg0) (funext fun a => Fin.ext ?_)
  blk_simp [iblk]
  fin_cases a
  · show win0_0.index t (0 : Fin 3) * 2 + bb.val = 2 * t.val + bb.val
    rw [e0]; omega
  · show win0_0.index t (1 : Fin 3) * 256 + r.val = r.val
    rw [e1]; omega
  · show win0_0.index t (2 : Fin 3) * 2048 + d.val = d.val
    rw [e2]; omega

theorem host_g (d : Fin 2048) : (V m c main_v2 (ix2 0 d) : EReal) = m ((c : Thread nD τ).loc main_arg1) (ix2 0 d) := by
  unfold V
  simp only [List.flatten_cons, List.flatten_nil, List.append_nil, List.cons_append, List.nil_append, hostOps0]
  after_reads_at

theorem host_w (d : Fin 2048) (n : Fin 1024) : (V m c main_v1 (ix2 d n) : EReal) = m ((c : Thread nD τ).loc main_arg2) (ix3 0 d n) := by
  unfold V
  simp only [List.flatten_cons, List.flatten_nil, List.append_nil, List.cons_append, List.nil_append, hostOps0]
  after_reads_at

theorem blk_g (t : Fin cfg0.N) (d : Fin 2048) : iblk m c 1 t (ix2 0 d) = m ((c : Thread nD τ).loc main_arg1) (ix2 0 d) := by
  obtain ⟨-, e, -⟩ := index_facts t
  refine Eq.trans ?_ (host_g m c d)
  blk_simp [iblk]
  refine congrArg (V m c main_v2) (funext fun a => Fin.ext ?_)
  blk_simp [iblk]
  fin_cases a
  · show win0_1.index t (0 : Fin 2) * 1 + 0 = 0
    rw [e]
  · show win0_1.index t (1 : Fin 2) * 2048 + d.val = d.val
    rw [e]; omega

theorem blk_w (t : Fin cfg0.N) (d : Fin 2048) (n : Fin 1024) : iblk m c 2 t (ix2 d n) = m ((c : Thread nD τ).loc main_arg2) (ix3 0 d n) := by
  obtain ⟨-, -, e⟩ := index_facts t
  refine Eq.trans ?_ (host_w m c d n)
  blk_simp [iblk]
  refine congrArg (V m c main_v1) (funext fun a => Fin.ext ?_)
  blk_simp [iblk]
  fin_cases a
  · show win0_2.index t (0 : Fin 2) * 2048 + d.val = d.val
    rw [e]; omega
  · show win0_2.index t (1 : Fin 2) * 1024 + n.val = n.val
    rw [e]; omega

/-! ## The run -/

/-- The mathematics of an entry: head `i 2`'s column `i 3` of the keys (`sec = 0`) or the values (`sec = 1`), at row `i 1` of batch row `i 0`. -/
def memOf (x : S4x256x2048.Idx → EReal) (g : S1x2048.Idx → EReal) (w : S1x2048x1024.Idx → EReal) (sec : Fin 2) (i : S4x256x4x128.Idx) : EReal :=
  entry (fun d => x (ix3 (i 0) (i 1) d)) (fun d => g (ix2 0 d))
    (fun d => w (ix3 0 d ⟨512 * sec.val + (128 * (i 2).val + (i 3).val), by have h0 : (i 2).val < 4 := (i 2).isLt; have h1 : (i 3).val < 128 := (i 3).isLt; omega⟩))

/-- The mathematics of a core's arguments. -/
abbrev want (sec : Fin 2) : S4x256x4x128.Idx → EReal :=
  memOf (m ((c : Thread nD τ).loc main_arg0)) (m ((c : Thread nD τ).loc main_arg1)) (m ((c : Thread nD τ).loc main_arg2)) sec

/-- An entry of a point's array, once the scratch holds the weights. -/
theorem canon_want (t : Fin cfg0.N) (w : Vec Ideal S2048x1024 .bf16)
    (hw : ∀ (d : Fin 2048) (n : Fin 1024), (w (ix2 d n) : EReal) = m ((c : Thread nD τ).loc main_arg2) (ix3 0 d n))
    (sec bb : Fin 2) (r : Fin 256) (hd : Fin 4) (l : Fin 128) :
    (View.canon (pieces (proj (iblk m c 0 t) (iblk m c 1 t) w) sec) (ix4 bb r hd l) : EReal)
      = want m c sec (ix4 ⟨2 * t.val + bb.val, by have := point_lt t; omega⟩ r hd l) := by
  refine (canon_at _ _ _ sec bb r hd l).trans ?_
  have e0 : (fun d => iblk m c 0 t (ix3 bb r d)) = fun d => m ((c : Thread nD τ).loc main_arg0) (ix3 ⟨2 * t.val + bb.val, by have := point_lt t; omega⟩ r d) :=
    funext fun d => blk_mem m c t bb r d
  have e1 : (fun d => iblk m c 1 t (ix2 0 d)) = fun d => m ((c : Thread nD τ).loc main_arg1) (ix2 0 d) := funext fun d => blk_g m c t d
  have e2 := funext fun d => hw d ⟨512 * sec.val + (128 * hd.val + l.val), by omega⟩
  exact congr (congr (congrArg entry e0) e1) e2

theorem scratch_at (h : 0 < cfg0.N) (d : Fin 2048) (n : Fin 1024) :
    ((outsAt0 m c 0 h).2.2.2.2 (ix2 d n) : EReal) = m ((c : Thread nD τ).loc main_arg2) (ix3 0 d n) := by
  rw [outsAt0_A m c ⟨0, h⟩ (Nat.zero_mod _)]
  dsimp only
  rw [scratch_A]
  exact (canon_fill _ d n).trans (blk_w m c _ d n)

theorem keys_at (n : ℕ) (h : n < cfg0.N) (bb : Fin 2) (r : Fin 256) (hd : Fin 4) (l : Fin 128) :
    ((outsAt0 m c n h).1 (ix4 bb r hd l) : EReal) = want m c 0 (ix4 ⟨2 * n + bb.val, by have : n < 2 := point_lt ⟨n, h⟩; omega⟩ r hd l) := by
  have hn : n < 2 := point_lt ⟨n, h⟩
  by_cases h0 : n % 2 = 0
  · rw [outsAt0_A m c ⟨n, h⟩ h0]
    dsimp only
    rw [out3_A]
    exact canon_want m c ⟨n, h⟩ _ (fun d k => (fillW_at _ d k).trans (blk_w m c _ d k)) 0 bb r hd l
  · obtain rfl : n = 1 := by omega
    rw [outsAt0_B m c ⟨1, h⟩ h0]
    dsimp only
    rw [out3_B]
    exact canon_want m c ⟨1, h⟩ _ (fun d k => (ld_scratch _ d k).trans (scratch_at m c _ d k)) 0 bb r hd l

theorem vals_at (n : ℕ) (h : n < cfg0.N) (bb : Fin 2) (r : Fin 256) (hd : Fin 4) (l : Fin 128) :
    ((outsAt0 m c n h).2.1 (ix4 bb r hd l) : EReal) = want m c 1 (ix4 ⟨2 * n + bb.val, by have : n < 2 := point_lt ⟨n, h⟩; omega⟩ r hd l) := by
  have hn : n < 2 := point_lt ⟨n, h⟩
  by_cases h0 : n % 2 = 0
  · rw [outsAt0_A m c ⟨n, h⟩ h0]
    dsimp only
    rw [out4_A]
    exact canon_want m c ⟨n, h⟩ _ (fun d k => (fillW_at _ d k).trans (blk_w m c _ d k)) 1 bb r hd l
  · obtain rfl : n = 1 := by omega
    rw [outsAt0_B m c ⟨1, h⟩ h0]
    dsimp only
    rw [out4_B]
    exact canon_want m c ⟨1, h⟩ _ (fun d k => (ld_scratch _ d k).trans (scratch_at m c _ d k)) 1 bb r hd l

theorem split (i : S4x256x4x128.Idx) (h) :
    (ix4 ⟨2 * ((i 0).val / 2) + (i 0).val % 2, h⟩ (i 1) (i 2) (i 3) : S4x256x4x128.Idx) = i := by
  funext a
  apply Fin.ext
  match a with
  | 0 => exact Nat.div_add_mod _ _
  | 1 | 2 | 3 => rfl

/-- The keys of the memory. -/
theorem whole_keys (i : S4x256x4x128.Idx) : (G3 m c i : EReal) = want m c 0 i := by
  have h0 : (i 0).val < 4 := (i 0).isLt
  have h1 : (i 1).val < 256 := (i 1).isLt
  have h2 : (i 2).val < 4 := (i 2).isLt
  have h3 : (i 3).val < 128 := (i 3).isLt
  have ep : pt3Of i = (i 0).val / 2 := by
    show 1 * ((i 0).val / 2 - 0) + 1 * ((i 1).val / 256 - 0) + 1 * ((i 2).val / 4 - 0) + 1 * ((i 3).val / 128 - 0) = _
    omega
  have hp : pt3Of i < cfg0.N := lt_of_lt_of_eq (b := 2) (by omega) N_0.symm
  have e : G3 m c i = (outsAt0 m c (pt3Of i) hp).1 (loc3Of i) :=
    (dif_pos hp).trans (congrFun (congrArg Prod.fst (outsAt0_sweep m c (pt3Of i) hp).symm) (loc3Of i))
  have el : loc3Of i = ix4 (n0 := 2) (n1 := 256) (n2 := 4) (n3 := 128) ⟨(i 0).val % 2, Nat.mod_lt _ (by decide)⟩ (i 1) (i 2) (i 3) := by
    funext a
    apply Fin.ext
    match a with
    | 0 => rfl
    | 1 => exact Nat.mod_eq_of_lt h1
    | 2 => exact Nat.mod_eq_of_lt h2
    | 3 => exact Nat.mod_eq_of_lt h3
  have k := keys_at m c (pt3Of i) hp ⟨(i 0).val % 2, Nat.mod_lt _ (by decide)⟩ (i 1) (i 2) (i 3)
  refine (e.trans ((congrArg (outsAt0 m c (pt3Of i) hp).1 el).trans k)).trans (congrArg (want m c 0) ?_)
  refine Eq.trans ?_ (split i (by omega))
  funext a
  apply Fin.ext
  match a with
  | 0 =>
    show 2 * pt3Of i + (i 0).val % 2 = 2 * ((i 0).val / 2) + (i 0).val % 2
    rw [ep]
  | 1 | 2 | 3 => rfl

/-- The values of the memory. -/
theorem whole_vals (i : S4x256x4x128.Idx) : (G4 m c i : EReal) = want m c 1 i := by
  have h0 : (i 0).val < 4 := (i 0).isLt
  have h1 : (i 1).val < 256 := (i 1).isLt
  have h2 : (i 2).val < 4 := (i 2).isLt
  have h3 : (i 3).val < 128 := (i 3).isLt
  have ep : pt4Of i = (i 0).val / 2 := by
    show 1 * ((i 0).val / 2 - 0) + 1 * ((i 1).val / 256 - 0) + 1 * ((i 2).val / 4 - 0) + 1 * ((i 3).val / 128 - 0) = _
    omega
  have hp : pt4Of i < cfg0.N := lt_of_lt_of_eq (b := 2) (by omega) N_0.symm
  have e : G4 m c i = (outsAt0 m c (pt4Of i) hp).2.1 (loc4Of i) :=
    (dif_pos hp).trans (congrFun (congrArg (fun p => p.2.1) (outsAt0_sweep m c (pt4Of i) hp).symm) (loc4Of i))
  have el : loc4Of i = ix4 (n0 := 2) (n1 := 256) (n2 := 4) (n3 := 128) ⟨(i 0).val % 2, Nat.mod_lt _ (by decide)⟩ (i 1) (i 2) (i 3) := by
    funext a
    apply Fin.ext
    match a with
    | 0 => rfl
    | 1 => exact Nat.mod_eq_of_lt h1
    | 2 => exact Nat.mod_eq_of_lt h2
    | 3 => exact Nat.mod_eq_of_lt h3
  have k := vals_at m c (pt4Of i) hp ⟨(i 0).val % 2, Nat.mod_lt _ (by decide)⟩ (i 1) (i 2) (i 3)
  refine (e.trans ((congrArg (outsAt0 m c (pt4Of i) hp).2.1 el).trans k)).trans (congrArg (want m c 1) ?_)
  refine Eq.trans ?_ (split i (by omega))
  funext a
  apply Fin.ext
  match a with
  | 0 =>
    show 2 * pt4Of i + (i 0).val % 2 = 2 * ((i 0).val / 2) + (i 0).val % 2
    rw [ep]
  | 1 | 2 | 3 => rfl

end Cert.MemoryIdeal.Layer

end
-- ==== Proof.Memory.Ref.lean ====
/- The reference's keys and values of the memory, entry by entry: the same mathematics. -/
module

public import proofs.«01_k».proof.Proof.Memory.Whole
public import proofs.«01_k».proof.Proof.Gen.MemoryReferenceIdeal.Read

@[expose] public section

noncomputable section

namespace Cert.MemoryReferenceIdeal.Layer

open Idealize.ShloMosaic Idealize.ShloMosaic.Pointwise
open Cert.MemoryReferenceIdeal Cert.MemoryReferenceIdeal.Gen Cert.MemoryReferenceIdeal.Read
open Cert.MemoryIdeal.Layer (entry memOf)

variable (x0 : (⟨S4x256x2048, .f32⟩ : BufTy).Contents (Elt Ideal)) (x1 : (⟨S1x2048, .f32⟩ : BufTy).Contents (Elt Ideal))
  (x2 : (⟨S1x2048x1024, .f32⟩ : BufTy).Contents (Elt Ideal))

/-- The reciprocal root of a row's mean square plus the small constant. -/
theorem inv_at (b : Fin 4) (r : Fin 256) (z : Fin 1) :
    (val_main_v8 (F := Ideal) x0 (ix3 b r z) : EReal)
      = Ideal.rsqrt (Ideal.div (∑ e : Fin 2048, x0 (ix3 b r e) * x0 (ix3 b r e)) (Ideal.ofBits .f32 0x45000000#32) + Ideal.ofBits .f32 0x358637BD#32) := by
  have e3 : (val_main_v3 (F := Ideal) x0 (ix3 b r z) : EReal) = ∑ e : Fin 2048, x0 (ix3 b r e) * x0 (ix3 b r e) := by
    have hi : ∀ k, idx_main_v2 (idx_main_v3 (ix3 b r z)) k = ix3 b r k := fun k => by
      funext a; match a with | 0 | 1 | 2 => rfl
    rw [val_main_v3_apply, val_main_v2_apply]
    simp only [hi, val_main_v1_apply]
    exact (congrArg (· + _) (show (Ideal.ofBits .f32 0x00000000#32 : EReal) = 0 by simp)).trans (zero_add _)
  rw [val_main_v8_apply, val_main_v7_apply, val_main_v5_apply, val_main_v4_apply, val_main_v6_apply, e3]
  rfl

/-- A normalised row. -/
theorem row_at (b : Fin 4) (r : Fin 256) (d : Fin 2048) :
    (val_main_v13 (F := Ideal) x0 x1 (ix3 b r d) : EReal)
      = x0 (ix3 b r d) * Ideal.rsqrt (Ideal.div (∑ e : Fin 2048, x0 (ix3 b r e) * x0 (ix3 b r e)) (Ideal.ofBits .f32 0x45000000#32) + Ideal.ofBits .f32 0x358637BD#32)
        * x1 (ix2 0 d) := by
  have h9 : idx_main_v9 (ix3 b r d) = ix3 b r 0 := by
    funext a; match a with | 0 | 1 | 2 => rfl
  have h0 : idx_main_v0 (idx_main_v11 (idx_main_v12 (ix3 b r d))) = ix2 0 d := by
    funext a
    apply Fin.ext
    match a with
    | 0 => rfl
    | 1 => exact Nat.mod_eq_of_lt d.isLt
  rw [val_main_v13_apply, val_main_v10_apply, val_main_v9_apply, val_main_v12_apply, val_main_v11_apply, val_main_v0_apply, h9, h0, inv_at]
  rfl

theorem proj_at (b : Fin 4) (r : Fin 256) (n : Fin 1024) :
    (val_main_v15 (F := Ideal) x0 x1 x2 (ix3 b r n) : EReal)
      = entry (fun d => x0 (ix3 b r d)) (fun d => x1 (ix2 0 d)) (fun d => x2 (ix3 0 d n)) := by
  rw [val_main_v15_apply]
  unfold entry
  refine Finset.sum_congr rfl fun k _ => ?_
  have hl : lidx_main_v15 (ix3 b r n) k = ix3 b r k := by
    funext a; match a with | 0 | 1 | 2 => rfl
  have hr : idx_main_v14 (ridx_main_v15 (ix3 b r n) k) = ix3 0 k n := by
    have hk := k.isLt
    have hn := n.isLt
    funext a
    apply Fin.ext
    match a with
    | 0 => rfl
    | 1 => show (k.val * 1024 + n.val) / 1024 % 2048 = k.val; omega
    | 2 => show (k.val * 1024 + n.val) % 1024 = n.val; omega
  rw [val_main_v14_apply, hl, hr, row_at]

theorem keys_ref (i : S4x256x4x128.Idx) : (val_main_v18 (F := Ideal) x0 x1 x2 i : EReal) = memOf x0 x1 x2 0 i := by
  have h0 : (i 0).val < 4 := (i 0).isLt
  have h1 : (i 1).val < 256 := (i 1).isLt
  have h2 : (i 2).val < 4 := (i 2).isLt
  have h3 : (i 3).val < 128 := (i 3).isLt
  have hi : idx_main_v16 (idx_main_v18 i) = ix3 (n0 := 4) (n1 := 256) (n2 := 1024) (i 0) (i 1) ⟨512 * (0 : Fin 2).val + (128 * (i 2).val + (i 3).val), by show 512 * 0 + _ < _; omega⟩ := by
    funext a
    apply Fin.ext
    match a with
    | 0 => show ((((i 0).val * 256 + (i 1).val) * 4 + (i 2).val) * 128 + (i 3).val) / 131072 = (i 0).val; omega
    | 1 => show ((((i 0).val * 256 + (i 1).val) * 4 + (i 2).val) * 128 + (i 3).val) / 512 % 256 = (i 1).val; omega
    | 2 => show ((((i 0).val * 256 + (i 1).val) * 4 + (i 2).val) * 128 + (i 3).val) % 512 = 512 * 0 + (128 * (i 2).val + (i 3).val); omega
  rw [val_main_v18_apply, val_main_v16_apply]
  exact (congrArg _ hi).trans (proj_at x0 x1 x2 _ _ _)

theorem vals_ref (i : S4x256x4x128.Idx) : (val_main_v19 (F := Ideal) x0 x1 x2 i : EReal) = memOf x0 x1 x2 1 i := by
  have h0 : (i 0).val < 4 := (i 0).isLt
  have h1 : (i 1).val < 256 := (i 1).isLt
  have h2 : (i 2).val < 4 := (i 2).isLt
  have h3 : (i 3).val < 128 := (i 3).isLt
  have hi : idx_main_v17 (idx_main_v19 i) = ix3 (n0 := 4) (n1 := 256) (n2 := 1024) (i 0) (i 1) ⟨512 * (1 : Fin 2).val + (128 * (i 2).val + (i 3).val), by show 512 * 1 + _ < _; omega⟩ := by
    funext a
    apply Fin.ext
    match a with
    | 0 => show ((((i 0).val * 256 + (i 1).val) * 4 + (i 2).val) * 128 + (i 3).val) / 131072 = (i 0).val; omega
    | 1 => show ((((i 0).val * 256 + (i 1).val) * 4 + (i 2).val) * 128 + (i 3).val) / 512 % 256 = (i 1).val; omega
    | 2 => show 512 + ((((i 0).val * 256 + (i 1).val) * 4 + (i 2).val) * 128 + (i 3).val) % 512 = 512 * 1 + (128 * (i 2).val + (i 3).val); omega
  rw [val_main_v19_apply, val_main_v17_apply]
  exact (congrArg _ hi).trans (proj_at x0 x1 x2 _ _ _)

end Cert.MemoryReferenceIdeal.Layer

end
-- ==== Proof.lean ====
/- The certificate of the layer's prompt call and memory call: the launch facts of the programs, their frames, and the values: a kernel and
   its reference leave the same arrays, each being the mathematics of the arguments. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.ReferenceIdeal.Read
public import proofs.«01_k».proof.Proof.Layer.Value
public import proofs.«01_k».proof.Proof.Layer.KernelFrame
public import proofs.«01_k».proof.Proof.Math.Whole
public import proofs.«01_k».proof.Proof.Math.Pre
public import proofs.«01_k».proof.Proof.Math.RefMix
public import proofs.«01_k».proof.Proof.Gen.Memory
public import proofs.«01_k».proof.Proof.Gen.MemoryIdeal
public import proofs.«01_k».proof.Proof.Gen.MemoryReferenceIdeal
public import proofs.«01_k».proof.Proof.Gen.Memory.Frame
public import proofs.«01_k».proof.Proof.Gen.MemoryIdeal.Frame
public import proofs.«01_k».proof.Proof.Gen.MemoryIdeal.Value
public import proofs.«01_k».proof.Proof.Gen.MemoryReferenceIdeal.Run
public import proofs.«01_k».proof.Proof.Gen.MemoryReferenceIdeal.Read
public import proofs.«01_k».proof.Proof.Memory.Ref
public import Idealize.ShloMosaic.Adequacy
public import Idealize.ShloMosaic.Init
public import Idealize.ShloMosaic.Lib.Quiescent

@[expose] public section

noncomputable section

namespace Cert.Proof

open Idealize.ShloMosaic Idealize.SL.Sem

/-- The kernel's frame at extended reals. -/
theorem frame_ideal : Cert.quiescent_KernelIdeal (hKernelIdeal := Cert.KernelIdeal.Gen.facts) := fun m ρ _ =>
  Cert.KernelIdeal.Layer.frame (F := Ideal) m ρ

/-- The reference's frame: its run keeps the arguments, and a program without semaphores leaves none counting. -/
theorem frame_ref : Cert.quiescent_ReferenceIdeal (hReferenceIdeal := Cert.ReferenceIdeal.Gen.facts) := fun m ρ _ =>
  (θ_run Cert.ReferenceIdeal.defs _ _).mono
    (fun _ h => ⟨fun c => (h c).2.2, sem_eq_zero_of_no_sems (by decide) _⟩)
    (Cert.ReferenceIdeal.Value.run m ρ)

open Cert.Spec (Args Reads)
open Cert.KernelIdeal.Layer (args args_reads args_real preFacts whole_mix whole_state G16 G17)

/-- The reference's first result, over arrays that read as real mathematics. -/
theorem ref_mix {A : Args} (hA : A.Real) (m : (ℓ : Loc Cert.ReferenceIdeal.nD Cert.ReferenceIdeal.τ Cert.ReferenceIdeal.sig) → Buf (Elt Ideal) ℓ)
    (c : Dev Cert.ReferenceIdeal.nD)
    (R : Reads A (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)))
    (i : Cert.ReferenceIdeal.S4x4096x2048.Idx) :
    (truncf .bf16 (Cert.ReferenceIdeal.Value.res_main_v243 (StableHlo.launchContents m c)) Cert.ReferenceIdeal.Gen.bitsLt_bf16_f32 i : EReal)
      = A.mix (i 0).val (i 1).val (i 2).val :=
  (congrFun (Cert.ReferenceIdeal.Read.val_main_v244_eq (StableHlo.launchContents m c)) i).trans
    (Cert.ReferenceIdeal.Layer.mix_ref R hA i)

/-- The kernel and the reference leave equal arrays, from memories that agree on the arguments. -/
theorem same : Cert.algebraic_KernelIdeal_ReferenceIdeal_pre_finite (hKernelIdeal := Cert.KernelIdeal.Gen.facts)
    (hReferenceIdeal := Cert.ReferenceIdeal.Gen.facts) (hPre_finite := preFacts) := by
  intro m g m' g' hp he
  refine ⟨G16 m, G17 m, Cert.KernelIdeal.Layer.run m g, ?_⟩
  refine (θ_run Cert.ReferenceIdeal.defs _ _).mono (fun r h c => ?_) (Cert.ReferenceIdeal.Value.run m' g')
  obtain ⟨h0, h1, hk⟩ := h c
  obtain ⟨e0, e1, e2, e3, e4, e5, e6, e7, e8, e9⟩ := he c
  have hA := args_real m c hp
  have R := args_reads m c
  rw [← e0, ← e1, ← e2, ← e3, ← e4, ← e5, ← e6, ← e7, ← e8] at R
  refine ⟨h0.trans (funext fun i => ?_), h1.trans (funext fun i => ?_), hk⟩
  · exact (ref_mix hA m' c R i).trans (whole_mix m c hA i).symm
  · exact ((congrFun (Cert.ReferenceIdeal.Read.val_main_v164_eq (StableHlo.launchContents m' c)) i).trans
      (Cert.ReferenceIdeal.Layer.s_ref R hA i)).trans (whole_state m c hA i).symm

/-! ## The memory call -/

theorem frame_memory_ref : Cert.quiescent_MemoryReferenceIdeal (hMemoryReferenceIdeal := Cert.MemoryReferenceIdeal.Gen.facts) := fun m ρ _ =>
  (θ_run Cert.MemoryReferenceIdeal.defs _ _).mono
    (fun _ h => ⟨fun c => (h c).2.2, sem_eq_zero_of_no_sems (by decide) _⟩)
    (Cert.MemoryReferenceIdeal.Value.run m ρ)

open Cert.MemoryIdeal.Layer (whole_keys whole_vals)

/-- The memory call and its reference leave equal arrays, from memories that agree on the arguments. -/
theorem same_memory : Cert.algebraic_MemoryIdeal_MemoryReferenceIdeal (hMemoryIdeal := Cert.MemoryIdeal.Gen.facts)
    (hMemoryReferenceIdeal := Cert.MemoryReferenceIdeal.Gen.facts) := by
  intro m g m' g' hp he
  refine ⟨Cert.MemoryIdeal.Value.G3 m, Cert.MemoryIdeal.Value.G4 m, ?_, ?_⟩
  · refine (θ_run Cert.MemoryIdeal.defs _ _).mono (fun r h c => ?_) (Cert.MemoryIdeal.Value.run m g)
    obtain ⟨h0, h1, -, -, hk⟩ := h c
    exact ⟨h0, h1, hk⟩
  · refine (θ_run Cert.MemoryReferenceIdeal.defs _ _).mono (fun r h c => ?_) (Cert.MemoryReferenceIdeal.Value.run m' g')
    obtain ⟨h0, h1, hk⟩ := h c
    obtain ⟨e0, e1, e2⟩ := he c
    refine ⟨h0.trans (funext fun i => ?_), h1.trans (funext fun i => ?_), hk⟩
    · refine ((congrFun (Cert.MemoryReferenceIdeal.Read.val_main_v18_eq _ _ _) i).trans (Cert.MemoryReferenceIdeal.Layer.keys_ref _ _ _ i)).trans (Eq.trans ?_ (whole_keys m c i).symm)
      rw [e0, e1, e2]
    · refine ((congrFun (Cert.MemoryReferenceIdeal.Read.val_main_v19_eq _ _ _) i).trans (Cert.MemoryReferenceIdeal.Layer.vals_ref _ _ _ i)).trans (Eq.trans ?_ (whole_vals m c i).symm)
      rw [e0, e1, e2]

/-- Everything claimed. -/
theorem claim : Cert.Claim :=
  ⟨Cert.Kernel.Gen.facts, Cert.KernelIdeal.Gen.facts, Cert.ReferenceIdeal.Gen.facts, Cert.Memory.Gen.facts, Cert.MemoryIdeal.Gen.facts,
    Cert.MemoryReferenceIdeal.Gen.facts, preFacts,
    frame_kernel, frame_ideal, fun m ρ _ => frame_ideal m ρ trivial, frame_ref, fun m ρ _ => frame_ref m ρ trivial,
    fun m ρ _ => Cert.Memory.Gen.frame m ρ, fun m ρ _ => Cert.MemoryIdeal.Gen.frame m ρ, frame_memory_ref,
    trivial, same, trivial, same_memory⟩

end Cert.Proof

end
